-- ==== Defs.lean ====
def Pre_Kernel [hPre_label_range : Cert.Pre_label_range.Facts] (m : (ℓ : Loc Cert.Kernel.nD Cert.Kernel.τ Cert.Kernel.sig) → Buf (Elt Bits) ℓ) : Prop :=
  ∀ c : Dev Cert.Kernel.nD,
    (Cert.Pre_label_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_label_range : Cert.Pre_label_range.Facts] (m : (ℓ : Loc Cert.KernelIdeal.nD Cert.KernelIdeal.τ Cert.KernelIdeal.sig) → Buf (Elt Ideal) ℓ) : Prop :=
  ∀ c : Dev Cert.KernelIdeal.nD,
    (Cert.Pre_label_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_cosines [hPre_cosines : Cert.Pre_cosines.Facts] (m : (ℓ : Loc Cert.KernelIdeal.nD Cert.KernelIdeal.τ Cert.KernelIdeal.sig) → Buf (Elt Ideal) ℓ) : Prop :=
  ∀ c : Dev Cert.KernelIdeal.nD,
    (Cert.Pre_cosines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cosines [hPre_cosines : Cert.Pre_cosines.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cosines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_label_range : Cert.Pre_label_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_label_range : Cert.Pre_label_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_cosines [hKernelIdeal : Cert.KernelIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosines m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_cosines [hReferenceIdeal : Cert.ReferenceIdeal.Facts] [hPre_cosines : Cert.Pre_cosines.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cosines m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_cosines [hKernelIdeal : Cert.KernelIdeal.Facts] [hReferenceIdeal : Cert.ReferenceIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cosines m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_label_range : Cert.Pre_label_range.Facts) (hPre_cosines : Cert.Pre_cosines.Facts),
    quiescent_Kernel (hKernel := hKernel) (hPre_label_range := hPre_label_range)
    ∧ quiescent_KernelIdeal (hKernelIdeal := hKernelIdeal) (hPre_label_range := hPre_label_range)
    ∧ quiescent_KernelIdeal_pre_cosines (hKernelIdeal := hKernelIdeal) (hPre_cosines := hPre_cosines)
    ∧ quiescent_ReferenceIdeal (hReferenceIdeal := hReferenceIdeal)
    ∧ quiescent_ReferenceIdeal_pre_cosines (hReferenceIdeal := hReferenceIdeal) (hPre_cosines := hPre_cosines)
    ∧ preserves_Kernel_KernelIdeal
    ∧ algebraic_KernelIdeal_ReferenceIdeal_pre_cosines (hKernelIdeal := hKernelIdeal) (hReferenceIdeal := hReferenceIdeal) (hPre_cosines := hPre_cosines)
-- ==== Pre_cosines.lean ====
abbrev S1024x100000 : Shape := ⟨2, ![1024, 100000]⟩
abbrev S1024x1 : Shape := ⟨2, ![1024, 1]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : FVec F S1024x1 .f32) (main_arg2 : IVec S1024 32) : IVec S_ 1 :=
  let main_c : IVec S_ 32 := constantI S_ 32 4294967295#32
  let main_v0 : IVec S1024 32 := broadcastInDim S1024 ![] bcast_S_S1024 main_c
  let main_v1 : IVec S1024 1 := cmpi .sge main_arg2 main_v0
  let main_c_0 : IVec S_ 32 := constantI S_ 32 100000#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_cst : FVec F S_ .f32 := constant S_ .f32 0x3F800000#32
  let main_v6 : FVec F S1024x100000 .f32 := broadcastInDim S1024x100000 ![] bcast_S_S1024x100000 main_cst
  let main_v7 : IVec S1024x100000 1 := cmpf .ole main_arg0 main_v6
  let main_c_2 : IVec S_ 1 := constantI S_ 1 1#1
  let main_v8 : IVec S_ 1 := (fun x v => Host.reduce IntOp.andi x v reducesTo_S1024x100000_S_d0_1 h_S_) main_v7 main_c_2
  let main_v9 : IVec S_ 1 := andi main_v5 main_v8
  main_v9
-- ==== Pre_label_range.lean ====
abbrev S1024x100000 : Shape := ⟨2, ![1024, 100000]⟩
abbrev S1024x1 : Shape := ⟨2, ![1024, 1]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : FVec F S1024x1 .f32) (main_arg2 : IVec S1024 32) : IVec S_ 1 :=
  let main_c : IVec S_ 32 := constantI S_ 32 4294967295#32
  let main_v0 : IVec S1024 32 := broadcastInDim S1024 ![] bcast_S_S1024 main_c
  let main_v1 : IVec S1024 1 := cmpi .sge main_arg2 main_v0
  let main_c_0 : IVec S_ 32 := constantI S_ 32 100000#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024x1 : Shape := ⟨2, ![1024, 1]⟩
abbrev S1024 : Shape := ⟨1, ![1024]⟩
abbrev S32 : Shape := ⟨1, ![32]⟩
abbrev S8x4096 : Shape := ⟨2, ![8, 4096]⟩
abbrev S_ : Shape := ⟨0, ![]⟩
abbrev S16 : Shape := ⟨1, ![16]⟩
abbrev S1 : Shape := ⟨1, ![1]⟩
abbrev S8x128 : Shape := ⟨2, ![8, 128]⟩
abbrev S1x16 : Shape := ⟨2, ![1, 16]⟩
abbrev S16x100000 : Shape := ⟨2, ![16, 100000]⟩
abbrev S16x1 : Shape := ⟨2, ![16, 1]⟩
abbrev S16x32 : Shape := ⟨2, ![16, 32]⟩

abbrev nBuf : Table → Nat
  | .hbm => 7
  | .local .tc .vmem => 8
  | .local .scVector .vmem => 3
  | _ => 0

abbrev bufTy : (tb : Table) → Fin (nBuf tb) → BufTy
  | .hbm, ⟨0, _⟩ => ⟨S1024x100000, .f32⟩
  | .hbm, ⟨1, _⟩ => ⟨S1024x1, .f32⟩
  | .hbm, ⟨2, _⟩ => ⟨S1024, .i32⟩
  | .hbm, ⟨3, _⟩ => ⟨S1024, .f32⟩
  | .hbm, ⟨4, _⟩ => ⟨S1024x1, .i32⟩
  | .hbm, ⟨5, _⟩ => ⟨S1024x1, .f32⟩
  | .hbm, ⟨6, _⟩ => ⟨S1024x100000, .f32⟩
  | .local .tc .vmem, ⟨0, _⟩ => ⟨S16x100000, .f32⟩
  | .local .tc .vmem, ⟨1, _⟩ => ⟨S16x100000, .f32⟩
  | .local .tc .vmem, ⟨2, _⟩ => ⟨S16x1, .i32⟩
  | .local .tc .vmem, ⟨3, _⟩ => ⟨S16x1, .i32⟩
  | .local .tc .vmem, ⟨4, _⟩ => ⟨S16x1, .f32⟩
  | .local .tc .vmem, ⟨5, _⟩ => ⟨S16x1, .f32⟩
  | .local .tc .vmem, ⟨6, _⟩ => ⟨S16x100000, .f32⟩
  | .local .tc .vmem, ⟨7, _⟩ => ⟨S16x100000, .f32⟩
  | .local .scVector .vmem, ⟨0, _⟩ => ⟨S32, .i32⟩
  | .local .scVector .vmem, ⟨1, _⟩ => ⟨S8x4096, .f32⟩
  | .local .scVector .vmem, ⟨2, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  v2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![v3.toNat]
def k0_mult2 (v7 : BitVec 32) : BitVec 32 :=
  let c_m1_i32 : BitVec 32 := 4294967295#32
  let v8 : BitVec 1 := Scalar.cmpi .ne v7 c_m1_i32
  let c0_i32 : BitVec 32 := 0#32
  let v9 : BitVec 32 := Scalar.select v8 v7 c0_i32
  let c0_i32_0 : BitVec 32 := 0#32
  let v11 : BitVec 1 := Scalar.cmpi .sgt v9 c0_i32_0
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c128_i32 : BitVec 32 := 128#32
  let c0_i32_2 : BitVec 32 := 0#32
  let v16 : BitVec 1 := Scalar.cmpi .sgt c128_i32 c0_i32_2
  let v17 : BitVec 32 := Scalar.extui v16
  let c0_i32_3 : BitVec 32 := 0#32
  let v18 : BitVec 1 := Scalar.cmpi .slt c128_i32 c0_i32_3
  let v19 : BitVec 32 := Scalar.extui v18
  let v20 : BitVec 32 := Scalar.subi v17 v19
  let v21 : BitVec 1 := Scalar.cmpi .ne v15 v20
  let v22 : BitVec 32 := Scalar.remsi v9 c128_i32
  let c0_i32_4 : BitVec 32 := 0#32
  let v23 : BitVec 1 := Scalar.cmpi .ne v22 c0_i32_4
  let v24 : BitVec 1 := Scalar.andi v21 v23
  let v10 : BitVec 32 := Scalar.divsi v9 c128_i32
  let c1_i32 : BitVec 32 := 1#32
  let v25 : BitVec 32 := Scalar.subi v10 c1_i32
  let v26 : BitVec 32 := Scalar.select v24 v25 v10
  let c128_i32_5 : BitVec 32 := 128#32
  let v27 : BitVec 32 := Scalar.muli v26 c128_i32_5
  let c99840_i32 : BitVec 32 := 99840#32
  let v28 : BitVec 32 := Scalar.minsi v27 c99840_i32
  v28

def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_6 : BitVec 32 := 0#32
  let v30 : BitVec 32 := Scalar.addi v3 c0_i32_6
  v30
def k0_off2 (i : grid0.Coords) (v7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_6 : BitVec 32 := 0#32
  let v30 : BitVec 32 := Scalar.addi v3 c0_i32_6
  let v31 : BitVec 32 := v30
  let c_m1_i32 : BitVec 32 := 4294967295#32
  let v8 : BitVec 1 := Scalar.cmpi .ne v7 c_m1_i32
  let c0_i32 : BitVec 32 := 0#32
  let v9 : BitVec 32 := Scalar.select v8 v7 c0_i32
  let c0_i32_0 : BitVec 32 := 0#32
  let v11 : BitVec 1 := Scalar.cmpi .sgt v9 c0_i32_0
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c128_i32 : BitVec 32 := 128#32
  let c0_i32_2 : BitVec 32 := 0#32
  let v16 : BitVec 1 := Scalar.cmpi .sgt c128_i32 c0_i32_2
  let v17 : BitVec 32 := Scalar.extui v16
  let c0_i32_3 : BitVec 32 := 0#32
  let v18 : BitVec 1 := Scalar.cmpi .slt c128_i32 c0_i32_3
  let v19 : BitVec 32 := Scalar.extui v18
  let v20 : BitVec 32 := Scalar.subi v17 v19
  let v21 : BitVec 1 := Scalar.cmpi .ne v15 v20
  let v22 : BitVec 32 := Scalar.remsi v9 c128_i32
  let c0_i32_4 : BitVec 32 := 0#32
  let v23 : BitVec 1 := Scalar.cmpi .ne v22 c0_i32_4
  let v24 : BitVec 1 := Scalar.andi v21 v23
  let v10 : BitVec 32 := Scalar.divsi v9 c128_i32
  let c1_i32 : BitVec 32 := 1#32
  let v25 : BitVec 32 := Scalar.subi v10 c1_i32
  let v26 : BitVec 32 := Scalar.select v24 v25 v10
  let c128_i32_5 : BitVec 32 := 128#32
  let v27 : BitVec 32 := Scalar.muli v26 c128_i32_5
  let c99840_i32 : BitVec 32 := 99840#32
  let v28 : BitVec 32 := Scalar.minsi v27 c99840_i32
  let v29 : BitVec 32 := v28
  ![v31.toNat, v29.toNat]
def k0_mult4 (v37 : BitVec 32) : BitVec 32 :=
  let c_m1_i32_11 : BitVec 32 := 4294967295#32
  let v38 : BitVec 1 := Scalar.cmpi .ne v37 c_m1_i32_11
  let c0_i32_12 : BitVec 32 := 0#32
  let v39 : BitVec 32 := Scalar.select v38 v37 c0_i32_12
  let c0_i32_14 : BitVec 32 := 0#32
  let v41 : BitVec 1 := Scalar.cmpi .sgt v39 c0_i32_14
  let v42 : BitVec 32 := Scalar.extui v41
  let c0_i32_15 : BitVec 32 := 0#32
  let v43 : BitVec 1 := Scalar.cmpi .slt v39 c0_i32_15
  let v44 : BitVec 32 := Scalar.extui v43
  let v45 : BitVec 32 := Scalar.subi v42 v44
  let c128_i32_13 : BitVec 32 := 128#32
  let c0_i32_16 : BitVec 32 := 0#32
  let v46 : BitVec 1 := Scalar.cmpi .sgt c128_i32_13 c0_i32_16
  let v47 : BitVec 32 := Scalar.extui v46
  let c0_i32_17 : BitVec 32 := 0#32
  let v48 : BitVec 1 := Scalar.cmpi .slt c128_i32_13 c0_i32_17
  let v49 : BitVec 32 := Scalar.extui v48
  let v50 : BitVec 32 := Scalar.subi v47 v49
  let v51 : BitVec 1 := Scalar.cmpi .ne v45 v50
  let v52 : BitVec 32 := Scalar.remsi v39 c128_i32_13
  let c0_i32_18 : BitVec 32 := 0#32
  let v53 : BitVec 1 := Scalar.cmpi .ne v52 c0_i32_18
  let v54 : BitVec 1 := Scalar.andi v51 v53
  let v40 : BitVec 32 := Scalar.divsi v39 c128_i32_13
  let c1_i32_19 : BitVec 32 := 1#32
  let v55 : BitVec 32 := Scalar.subi v40 c1_i32_19
  let v56 : BitVec 32 := Scalar.select v54 v55 v40
  let c128_i32_20 : BitVec 32 := 128#32
  let v57 : BitVec 32 := Scalar.muli v56 c128_i32_20
  let c99840_i32_21 : BitVec 32 := 99840#32
  let v58 : BitVec 32 := Scalar.minsi v57 c99840_i32_21
  v58

def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_22 : BitVec 32 := 0#32
  let v60 : BitVec 32 := Scalar.addi v3 c0_i32_22
  v60
def k0_off3 (i : grid0.Coords) (v37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_22 : BitVec 32 := 0#32
  let v60 : BitVec 32 := Scalar.addi v3 c0_i32_22
  let v61 : BitVec 32 := v60
  let c_m1_i32_11 : BitVec 32 := 4294967295#32
  let v38 : BitVec 1 := Scalar.cmpi .ne v37 c_m1_i32_11
  let c0_i32_12 : BitVec 32 := 0#32
  let v39 : BitVec 32 := Scalar.select v38 v37 c0_i32_12
  let c0_i32_14 : BitVec 32 := 0#32
  let v41 : BitVec 1 := Scalar.cmpi .sgt v39 c0_i32_14
  let v42 : BitVec 32 := Scalar.extui v41
  let c0_i32_15 : BitVec 32 := 0#32
  let v43 : BitVec 1 := Scalar.cmpi .slt v39 c0_i32_15
  let v44 : BitVec 32 := Scalar.extui v43
  let v45 : BitVec 32 := Scalar.subi v42 v44
  let c128_i32_13 : BitVec 32 := 128#32
  let c0_i32_16 : BitVec 32 := 0#32
  let v46 : BitVec 1 := Scalar.cmpi .sgt c128_i32_13 c0_i32_16
  let v47 : BitVec 32 := Scalar.extui v46
  let c0_i32_17 : BitVec 32 := 0#32
  let v48 : BitVec 1 := Scalar.cmpi .slt c128_i32_13 c0_i32_17
  let v49 : BitVec 32 := Scalar.extui v48
  let v50 : BitVec 32 := Scalar.subi v47 v49
  let v51 : BitVec 1 := Scalar.cmpi .ne v45 v50
  let v52 : BitVec 32 := Scalar.remsi v39 c128_i32_13
  let c0_i32_18 : BitVec 32 := 0#32
  let v53 : BitVec 1 := Scalar.cmpi .ne v52 c0_i32_18
  let v54 : BitVec 1 := Scalar.andi v51 v53
  let v40 : BitVec 32 := Scalar.divsi v39 c128_i32_13
  let c1_i32_19 : BitVec 32 := 1#32
  let v55 : BitVec 32 := Scalar.subi v40 c1_i32_19
  let v56 : BitVec 32 := Scalar.select v54 v55 v40
  let c128_i32_20 : BitVec 32 := 128#32
  let v57 : BitVec 32 := Scalar.muli v56 c128_i32_20
  let c99840_i32_21 : BitVec 32 := 99840#32
  let v58 : BitVec 32 := Scalar.minsi v57 c99840_i32_21
  let v59 : BitVec 32 := v58
  ![v61.toNat, v59.toNat]
def k0_mult6 (v67 : BitVec 32) : BitVec 32 :=
  let c_m1_i32_27 : BitVec 32 := 4294967295#32
  let v68 : BitVec 1 := Scalar.cmpi .ne v67 c_m1_i32_27
  let c0_i32_28 : BitVec 32 := 0#32
  let v69 : BitVec 32 := Scalar.select v68 v67 c0_i32_28
  let c0_i32_30 : BitVec 32 := 0#32
  let v71 : BitVec 1 := Scalar.cmpi .sgt v69 c0_i32_30
  let v72 : BitVec 32 := Scalar.extui v71
  let c0_i32_31 : BitVec 32 := 0#32
  let v73 : BitVec 1 := Scalar.cmpi .slt v69 c0_i32_31
  let v74 : BitVec 32 := Scalar.extui v73
  let v75 : BitVec 32 := Scalar.subi v72 v74
  let c128_i32_29 : BitVec 32 := 128#32
  let c0_i32_32 : BitVec 32 := 0#32
  let v76 : BitVec 1 := Scalar.cmpi .sgt c128_i32_29 c0_i32_32
  let v77 : BitVec 32 := Scalar.extui v76
  let c0_i32_33 : BitVec 32 := 0#32
  let v78 : BitVec 1 := Scalar.cmpi .slt c128_i32_29 c0_i32_33
  let v79 : BitVec 32 := Scalar.extui v78
  let v80 : BitVec 32 := Scalar.subi v77 v79
  let v81 : BitVec 1 := Scalar.cmpi .ne v75 v80
  let v82 : BitVec 32 := Scalar.remsi v69 c128_i32_29
  let c0_i32_34 : BitVec 32 := 0#32
  let v83 : BitVec 1 := Scalar.cmpi .ne v82 c0_i32_34
  let v84 : BitVec 1 := Scalar.andi v81 v83
  let v70 : BitVec 32 := Scalar.divsi v69 c128_i32_29
  let c1_i32_35 : BitVec 32 := 1#32
  let v85 : BitVec 32 := Scalar.subi v70 c1_i32_35
  let v86 : BitVec 32 := Scalar.select v84 v85 v70
  let c128_i32_36 : BitVec 32 := 128#32
  let v87 : BitVec 32 := Scalar.muli v86 c128_i32_36
  let c99840_i32_37 : BitVec 32 := 99840#32
  let v88 : BitVec 32 := Scalar.minsi v87 c99840_i32_37
  v88

def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_38 : BitVec 32 := 0#32
  let v90 : BitVec 32 := Scalar.addi v3 c0_i32_38
  v90
def k0_off4 (i : grid0.Coords) (v67 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_38 : BitVec 32 := 0#32
  let v90 : BitVec 32 := Scalar.addi v3 c0_i32_38
  let v91 : BitVec 32 := v90
  let c_m1_i32_27 : BitVec 32 := 4294967295#32
  let v68 : BitVec 1 := Scalar.cmpi .ne v67 c_m1_i32_27
  let c0_i32_28 : BitVec 32 := 0#32
  let v69 : BitVec 32 := Scalar.select v68 v67 c0_i32_28
  let c0_i32_30 : BitVec 32 := 0#32
  let v71 : BitVec 1 := Scalar.cmpi .sgt v69 c0_i32_30
  let v72 : BitVec 32 := Scalar.extui v71
  let c0_i32_31 : BitVec 32 := 0#32
  let v73 : BitVec 1 := Scalar.cmpi .slt v69 c0_i32_31
  let v74 : BitVec 32 := Scalar.extui v73
  let v75 : BitVec 32 := Scalar.subi v72 v74
  let c128_i32_29 : BitVec 32 := 128#32
  let c0_i32_32 : BitVec 32 := 0#32
  let v76 : BitVec 1 := Scalar.cmpi .sgt c128_i32_29 c0_i32_32
  let v77 : BitVec 32 := Scalar.extui v76
  let c0_i32_33 : BitVec 32 := 0#32
  let v78 : BitVec 1 := Scalar.cmpi .slt c128_i32_29 c0_i32_33
  let v79 : BitVec 32 := Scalar.extui v78
  let v80 : BitVec 32 := Scalar.subi v77 v79
  let v81 : BitVec 1 := Scalar.cmpi .ne v75 v80
  let v82 : BitVec 32 := Scalar.remsi v69 c128_i32_29
  let c0_i32_34 : BitVec 32 := 0#32
  let v83 : BitVec 1 := Scalar.cmpi .ne v82 c0_i32_34
  let v84 : BitVec 1 := Scalar.andi v81 v83
  let v70 : BitVec 32 := Scalar.divsi v69 c128_i32_29
  let c1_i32_35 : BitVec 32 := 1#32
  let v85 : BitVec 32 := Scalar.subi v70 c1_i32_35
  let v86 : BitVec 32 := Scalar.select v84 v85 v70
  let c128_i32_36 : BitVec 32 := 128#32
  let v87 : BitVec 32 := Scalar.muli v86 c128_i32_36
  let c99840_i32_37 : BitVec 32 := 99840#32
  let v88 : BitVec 32 := Scalar.minsi v87 c99840_i32_37
  let v89 : BitVec 32 := v88
  ![v91.toNat, v89.toNat]
def k0_mult8 (v97 : BitVec 32) : BitVec 32 :=
  let c_m1_i32_42 : BitVec 32 := 4294967295#32
  let v98 : BitVec 1 := Scalar.cmpi .ne v97 c_m1_i32_42
  let c0_i32_43 : BitVec 32 := 0#32
  let v99 : BitVec 32 := Scalar.select v98 v97 c0_i32_43
  let c0_i32_45 : BitVec 32 := 0#32
  let v101 : BitVec 1 := Scalar.cmpi .sgt v99 c0_i32_45
  let v102 : BitVec 32 := Scalar.extui v101
  let c0_i32_46 : BitVec 32 := 0#32
  let v103 : BitVec 1 := Scalar.cmpi .slt v99 c0_i32_46
  let v104 : BitVec 32 := Scalar.extui v103
  let v105 : BitVec 32 := Scalar.subi v102 v104
  let c128_i32_44 : BitVec 32 := 128#32
  let c0_i32_47 : BitVec 32 := 0#32
  let v106 : BitVec 1 := Scalar.cmpi .sgt c128_i32_44 c0_i32_47
  let v107 : BitVec 32 := Scalar.extui v106
  let c0_i32_48 : BitVec 32 := 0#32
  let v108 : BitVec 1 := Scalar.cmpi .slt c128_i32_44 c0_i32_48
  let v109 : BitVec 32 := Scalar.extui v108
  let v110 : BitVec 32 := Scalar.subi v107 v109
  let v111 : BitVec 1 := Scalar.cmpi .ne v105 v110
  let v112 : BitVec 32 := Scalar.remsi v99 c128_i32_44
  let c0_i32_49 : BitVec 32 := 0#32
  let v113 : BitVec 1 := Scalar.cmpi .ne v112 c0_i32_49
  let v114 : BitVec 1 := Scalar.andi v111 v113
  let v100 : BitVec 32 := Scalar.divsi v99 c128_i32_44
  let c1_i32_50 : BitVec 32 := 1#32
  let v115 : BitVec 32 := Scalar.subi v100 c1_i32_50
  let v116 : BitVec 32 := Scalar.select v114 v115 v100
  let c128_i32_51 : BitVec 32 := 128#32
  let v117 : BitVec 32 := Scalar.muli v116 c128_i32_51
  let c99840_i32_52 : BitVec 32 := 99840#32
  let v118 : BitVec 32 := Scalar.minsi v117 c99840_i32_52
  v118

def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_53 : BitVec 32 := 0#32
  let v120 : BitVec 32 := Scalar.addi v3 c0_i32_53
  v120
def k0_off5 (i : grid0.Coords) (v97 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_53 : BitVec 32 := 0#32
  let v120 : BitVec 32 := Scalar.addi v3 c0_i32_53
  let v121 : BitVec 32 := v120
  let c_m1_i32_42 : BitVec 32 := 4294967295#32
  let v98 : BitVec 1 := Scalar.cmpi .ne v97 c_m1_i32_42
  let c0_i32_43 : BitVec 32 := 0#32
  let v99 : BitVec 32 := Scalar.select v98 v97 c0_i32_43
  let c0_i32_45 : BitVec 32 := 0#32
  let v101 : BitVec 1 := Scalar.cmpi .sgt v99 c0_i32_45
  let v102 : BitVec 32 := Scalar.extui v101
  let c0_i32_46 : BitVec 32 := 0#32
  let v103 : BitVec 1 := Scalar.cmpi .slt v99 c0_i32_46
  let v104 : BitVec 32 := Scalar.extui v103
  let v105 : BitVec 32 := Scalar.subi v102 v104
  let c128_i32_44 : BitVec 32 := 128#32
  let c0_i32_47 : BitVec 32 := 0#32
  let v106 : BitVec 1 := Scalar.cmpi .sgt c128_i32_44 c0_i32_47
  let v107 : BitVec 32 := Scalar.extui v106
  let c0_i32_48 : BitVec 32 := 0#32
  let v108 : BitVec 1 := Scalar.cmpi .slt c128_i32_44 c0_i32_48
  let v109 : BitVec 32 := Scalar.extui v108
  let v110 : BitVec 32 := Scalar.subi v107 v109
  let v111 : BitVec 1 := Scalar.cmpi .ne v105 v110
  let v112 : BitVec 32 := Scalar.remsi v99 c128_i32_44
  let c0_i32_49 : BitVec 32 := 0#32
  let v113 : BitVec 1 := Scalar.cmpi .ne v112 c0_i32_49
  let v114 : BitVec 1 := Scalar.andi v111 v113
  let v100 : BitVec 32 := Scalar.divsi v99 c128_i32_44
  let c1_i32_50 : BitVec 32 := 1#32
  let v115 : BitVec 32 := Scalar.subi v100 c1_i32_50
  let v116 : BitVec 32 := Scalar.select v114 v115 v100
  let c128_i32_51 : BitVec 32 := 128#32
  let v117 : BitVec 32 := Scalar.muli v116 c128_i32_51
  let c99840_i32_52 : BitVec 32 := 99840#32
  let v118 : BitVec 32 := Scalar.minsi v117 c99840_i32_52
  let v119 : BitVec 32 := v118
  ![v121.toNat, v119.toNat]
def k0_mult10 (v127 : BitVec 32) : BitVec 32 :=
  let c_m1_i32_57 : BitVec 32 := 4294967295#32
  let v128 : BitVec 1 := Scalar.cmpi .ne v127 c_m1_i32_57
  let c0_i32_58 : BitVec 32 := 0#32
  let v129 : BitVec 32 := Scalar.select v128 v127 c0_i32_58
  let c0_i32_60 : BitVec 32 := 0#32
  let v131 : BitVec 1 := Scalar.cmpi .sgt v129 c0_i32_60
  let v132 : BitVec 32 := Scalar.extui v131
  let c0_i32_61 : BitVec 32 := 0#32
  let v133 : BitVec 1 := Scalar.cmpi .slt v129 c0_i32_61
  let v134 : BitVec 32 := Scalar.extui v133
  let v135 : BitVec 32 := Scalar.subi v132 v134
  let c128_i32_59 : BitVec 32 := 128#32
  let c0_i32_62 : BitVec 32 := 0#32
  let v136 : BitVec 1 := Scalar.cmpi .sgt c128_i32_59 c0_i32_62
  let v137 : BitVec 32 := Scalar.extui v136
  let c0_i32_63 : BitVec 32 := 0#32
  let v138 : BitVec 1 := Scalar.cmpi .slt c128_i32_59 c0_i32_63
  let v139 : BitVec 32 := Scalar.extui v138
  let v140 : BitVec 32 := Scalar.subi v137 v139
  let v141 : BitVec 1 := Scalar.cmpi .ne v135 v140
  let v142 : BitVec 32 := Scalar.remsi v129 c128_i32_59
  let c0_i32_64 : BitVec 32 := 0#32
  let v143 : BitVec 1 := Scalar.cmpi .ne v142 c0_i32_64
  let v144 : BitVec 1 := Scalar.andi v141 v143
  let v130 : BitVec 32 := Scalar.divsi v129 c128_i32_59
  let c1_i32_65 : BitVec 32 := 1#32
  let v145 : BitVec 32 := Scalar.subi v130 c1_i32_65
  let v146 : BitVec 32 := Scalar.select v144 v145 v130
  let c128_i32_66 : BitVec 32 := 128#32
  let v147 : BitVec 32 := Scalar.muli v146 c128_i32_66
  let c99840_i32_67 : BitVec 32 := 99840#32
  let v148 : BitVec 32 := Scalar.minsi v147 c99840_i32_67
  v148

def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_68 : BitVec 32 := 0#32
  let v150 : BitVec 32 := Scalar.addi v3 c0_i32_68
  v150
def k0_off6 (i : grid0.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_68 : BitVec 32 := 0#32
  let v150 : BitVec 32 := Scalar.addi v3 c0_i32_68
  let v151 : BitVec 32 := v150
  let c_m1_i32_57 : BitVec 32 := 4294967295#32
  let v128 : BitVec 1 := Scalar.cmpi .ne v127 c_m1_i32_57
  let c0_i32_58 : BitVec 32 := 0#32
  let v129 : BitVec 32 := Scalar.select v128 v127 c0_i32_58
  let c0_i32_60 : BitVec 32 := 0#32
  let v131 : BitVec 1 := Scalar.cmpi .sgt v129 c0_i32_60
  let v132 : BitVec 32 := Scalar.extui v131
  let c0_i32_61 : BitVec 32 := 0#32
  let v133 : BitVec 1 := Scalar.cmpi .slt v129 c0_i32_61
  let v134 : BitVec 32 := Scalar.extui v133
  let v135 : BitVec 32 := Scalar.subi v132 v134
  let c128_i32_59 : BitVec 32 := 128#32
  let c0_i32_62 : BitVec 32 := 0#32
  let v136 : BitVec 1 := Scalar.cmpi .sgt c128_i32_59 c0_i32_62
  let v137 : BitVec 32 := Scalar.extui v136
  let c0_i32_63 : BitVec 32 := 0#32
  let v138 : BitVec 1 := Scalar.cmpi .slt c128_i32_59 c0_i32_63
  let v139 : BitVec 32 := Scalar.extui v138
  let v140 : BitVec 32 := Scalar.subi v137 v139
  let v141 : BitVec 1 := Scalar.cmpi .ne v135 v140
  let v142 : BitVec 32 := Scalar.remsi v129 c128_i32_59
  let c0_i32_64 : BitVec 32 := 0#32
  let v143 : BitVec 1 := Scalar.cmpi .ne v142 c0_i32_64
  let v144 : BitVec 1 := Scalar.andi v141 v143
  let v130 : BitVec 32 := Scalar.divsi v129 c128_i32_59
  let c1_i32_65 : BitVec 32 := 1#32
  let v145 : BitVec 32 := Scalar.subi v130 c1_i32_65
  let v146 : BitVec 32 := Scalar.select v144 v145 v130
  let c128_i32_66 : BitVec 32 := 128#32
  let v147 : BitVec 32 := Scalar.muli v146 c128_i32_66
  let c99840_i32_67 : BitVec 32 := 99840#32
  let v148 : BitVec 32 := Scalar.minsi v147 c99840_i32_67
  let v149 : BitVec 32 := v148
  ![v151.toNat, v149.toNat]
def k0_mult12 (v157 : BitVec 32) : BitVec 32 :=
  let c_m1_i32_72 : BitVec 32 := 4294967295#32
  let v158 : BitVec 1 := Scalar.cmpi .ne v157 c_m1_i32_72
  let c0_i32_73 : BitVec 32 := 0#32
  let v159 : BitVec 32 := Scalar.select v158 v157 c0_i32_73
  let c0_i32_75 : BitVec 32 := 0#32
  let v161 : BitVec 1 := Scalar.cmpi .sgt v159 c0_i32_75
  let v162 : BitVec 32 := Scalar.extui v161
  let c0_i32_76 : BitVec 32 := 0#32
  let v163 : BitVec 1 := Scalar.cmpi .slt v159 c0_i32_76
  let v164 : BitVec 32 := Scalar.extui v163
  let v165 : BitVec 32 := Scalar.subi v162 v164
  let c128_i32_74 : BitVec 32 := 128#32
  let c0_i32_77 : BitVec 32 := 0#32
  let v166 : BitVec 1 := Scalar.cmpi .sgt c128_i32_74 c0_i32_77
  let v167 : BitVec 32 := Scalar.extui v166
  let c0_i32_78 : BitVec 32 := 0#32
  let v168 : BitVec 1 := Scalar.cmpi .slt c128_i32_74 c0_i32_78
  let v169 : BitVec 32 := Scalar.extui v168
  let v170 : BitVec 32 := Scalar.subi v167 v169
  let v171 : BitVec 1 := Scalar.cmpi .ne v165 v170
  let v172 : BitVec 32 := Scalar.remsi v159 c128_i32_74
  let c0_i32_79 : BitVec 32 := 0#32
  let v173 : BitVec 1 := Scalar.cmpi .ne v172 c0_i32_79
  let v174 : BitVec 1 := Scalar.andi v171 v173
  let v160 : BitVec 32 := Scalar.divsi v159 c128_i32_74
  let c1_i32_80 : BitVec 32 := 1#32
  let v175 : BitVec 32 := Scalar.subi v160 c1_i32_80
  let v176 : BitVec 32 := Scalar.select v174 v175 v160
  let c128_i32_81 : BitVec 32 := 128#32
  let v177 : BitVec 32 := Scalar.muli v176 c128_i32_81
  let c99840_i32_82 : BitVec 32 := 99840#32
  let v178 : BitVec 32 := Scalar.minsi v177 c99840_i32_82
  v178

def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_83 : BitVec 32 := 0#32
  let v180 : BitVec 32 := Scalar.addi v3 c0_i32_83
  v180
def k0_off7 (i : grid0.Coords) (v157 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_83 : BitVec 32 := 0#32
  let v180 : BitVec 32 := Scalar.addi v3 c0_i32_83
  let v181 : BitVec 32 := v180
  let c_m1_i32_72 : BitVec 32 := 4294967295#32
  let v158 : BitVec 1 := Scalar.cmpi .ne v157 c_m1_i32_72
  let c0_i32_73 : BitVec 32 := 0#32
  let v159 : BitVec 32 := Scalar.select v158 v157 c0_i32_73
  let c0_i32_75 : BitVec 32 := 0#32
  let v161 : BitVec 1 := Scalar.cmpi .sgt v159 c0_i32_75
  let v162 : BitVec 32 := Scalar.extui v161
  let c0_i32_76 : BitVec 32 := 0#32
  let v163 : BitVec 1 := Scalar.cmpi .slt v159 c0_i32_76
  let v164 : BitVec 32 := Scalar.extui v163
  let v165 : BitVec 32 := Scalar.subi v162 v164
  let c128_i32_74 : BitVec 32 := 128#32
  let c0_i32_77 : BitVec 32 := 0#32
  let v166 : BitVec 1 := Scalar.cmpi .sgt c128_i32_74 c0_i32_77
  let v167 : BitVec 32 := Scalar.extui v166
  let c0_i32_78 : BitVec 32 := 0#32
  let v168 : BitVec 1 := Scalar.cmpi .slt c128_i32_74 c0_i32_78
  let v169 : BitVec 32 := Scalar.extui v168
  let v170 : BitVec 32 := Scalar.subi v167 v169
  let v171 : BitVec 1 := Scalar.cmpi .ne v165 v170
  let v172 : BitVec 32 := Scalar.remsi v159 c128_i32_74
  let c0_i32_79 : BitVec 32 := 0#32
  let v173 : BitVec 1 := Scalar.cmpi .ne v172 c0_i32_79
  let v174 : BitVec 1 := Scalar.andi v171 v173
  let v160 : BitVec 32 := Scalar.divsi v159 c128_i32_74
  let c1_i32_80 : BitVec 32 := 1#32
  let v175 : BitVec 32 := Scalar.subi v160 c1_i32_80
  let v176 : BitVec 32 := Scalar.select v174 v175 v160
  let c128_i32_81 : BitVec 32 := 128#32
  let v177 : BitVec 32 := Scalar.muli v176 c128_i32_81
  let c99840_i32_82 : BitVec 32 := 99840#32
  let v178 : BitVec 32 := Scalar.minsi v177 c99840_i32_82
  let v179 : BitVec 32 := v178
  ![v181.toNat, v179.toNat]
def k0_mult14 (v187 : BitVec 32) : BitVec 32 :=
  let c_m1_i32_87 : BitVec 32 := 4294967295#32
  let v188 : BitVec 1 := Scalar.cmpi .ne v187 c_m1_i32_87
  let c0_i32_88 : BitVec 32 := 0#32
  let v189 : BitVec 32 := Scalar.select v188 v187 c0_i32_88
  let c0_i32_90 : BitVec 32 := 0#32
  let v191 : BitVec 1 := Scalar.cmpi .sgt v189 c0_i32_90
  let v192 : BitVec 32 := Scalar.extui v191
  let c0_i32_91 : BitVec 32 := 0#32
  let v193 : BitVec 1 := Scalar.cmpi .slt v189 c0_i32_91
  let v194 : BitVec 32 := Scalar.extui v193
  let v195 : BitVec 32 := Scalar.subi v192 v194
  let c128_i32_89 : BitVec 32 := 128#32
  let c0_i32_92 : BitVec 32 := 0#32
  let v196 : BitVec 1 := Scalar.cmpi .sgt c128_i32_89 c0_i32_92
  let v197 : BitVec 32 := Scalar.extui v196
  let c0_i32_93 : BitVec 32 := 0#32
  let v198 : BitVec 1 := Scalar.cmpi .slt c128_i32_89 c0_i32_93
  let v199 : BitVec 32 := Scalar.extui v198
  let v200 : BitVec 32 := Scalar.subi v197 v199
  let v201 : BitVec 1 := Scalar.cmpi .ne v195 v200
  let v202 : BitVec 32 := Scalar.remsi v189 c128_i32_89
  let c0_i32_94 : BitVec 32 := 0#32
  let v203 : BitVec 1 := Scalar.cmpi .ne v202 c0_i32_94
  let v204 : BitVec 1 := Scalar.andi v201 v203
  let v190 : BitVec 32 := Scalar.divsi v189 c128_i32_89
  let c1_i32_95 : BitVec 32 := 1#32
  let v205 : BitVec 32 := Scalar.subi v190 c1_i32_95
  let v206 : BitVec 32 := Scalar.select v204 v205 v190
  let c128_i32_96 : BitVec 32 := 128#32
  let v207 : BitVec 32 := Scalar.muli v206 c128_i32_96
  let c99840_i32_97 : BitVec 32 := 99840#32
  let v208 : BitVec 32 := Scalar.minsi v207 c99840_i32_97
  v208

def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_98 : BitVec 32 := 0#32
  let v210 : BitVec 32 := Scalar.addi v3 c0_i32_98
  v210
def k0_off8 (i : grid0.Coords) (v187 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_98 : BitVec 32 := 0#32
  let v210 : BitVec 32 := Scalar.addi v3 c0_i32_98
  let v211 : BitVec 32 := v210
  let c_m1_i32_87 : BitVec 32 := 4294967295#32
  let v188 : BitVec 1 := Scalar.cmpi .ne v187 c_m1_i32_87
  let c0_i32_88 : BitVec 32 := 0#32
  let v189 : BitVec 32 := Scalar.select v188 v187 c0_i32_88
  let c0_i32_90 : BitVec 32 := 0#32
  let v191 : BitVec 1 := Scalar.cmpi .sgt v189 c0_i32_90
  let v192 : BitVec 32 := Scalar.extui v191
  let c0_i32_91 : BitVec 32 := 0#32
  let v193 : BitVec 1 := Scalar.cmpi .slt v189 c0_i32_91
  let v194 : BitVec 32 := Scalar.extui v193
  let v195 : BitVec 32 := Scalar.subi v192 v194
  let c128_i32_89 : BitVec 32 := 128#32
  let c0_i32_92 : BitVec 32 := 0#32
  let v196 : BitVec 1 := Scalar.cmpi .sgt c128_i32_89 c0_i32_92
  let v197 : BitVec 32 := Scalar.extui v196
  let c0_i32_93 : BitVec 32 := 0#32
  let v198 : BitVec 1 := Scalar.cmpi .slt c128_i32_89 c0_i32_93
  let v199 : BitVec 32 := Scalar.extui v198
  let v200 : BitVec 32 := Scalar.subi v197 v199
  let v201 : BitVec 1 := Scalar.cmpi .ne v195 v200
  let v202 : BitVec 32 := Scalar.remsi v189 c128_i32_89
  let c0_i32_94 : BitVec 32 := 0#32
  let v203 : BitVec 1 := Scalar.cmpi .ne v202 c0_i32_94
  let v204 : BitVec 1 := Scalar.andi v201 v203
  let v190 : BitVec 32 := Scalar.divsi v189 c128_i32_89
  let c1_i32_95 : BitVec 32 := 1#32
  let v205 : BitVec 32 := Scalar.subi v190 c1_i32_95
  let v206 : BitVec 32 := Scalar.select v204 v205 v190
  let c128_i32_96 : BitVec 32 := 128#32
  let v207 : BitVec 32 := Scalar.muli v206 c128_i32_96
  let c99840_i32_97 : BitVec 32 := 99840#32
  let v208 : BitVec 32 := Scalar.minsi v207 c99840_i32_97
  let v209 : BitVec 32 := v208
  ![v211.toNat, v209.toNat]
def k0_mult16 (v217 : BitVec 32) : BitVec 32 :=
  let c_m1_i32_102 : BitVec 32 := 4294967295#32
  let v218 : BitVec 1 := Scalar.cmpi .ne v217 c_m1_i32_102
  let c0_i32_103 : BitVec 32 := 0#32
  let v219 : BitVec 32 := Scalar.select v218 v217 c0_i32_103
  let c0_i32_105 : BitVec 32 := 0#32
  let v221 : BitVec 1 := Scalar.cmpi .sgt v219 c0_i32_105
  let v222 : BitVec 32 := Scalar.extui v221
  let c0_i32_106 : BitVec 32 := 0#32
  let v223 : BitVec 1 := Scalar.cmpi .slt v219 c0_i32_106
  let v224 : BitVec 32 := Scalar.extui v223
  let v225 : BitVec 32 := Scalar.subi v222 v224
  let c128_i32_104 : BitVec 32 := 128#32
  let c0_i32_107 : BitVec 32 := 0#32
  let v226 : BitVec 1 := Scalar.cmpi .sgt c128_i32_104 c0_i32_107
  let v227 : BitVec 32 := Scalar.extui v226
  let c0_i32_108 : BitVec 32 := 0#32
  let v228 : BitVec 1 := Scalar.cmpi .slt c128_i32_104 c0_i32_108
  let v229 : BitVec 32 := Scalar.extui v228
  let v230 : BitVec 32 := Scalar.subi v227 v229
  let v231 : BitVec 1 := Scalar.cmpi .ne v225 v230
  let v232 : BitVec 32 := Scalar.remsi v219 c128_i32_104
  let c0_i32_109 : BitVec 32 := 0#32
  let v233 : BitVec 1 := Scalar.cmpi .ne v232 c0_i32_109
  let v234 : BitVec 1 := Scalar.andi v231 v233
  let v220 : BitVec 32 := Scalar.divsi v219 c128_i32_104
  let c1_i32_110 : BitVec 32 := 1#32
  let v235 : BitVec 32 := Scalar.subi v220 c1_i32_110
  let v236 : BitVec 32 := Scalar.select v234 v235 v220
  let c128_i32_111 : BitVec 32 := 128#32
  let v237 : BitVec 32 := Scalar.muli v236 c128_i32_111
  let c99840_i32_112 : BitVec 32 := 99840#32
  let v238 : BitVec 32 := Scalar.minsi v237 c99840_i32_112
  v238

def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_113 : BitVec 32 := 0#32
  let v240 : BitVec 32 := Scalar.addi v3 c0_i32_113
  v240
def k0_off9 (i : grid0.Coords) (v217 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_113 : BitVec 32 := 0#32
  let v240 : BitVec 32 := Scalar.addi v3 c0_i32_113
  let v241 : BitVec 32 := v240
  let c_m1_i32_102 : BitVec 32 := 4294967295#32
  let v218 : BitVec 1 := Scalar.cmpi .ne v217 c_m1_i32_102
  let c0_i32_103 : BitVec 32 := 0#32
  let v219 : BitVec 32 := Scalar.select v218 v217 c0_i32_103
  let c0_i32_105 : BitVec 32 := 0#32
  let v221 : BitVec 1 := Scalar.cmpi .sgt v219 c0_i32_105
  let v222 : BitVec 32 := Scalar.extui v221
  let c0_i32_106 : BitVec 32 := 0#32
  let v223 : BitVec 1 := Scalar.cmpi .slt v219 c0_i32_106
  let v224 : BitVec 32 := Scalar.extui v223
  let v225 : BitVec 32 := Scalar.subi v222 v224
  let c128_i32_104 : BitVec 32 := 128#32
  let c0_i32_107 : BitVec 32 := 0#32
  let v226 : BitVec 1 := Scalar.cmpi .sgt c128_i32_104 c0_i32_107
  let v227 : BitVec 32 := Scalar.extui v226
  let c0_i32_108 : BitVec 32 := 0#32
  let v228 : BitVec 1 := Scalar.cmpi .slt c128_i32_104 c0_i32_108
  let v229 : BitVec 32 := Scalar.extui v228
  let v230 : BitVec 32 := Scalar.subi v227 v229
  let v231 : BitVec 1 := Scalar.cmpi .ne v225 v230
  let v232 : BitVec 32 := Scalar.remsi v219 c128_i32_104
  let c0_i32_109 : BitVec 32 := 0#32
  let v233 : BitVec 1 := Scalar.cmpi .ne v232 c0_i32_109
  let v234 : BitVec 1 := Scalar.andi v231 v233
  let v220 : BitVec 32 := Scalar.divsi v219 c128_i32_104
  let c1_i32_110 : BitVec 32 := 1#32
  let v235 : BitVec 32 := Scalar.subi v220 c1_i32_110
  let v236 : BitVec 32 := Scalar.select v234 v235 v220
  let c128_i32_111 : BitVec 32 := 128#32
  let v237 : BitVec 32 := Scalar.muli v236 c128_i32_111
  let c99840_i32_112 : BitVec 32 := 99840#32
  let v238 : BitVec 32 := Scalar.minsi v237 c99840_i32_112
  let v239 : BitVec 32 := v238
  ![v241.toNat, v239.toNat]
def k0_mult18 (v247 : BitVec 32) : BitVec 32 :=
  let c_m1_i32_117 : BitVec 32 := 4294967295#32
  let v248 : BitVec 1 := Scalar.cmpi .ne v247 c_m1_i32_117
  let c0_i32_118 : BitVec 32 := 0#32
  let v249 : BitVec 32 := Scalar.select v248 v247 c0_i32_118
  let c0_i32_120 : BitVec 32 := 0#32
  let v251 : BitVec 1 := Scalar.cmpi .sgt v249 c0_i32_120
  let v252 : BitVec 32 := Scalar.extui v251
  let c0_i32_121 : BitVec 32 := 0#32
  let v253 : BitVec 1 := Scalar.cmpi .slt v249 c0_i32_121
  let v254 : BitVec 32 := Scalar.extui v253
  let v255 : BitVec 32 := Scalar.subi v252 v254
  let c128_i32_119 : BitVec 32 := 128#32
  let c0_i32_122 : BitVec 32 := 0#32
  let v256 : BitVec 1 := Scalar.cmpi .sgt c128_i32_119 c0_i32_122
  let v257 : BitVec 32 := Scalar.extui v256
  let c0_i32_123 : BitVec 32 := 0#32
  let v258 : BitVec 1 := Scalar.cmpi .slt c128_i32_119 c0_i32_123
  let v259 : BitVec 32 := Scalar.extui v258
  let v260 : BitVec 32 := Scalar.subi v257 v259
  let v261 : BitVec 1 := Scalar.cmpi .ne v255 v260
  let v262 : BitVec 32 := Scalar.remsi v249 c128_i32_119
  let c0_i32_124 : BitVec 32 := 0#32
  let v263 : BitVec 1 := Scalar.cmpi .ne v262 c0_i32_124
  let v264 : BitVec 1 := Scalar.andi v261 v263
  let v250 : BitVec 32 := Scalar.divsi v249 c128_i32_119
  let c1_i32_125 : BitVec 32 := 1#32
  let v265 : BitVec 32 := Scalar.subi v250 c1_i32_125
  let v266 : BitVec 32 := Scalar.select v264 v265 v250
  let c128_i32_126 : BitVec 32 := 128#32
  let v267 : BitVec 32 := Scalar.muli v266 c128_i32_126
  let c99840_i32_127 : BitVec 32 := 99840#32
  let v268 : BitVec 32 := Scalar.minsi v267 c99840_i32_127
  v268

def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32 : BitVec 32 := 8#32
  let v270 : BitVec 32 := Scalar.addi v3 c8_i32
  v270
def k0_off10 (i : grid0.Coords) (v247 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32 : BitVec 32 := 8#32
  let v270 : BitVec 32 := Scalar.addi v3 c8_i32
  let v271 : BitVec 32 := v270
  let c_m1_i32_117 : BitVec 32 := 4294967295#32
  let v248 : BitVec 1 := Scalar.cmpi .ne v247 c_m1_i32_117
  let c0_i32_118 : BitVec 32 := 0#32
  let v249 : BitVec 32 := Scalar.select v248 v247 c0_i32_118
  let c0_i32_120 : BitVec 32 := 0#32
  let v251 : BitVec 1 := Scalar.cmpi .sgt v249 c0_i32_120
  let v252 : BitVec 32 := Scalar.extui v251
  let c0_i32_121 : BitVec 32 := 0#32
  let v253 : BitVec 1 := Scalar.cmpi .slt v249 c0_i32_121
  let v254 : BitVec 32 := Scalar.extui v253
  let v255 : BitVec 32 := Scalar.subi v252 v254
  let c128_i32_119 : BitVec 32 := 128#32
  let c0_i32_122 : BitVec 32 := 0#32
  let v256 : BitVec 1 := Scalar.cmpi .sgt c128_i32_119 c0_i32_122
  let v257 : BitVec 32 := Scalar.extui v256
  let c0_i32_123 : BitVec 32 := 0#32
  let v258 : BitVec 1 := Scalar.cmpi .slt c128_i32_119 c0_i32_123
  let v259 : BitVec 32 := Scalar.extui v258
  let v260 : BitVec 32 := Scalar.subi v257 v259
  let v261 : BitVec 1 := Scalar.cmpi .ne v255 v260
  let v262 : BitVec 32 := Scalar.remsi v249 c128_i32_119
  let c0_i32_124 : BitVec 32 := 0#32
  let v263 : BitVec 1 := Scalar.cmpi .ne v262 c0_i32_124
  let v264 : BitVec 1 := Scalar.andi v261 v263
  let v250 : BitVec 32 := Scalar.divsi v249 c128_i32_119
  let c1_i32_125 : BitVec 32 := 1#32
  let v265 : BitVec 32 := Scalar.subi v250 c1_i32_125
  let v266 : BitVec 32 := Scalar.select v264 v265 v250
  let c128_i32_126 : BitVec 32 := 128#32
  let v267 : BitVec 32 := Scalar.muli v266 c128_i32_126
  let c99840_i32_127 : BitVec 32 := 99840#32
  let v268 : BitVec 32 := Scalar.minsi v267 c99840_i32_127
  let v269 : BitVec 32 := v268
  ![v271.toNat, v269.toNat]
def k0_mult20 (v277 : BitVec 32) : BitVec 32 :=
  let c_m1_i32_131 : BitVec 32 := 4294967295#32
  let v278 : BitVec 1 := Scalar.cmpi .ne v277 c_m1_i32_131
  let c0_i32_132 : BitVec 32 := 0#32
  let v279 : BitVec 32 := Scalar.select v278 v277 c0_i32_132
  let c0_i32_134 : BitVec 32 := 0#32
  let v281 : BitVec 1 := Scalar.cmpi .sgt v279 c0_i32_134
  let v282 : BitVec 32 := Scalar.extui v281
  let c0_i32_135 : BitVec 32 := 0#32
  let v283 : BitVec 1 := Scalar.cmpi .slt v279 c0_i32_135
  let v284 : BitVec 32 := Scalar.extui v283
  let v285 : BitVec 32 := Scalar.subi v282 v284
  let c128_i32_133 : BitVec 32 := 128#32
  let c0_i32_136 : BitVec 32 := 0#32
  let v286 : BitVec 1 := Scalar.cmpi .sgt c128_i32_133 c0_i32_136
  let v287 : BitVec 32 := Scalar.extui v286
  let c0_i32_137 : BitVec 32 := 0#32
  let v288 : BitVec 1 := Scalar.cmpi .slt c128_i32_133 c0_i32_137
  let v289 : BitVec 32 := Scalar.extui v288
  let v290 : BitVec 32 := Scalar.subi v287 v289
  let v291 : BitVec 1 := Scalar.cmpi .ne v285 v290
  let v292 : BitVec 32 := Scalar.remsi v279 c128_i32_133
  let c0_i32_138 : BitVec 32 := 0#32
  let v293 : BitVec 1 := Scalar.cmpi .ne v292 c0_i32_138
  let v294 : BitVec 1 := Scalar.andi v291 v293
  let v280 : BitVec 32 := Scalar.divsi v279 c128_i32_133
  let c1_i32_139 : BitVec 32 := 1#32
  let v295 : BitVec 32 := Scalar.subi v280 c1_i32_139
  let v296 : BitVec 32 := Scalar.select v294 v295 v280
  let c128_i32_140 : BitVec 32 := 128#32
  let v297 : BitVec 32 := Scalar.muli v296 c128_i32_140
  let c99840_i32_141 : BitVec 32 := 99840#32
  let v298 : BitVec 32 := Scalar.minsi v297 c99840_i32_141
  v298

def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_142 : BitVec 32 := 8#32
  let v300 : BitVec 32 := Scalar.addi v3 c8_i32_142
  v300
def k0_off11 (i : grid0.Coords) (v277 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_142 : BitVec 32 := 8#32
  let v300 : BitVec 32 := Scalar.addi v3 c8_i32_142
  let v301 : BitVec 32 := v300
  let c_m1_i32_131 : BitVec 32 := 4294967295#32
  let v278 : BitVec 1 := Scalar.cmpi .ne v277 c_m1_i32_131
  let c0_i32_132 : BitVec 32 := 0#32
  let v279 : BitVec 32 := Scalar.select v278 v277 c0_i32_132
  let c0_i32_134 : BitVec 32 := 0#32
  let v281 : BitVec 1 := Scalar.cmpi .sgt v279 c0_i32_134
  let v282 : BitVec 32 := Scalar.extui v281
  let c0_i32_135 : BitVec 32 := 0#32
  let v283 : BitVec 1 := Scalar.cmpi .slt v279 c0_i32_135
  let v284 : BitVec 32 := Scalar.extui v283
  let v285 : BitVec 32 := Scalar.subi v282 v284
  let c128_i32_133 : BitVec 32 := 128#32
  let c0_i32_136 : BitVec 32 := 0#32
  let v286 : BitVec 1 := Scalar.cmpi .sgt c128_i32_133 c0_i32_136
  let v287 : BitVec 32 := Scalar.extui v286
  let c0_i32_137 : BitVec 32 := 0#32
  let v288 : BitVec 1 := Scalar.cmpi .slt c128_i32_133 c0_i32_137
  let v289 : BitVec 32 := Scalar.extui v288
  let v290 : BitVec 32 := Scalar.subi v287 v289
  let v291 : BitVec 1 := Scalar.cmpi .ne v285 v290
  let v292 : BitVec 32 := Scalar.remsi v279 c128_i32_133
  let c0_i32_138 : BitVec 32 := 0#32
  let v293 : BitVec 1 := Scalar.cmpi .ne v292 c0_i32_138
  let v294 : BitVec 1 := Scalar.andi v291 v293
  let v280 : BitVec 32 := Scalar.divsi v279 c128_i32_133
  let c1_i32_139 : BitVec 32 := 1#32
  let v295 : BitVec 32 := Scalar.subi v280 c1_i32_139
  let v296 : BitVec 32 := Scalar.select v294 v295 v280
  let c128_i32_140 : BitVec 32 := 128#32
  let v297 : BitVec 32 := Scalar.muli v296 c128_i32_140
  let c99840_i32_141 : BitVec 32 := 99840#32
  let v298 : BitVec 32 := Scalar.minsi v297 c99840_i32_141
  let v299 : BitVec 32 := v298
  ![v301.toNat, v299.toNat]
def k0_mult22 (v307 : BitVec 32) : BitVec 32 :=
  let c_m1_i32_146 : BitVec 32 := 4294967295#32
  let v308 : BitVec 1 := Scalar.cmpi .ne v307 c_m1_i32_146
  let c0_i32_147 : BitVec 32 := 0#32
  let v309 : BitVec 32 := Scalar.select v308 v307 c0_i32_147
  let c0_i32_149 : BitVec 32 := 0#32
  let v311 : BitVec 1 := Scalar.cmpi .sgt v309 c0_i32_149
  let v312 : BitVec 32 := Scalar.extui v311
  let c0_i32_150 : BitVec 32 := 0#32
  let v313 : BitVec 1 := Scalar.cmpi .slt v309 c0_i32_150
  let v314 : BitVec 32 := Scalar.extui v313
  let v315 : BitVec 32 := Scalar.subi v312 v314
  let c128_i32_148 : BitVec 32 := 128#32
  let c0_i32_151 : BitVec 32 := 0#32
  let v316 : BitVec 1 := Scalar.cmpi .sgt c128_i32_148 c0_i32_151
  let v317 : BitVec 32 := Scalar.extui v316
  let c0_i32_152 : BitVec 32 := 0#32
  let v318 : BitVec 1 := Scalar.cmpi .slt c128_i32_148 c0_i32_152
  let v319 : BitVec 32 := Scalar.extui v318
  let v320 : BitVec 32 := Scalar.subi v317 v319
  let v321 : BitVec 1 := Scalar.cmpi .ne v315 v320
  let v322 : BitVec 32 := Scalar.remsi v309 c128_i32_148
  let c0_i32_153 : BitVec 32 := 0#32
  let v323 : BitVec 1 := Scalar.cmpi .ne v322 c0_i32_153
  let v324 : BitVec 1 := Scalar.andi v321 v323
  let v310 : BitVec 32 := Scalar.divsi v309 c128_i32_148
  let c1_i32_154 : BitVec 32 := 1#32
  let v325 : BitVec 32 := Scalar.subi v310 c1_i32_154
  let v326 : BitVec 32 := Scalar.select v324 v325 v310
  let c128_i32_155 : BitVec 32 := 128#32
  let v327 : BitVec 32 := Scalar.muli v326 c128_i32_155
  let c99840_i32_156 : BitVec 32 := 99840#32
  let v328 : BitVec 32 := Scalar.minsi v327 c99840_i32_156
  v328

def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_157 : BitVec 32 := 8#32
  let v330 : BitVec 32 := Scalar.addi v3 c8_i32_157
  v330
def k0_off12 (i : grid0.Coords) (v307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_157 : BitVec 32 := 8#32
  let v330 : BitVec 32 := Scalar.addi v3 c8_i32_157
  let v331 : BitVec 32 := v330
  let c_m1_i32_146 : BitVec 32 := 4294967295#32
  let v308 : BitVec 1 := Scalar.cmpi .ne v307 c_m1_i32_146
  let c0_i32_147 : BitVec 32 := 0#32
  let v309 : BitVec 32 := Scalar.select v308 v307 c0_i32_147
  let c0_i32_149 : BitVec 32 := 0#32
  let v311 : BitVec 1 := Scalar.cmpi .sgt v309 c0_i32_149
  let v312 : BitVec 32 := Scalar.extui v311
  let c0_i32_150 : BitVec 32 := 0#32
  let v313 : BitVec 1 := Scalar.cmpi .slt v309 c0_i32_150
  let v314 : BitVec 32 := Scalar.extui v313
  let v315 : BitVec 32 := Scalar.subi v312 v314
  let c128_i32_148 : BitVec 32 := 128#32
  let c0_i32_151 : BitVec 32 := 0#32
  let v316 : BitVec 1 := Scalar.cmpi .sgt c128_i32_148 c0_i32_151
  let v317 : BitVec 32 := Scalar.extui v316
  let c0_i32_152 : BitVec 32 := 0#32
  let v318 : BitVec 1 := Scalar.cmpi .slt c128_i32_148 c0_i32_152
  let v319 : BitVec 32 := Scalar.extui v318
  let v320 : BitVec 32 := Scalar.subi v317 v319
  let v321 : BitVec 1 := Scalar.cmpi .ne v315 v320
  let v322 : BitVec 32 := Scalar.remsi v309 c128_i32_148
  let c0_i32_153 : BitVec 32 := 0#32
  let v323 : BitVec 1 := Scalar.cmpi .ne v322 c0_i32_153
  let v324 : BitVec 1 := Scalar.andi v321 v323
  let v310 : BitVec 32 := Scalar.divsi v309 c128_i32_148
  let c1_i32_154 : BitVec 32 := 1#32
  let v325 : BitVec 32 := Scalar.subi v310 c1_i32_154
  let v326 : BitVec 32 := Scalar.select v324 v325 v310
  let c128_i32_155 : BitVec 32 := 128#32
  let v327 : BitVec 32 := Scalar.muli v326 c128_i32_155
  let c99840_i32_156 : BitVec 32 := 99840#32
  let v328 : BitVec 32 := Scalar.minsi v327 c99840_i32_156
  let v329 : BitVec 32 := v328
  ![v331.toNat, v329.toNat]
def k0_mult24 (v337 : BitVec 32) : BitVec 32 :=
  let c_m1_i32_161 : BitVec 32 := 4294967295#32
  let v338 : BitVec 1 := Scalar.cmpi .ne v337 c_m1_i32_161
  let c0_i32_162 : BitVec 32 := 0#32
  let v339 : BitVec 32 := Scalar.select v338 v337 c0_i32_162
  let c0_i32_164 : BitVec 32 := 0#32
  let v341 : BitVec 1 := Scalar.cmpi .sgt v339 c0_i32_164
  let v342 : BitVec 32 := Scalar.extui v341
  let c0_i32_165 : BitVec 32 := 0#32
  let v343 : BitVec 1 := Scalar.cmpi .slt v339 c0_i32_165
  let v344 : BitVec 32 := Scalar.extui v343
  let v345 : BitVec 32 := Scalar.subi v342 v344
  let c128_i32_163 : BitVec 32 := 128#32
  let c0_i32_166 : BitVec 32 := 0#32
  let v346 : BitVec 1 := Scalar.cmpi .sgt c128_i32_163 c0_i32_166
  let v347 : BitVec 32 := Scalar.extui v346
  let c0_i32_167 : BitVec 32 := 0#32
  let v348 : BitVec 1 := Scalar.cmpi .slt c128_i32_163 c0_i32_167
  let v349 : BitVec 32 := Scalar.extui v348
  let v350 : BitVec 32 := Scalar.subi v347 v349
  let v351 : BitVec 1 := Scalar.cmpi .ne v345 v350
  let v352 : BitVec 32 := Scalar.remsi v339 c128_i32_163
  let c0_i32_168 : BitVec 32 := 0#32
  let v353 : BitVec 1 := Scalar.cmpi .ne v352 c0_i32_168
  let v354 : BitVec 1 := Scalar.andi v351 v353
  let v340 : BitVec 32 := Scalar.divsi v339 c128_i32_163
  let c1_i32_169 : BitVec 32 := 1#32
  let v355 : BitVec 32 := Scalar.subi v340 c1_i32_169
  let v356 : BitVec 32 := Scalar.select v354 v355 v340
  let c128_i32_170 : BitVec 32 := 128#32
  let v357 : BitVec 32 := Scalar.muli v356 c128_i32_170
  let c99840_i32_171 : BitVec 32 := 99840#32
  let v358 : BitVec 32 := Scalar.minsi v357 c99840_i32_171
  v358

def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_172 : BitVec 32 := 8#32
  let v360 : BitVec 32 := Scalar.addi v3 c8_i32_172
  v360
def k0_off13 (i : grid0.Coords) (v337 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_172 : BitVec 32 := 8#32
  let v360 : BitVec 32 := Scalar.addi v3 c8_i32_172
  let v361 : BitVec 32 := v360
  let c_m1_i32_161 : BitVec 32 := 4294967295#32
  let v338 : BitVec 1 := Scalar.cmpi .ne v337 c_m1_i32_161
  let c0_i32_162 : BitVec 32 := 0#32
  let v339 : BitVec 32 := Scalar.select v338 v337 c0_i32_162
  let c0_i32_164 : BitVec 32 := 0#32
  let v341 : BitVec 1 := Scalar.cmpi .sgt v339 c0_i32_164
  let v342 : BitVec 32 := Scalar.extui v341
  let c0_i32_165 : BitVec 32 := 0#32
  let v343 : BitVec 1 := Scalar.cmpi .slt v339 c0_i32_165
  let v344 : BitVec 32 := Scalar.extui v343
  let v345 : BitVec 32 := Scalar.subi v342 v344
  let c128_i32_163 : BitVec 32 := 128#32
  let c0_i32_166 : BitVec 32 := 0#32
  let v346 : BitVec 1 := Scalar.cmpi .sgt c128_i32_163 c0_i32_166
  let v347 : BitVec 32 := Scalar.extui v346
  let c0_i32_167 : BitVec 32 := 0#32
  let v348 : BitVec 1 := Scalar.cmpi .slt c128_i32_163 c0_i32_167
  let v349 : BitVec 32 := Scalar.extui v348
  let v350 : BitVec 32 := Scalar.subi v347 v349
  let v351 : BitVec 1 := Scalar.cmpi .ne v345 v350
  let v352 : BitVec 32 := Scalar.remsi v339 c128_i32_163
  let c0_i32_168 : BitVec 32 := 0#32
  let v353 : BitVec 1 := Scalar.cmpi .ne v352 c0_i32_168
  let v354 : BitVec 1 := Scalar.andi v351 v353
  let v340 : BitVec 32 := Scalar.divsi v339 c128_i32_163
  let c1_i32_169 : BitVec 32 := 1#32
  let v355 : BitVec 32 := Scalar.subi v340 c1_i32_169
  let v356 : BitVec 32 := Scalar.select v354 v355 v340
  let c128_i32_170 : BitVec 32 := 128#32
  let v357 : BitVec 32 := Scalar.muli v356 c128_i32_170
  let c99840_i32_171 : BitVec 32 := 99840#32
  let v358 : BitVec 32 := Scalar.minsi v357 c99840_i32_171
  let v359 : BitVec 32 := v358
  ![v361.toNat, v359.toNat]
def k0_mult26 (v367 : BitVec 32) : BitVec 32 :=
  let c_m1_i32_176 : BitVec 32 := 4294967295#32
  let v368 : BitVec 1 := Scalar.cmpi .ne v367 c_m1_i32_176
  let c0_i32_177 : BitVec 32 := 0#32
  let v369 : BitVec 32 := Scalar.select v368 v367 c0_i32_177
  let c0_i32_179 : BitVec 32 := 0#32
  let v371 : BitVec 1 := Scalar.cmpi .sgt v369 c0_i32_179
  let v372 : BitVec 32 := Scalar.extui v371
  let c0_i32_180 : BitVec 32 := 0#32
  let v373 : BitVec 1 := Scalar.cmpi .slt v369 c0_i32_180
  let v374 : BitVec 32 := Scalar.extui v373
  let v375 : BitVec 32 := Scalar.subi v372 v374
  let c128_i32_178 : BitVec 32 := 128#32
  let c0_i32_181 : BitVec 32 := 0#32
  let v376 : BitVec 1 := Scalar.cmpi .sgt c128_i32_178 c0_i32_181
  let v377 : BitVec 32 := Scalar.extui v376
  let c0_i32_182 : BitVec 32 := 0#32
  let v378 : BitVec 1 := Scalar.cmpi .slt c128_i32_178 c0_i32_182
  let v379 : BitVec 32 := Scalar.extui v378
  let v380 : BitVec 32 := Scalar.subi v377 v379
  let v381 : BitVec 1 := Scalar.cmpi .ne v375 v380
  let v382 : BitVec 32 := Scalar.remsi v369 c128_i32_178
  let c0_i32_183 : BitVec 32 := 0#32
  let v383 : BitVec 1 := Scalar.cmpi .ne v382 c0_i32_183
  let v384 : BitVec 1 := Scalar.andi v381 v383
  let v370 : BitVec 32 := Scalar.divsi v369 c128_i32_178
  let c1_i32_184 : BitVec 32 := 1#32
  let v385 : BitVec 32 := Scalar.subi v370 c1_i32_184
  let v386 : BitVec 32 := Scalar.select v384 v385 v370
  let c128_i32_185 : BitVec 32 := 128#32
  let v387 : BitVec 32 := Scalar.muli v386 c128_i32_185
  let c99840_i32_186 : BitVec 32 := 99840#32
  let v388 : BitVec 32 := Scalar.minsi v387 c99840_i32_186
  v388

def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_187 : BitVec 32 := 8#32
  let v390 : BitVec 32 := Scalar.addi v3 c8_i32_187
  v390
def k0_off14 (i : grid0.Coords) (v367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_187 : BitVec 32 := 8#32
  let v390 : BitVec 32 := Scalar.addi v3 c8_i32_187
  let v391 : BitVec 32 := v390
  let c_m1_i32_176 : BitVec 32 := 4294967295#32
  let v368 : BitVec 1 := Scalar.cmpi .ne v367 c_m1_i32_176
  let c0_i32_177 : BitVec 32 := 0#32
  let v369 : BitVec 32 := Scalar.select v368 v367 c0_i32_177
  let c0_i32_179 : BitVec 32 := 0#32
  let v371 : BitVec 1 := Scalar.cmpi .sgt v369 c0_i32_179
  let v372 : BitVec 32 := Scalar.extui v371
  let c0_i32_180 : BitVec 32 := 0#32
  let v373 : BitVec 1 := Scalar.cmpi .slt v369 c0_i32_180
  let v374 : BitVec 32 := Scalar.extui v373
  let v375 : BitVec 32 := Scalar.subi v372 v374
  let c128_i32_178 : BitVec 32 := 128#32
  let c0_i32_181 : BitVec 32 := 0#32
  let v376 : BitVec 1 := Scalar.cmpi .sgt c128_i32_178 c0_i32_181
  let v377 : BitVec 32 := Scalar.extui v376
  let c0_i32_182 : BitVec 32 := 0#32
  let v378 : BitVec 1 := Scalar.cmpi .slt c128_i32_178 c0_i32_182
  let v379 : BitVec 32 := Scalar.extui v378
  let v380 : BitVec 32 := Scalar.subi v377 v379
  let v381 : BitVec 1 := Scalar.cmpi .ne v375 v380
  let v382 : BitVec 32 := Scalar.remsi v369 c128_i32_178
  let c0_i32_183 : BitVec 32 := 0#32
  let v383 : BitVec 1 := Scalar.cmpi .ne v382 c0_i32_183
  let v384 : BitVec 1 := Scalar.andi v381 v383
  let v370 : BitVec 32 := Scalar.divsi v369 c128_i32_178
  let c1_i32_184 : BitVec 32 := 1#32
  let v385 : BitVec 32 := Scalar.subi v370 c1_i32_184
  let v386 : BitVec 32 := Scalar.select v384 v385 v370
  let c128_i32_185 : BitVec 32 := 128#32
  let v387 : BitVec 32 := Scalar.muli v386 c128_i32_185
  let c99840_i32_186 : BitVec 32 := 99840#32
  let v388 : BitVec 32 := Scalar.minsi v387 c99840_i32_186
  let v389 : BitVec 32 := v388
  ![v391.toNat, v389.toNat]
def k0_mult28 (v397 : BitVec 32) : BitVec 32 :=
  let c_m1_i32_191 : BitVec 32 := 4294967295#32
  let v398 : BitVec 1 := Scalar.cmpi .ne v397 c_m1_i32_191
  let c0_i32_192 : BitVec 32 := 0#32
  let v399 : BitVec 32 := Scalar.select v398 v397 c0_i32_192
  let c0_i32_194 : BitVec 32 := 0#32
  let v401 : BitVec 1 := Scalar.cmpi .sgt v399 c0_i32_194
  let v402 : BitVec 32 := Scalar.extui v401
  let c0_i32_195 : BitVec 32 := 0#32
  let v403 : BitVec 1 := Scalar.cmpi .slt v399 c0_i32_195
  let v404 : BitVec 32 := Scalar.extui v403
  let v405 : BitVec 32 := Scalar.subi v402 v404
  let c128_i32_193 : BitVec 32 := 128#32
  let c0_i32_196 : BitVec 32 := 0#32
  let v406 : BitVec 1 := Scalar.cmpi .sgt c128_i32_193 c0_i32_196
  let v407 : BitVec 32 := Scalar.extui v406
  let c0_i32_197 : BitVec 32 := 0#32
  let v408 : BitVec 1 := Scalar.cmpi .slt c128_i32_193 c0_i32_197
  let v409 : BitVec 32 := Scalar.extui v408
  let v410 : BitVec 32 := Scalar.subi v407 v409
  let v411 : BitVec 1 := Scalar.cmpi .ne v405 v410
  let v412 : BitVec 32 := Scalar.remsi v399 c128_i32_193
  let c0_i32_198 : BitVec 32 := 0#32
  let v413 : BitVec 1 := Scalar.cmpi .ne v412 c0_i32_198
  let v414 : BitVec 1 := Scalar.andi v411 v413
  let v400 : BitVec 32 := Scalar.divsi v399 c128_i32_193
  let c1_i32_199 : BitVec 32 := 1#32
  let v415 : BitVec 32 := Scalar.subi v400 c1_i32_199
  let v416 : BitVec 32 := Scalar.select v414 v415 v400
  let c128_i32_200 : BitVec 32 := 128#32
  let v417 : BitVec 32 := Scalar.muli v416 c128_i32_200
  let c99840_i32_201 : BitVec 32 := 99840#32
  let v418 : BitVec 32 := Scalar.minsi v417 c99840_i32_201
  v418

def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_202 : BitVec 32 := 8#32
  let v420 : BitVec 32 := Scalar.addi v3 c8_i32_202
  v420
def k0_off15 (i : grid0.Coords) (v397 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_202 : BitVec 32 := 8#32
  let v420 : BitVec 32 := Scalar.addi v3 c8_i32_202
  let v421 : BitVec 32 := v420
  let c_m1_i32_191 : BitVec 32 := 4294967295#32
  let v398 : BitVec 1 := Scalar.cmpi .ne v397 c_m1_i32_191
  let c0_i32_192 : BitVec 32 := 0#32
  let v399 : BitVec 32 := Scalar.select v398 v397 c0_i32_192
  let c0_i32_194 : BitVec 32 := 0#32
  let v401 : BitVec 1 := Scalar.cmpi .sgt v399 c0_i32_194
  let v402 : BitVec 32 := Scalar.extui v401
  let c0_i32_195 : BitVec 32 := 0#32
  let v403 : BitVec 1 := Scalar.cmpi .slt v399 c0_i32_195
  let v404 : BitVec 32 := Scalar.extui v403
  let v405 : BitVec 32 := Scalar.subi v402 v404
  let c128_i32_193 : BitVec 32 := 128#32
  let c0_i32_196 : BitVec 32 := 0#32
  let v406 : BitVec 1 := Scalar.cmpi .sgt c128_i32_193 c0_i32_196
  let v407 : BitVec 32 := Scalar.extui v406
  let c0_i32_197 : BitVec 32 := 0#32
  let v408 : BitVec 1 := Scalar.cmpi .slt c128_i32_193 c0_i32_197
  let v409 : BitVec 32 := Scalar.extui v408
  let v410 : BitVec 32 := Scalar.subi v407 v409
  let v411 : BitVec 1 := Scalar.cmpi .ne v405 v410
  let v412 : BitVec 32 := Scalar.remsi v399 c128_i32_193
  let c0_i32_198 : BitVec 32 := 0#32
  let v413 : BitVec 1 := Scalar.cmpi .ne v412 c0_i32_198
  let v414 : BitVec 1 := Scalar.andi v411 v413
  let v400 : BitVec 32 := Scalar.divsi v399 c128_i32_193
  let c1_i32_199 : BitVec 32 := 1#32
  let v415 : BitVec 32 := Scalar.subi v400 c1_i32_199
  let v416 : BitVec 32 := Scalar.select v414 v415 v400
  let c128_i32_200 : BitVec 32 := 128#32
  let v417 : BitVec 32 := Scalar.muli v416 c128_i32_200
  let c99840_i32_201 : BitVec 32 := 99840#32
  let v418 : BitVec 32 := Scalar.minsi v417 c99840_i32_201
  let v419 : BitVec 32 := v418
  ![v421.toNat, v419.toNat]
def k0_mult30 (v427 : BitVec 32) : BitVec 32 :=
  let c_m1_i32_206 : BitVec 32 := 4294967295#32
  let v428 : BitVec 1 := Scalar.cmpi .ne v427 c_m1_i32_206
  let c0_i32_207 : BitVec 32 := 0#32
  let v429 : BitVec 32 := Scalar.select v428 v427 c0_i32_207
  let c0_i32_209 : BitVec 32 := 0#32
  let v431 : BitVec 1 := Scalar.cmpi .sgt v429 c0_i32_209
  let v432 : BitVec 32 := Scalar.extui v431
  let c0_i32_210 : BitVec 32 := 0#32
  let v433 : BitVec 1 := Scalar.cmpi .slt v429 c0_i32_210
  let v434 : BitVec 32 := Scalar.extui v433
  let v435 : BitVec 32 := Scalar.subi v432 v434
  let c128_i32_208 : BitVec 32 := 128#32
  let c0_i32_211 : BitVec 32 := 0#32
  let v436 : BitVec 1 := Scalar.cmpi .sgt c128_i32_208 c0_i32_211
  let v437 : BitVec 32 := Scalar.extui v436
  let c0_i32_212 : BitVec 32 := 0#32
  let v438 : BitVec 1 := Scalar.cmpi .slt c128_i32_208 c0_i32_212
  let v439 : BitVec 32 := Scalar.extui v438
  let v440 : BitVec 32 := Scalar.subi v437 v439
  let v441 : BitVec 1 := Scalar.cmpi .ne v435 v440
  let v442 : BitVec 32 := Scalar.remsi v429 c128_i32_208
  let c0_i32_213 : BitVec 32 := 0#32
  let v443 : BitVec 1 := Scalar.cmpi .ne v442 c0_i32_213
  let v444 : BitVec 1 := Scalar.andi v441 v443
  let v430 : BitVec 32 := Scalar.divsi v429 c128_i32_208
  let c1_i32_214 : BitVec 32 := 1#32
  let v445 : BitVec 32 := Scalar.subi v430 c1_i32_214
  let v446 : BitVec 32 := Scalar.select v444 v445 v430
  let c128_i32_215 : BitVec 32 := 128#32
  let v447 : BitVec 32 := Scalar.muli v446 c128_i32_215
  let c99840_i32_216 : BitVec 32 := 99840#32
  let v448 : BitVec 32 := Scalar.minsi v447 c99840_i32_216
  v448

def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_217 : BitVec 32 := 8#32
  let v450 : BitVec 32 := Scalar.addi v3 c8_i32_217
  v450
def k0_off16 (i : grid0.Coords) (v427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_217 : BitVec 32 := 8#32
  let v450 : BitVec 32 := Scalar.addi v3 c8_i32_217
  let v451 : BitVec 32 := v450
  let c_m1_i32_206 : BitVec 32 := 4294967295#32
  let v428 : BitVec 1 := Scalar.cmpi .ne v427 c_m1_i32_206
  let c0_i32_207 : BitVec 32 := 0#32
  let v429 : BitVec 32 := Scalar.select v428 v427 c0_i32_207
  let c0_i32_209 : BitVec 32 := 0#32
  let v431 : BitVec 1 := Scalar.cmpi .sgt v429 c0_i32_209
  let v432 : BitVec 32 := Scalar.extui v431
  let c0_i32_210 : BitVec 32 := 0#32
  let v433 : BitVec 1 := Scalar.cmpi .slt v429 c0_i32_210
  let v434 : BitVec 32 := Scalar.extui v433
  let v435 : BitVec 32 := Scalar.subi v432 v434
  let c128_i32_208 : BitVec 32 := 128#32
  let c0_i32_211 : BitVec 32 := 0#32
  let v436 : BitVec 1 := Scalar.cmpi .sgt c128_i32_208 c0_i32_211
  let v437 : BitVec 32 := Scalar.extui v436
  let c0_i32_212 : BitVec 32 := 0#32
  let v438 : BitVec 1 := Scalar.cmpi .slt c128_i32_208 c0_i32_212
  let v439 : BitVec 32 := Scalar.extui v438
  let v440 : BitVec 32 := Scalar.subi v437 v439
  let v441 : BitVec 1 := Scalar.cmpi .ne v435 v440
  let v442 : BitVec 32 := Scalar.remsi v429 c128_i32_208
  let c0_i32_213 : BitVec 32 := 0#32
  let v443 : BitVec 1 := Scalar.cmpi .ne v442 c0_i32_213
  let v444 : BitVec 1 := Scalar.andi v441 v443
  let v430 : BitVec 32 := Scalar.divsi v429 c128_i32_208
  let c1_i32_214 : BitVec 32 := 1#32
  let v445 : BitVec 32 := Scalar.subi v430 c1_i32_214
  let v446 : BitVec 32 := Scalar.select v444 v445 v430
  let c128_i32_215 : BitVec 32 := 128#32
  let v447 : BitVec 32 := Scalar.muli v446 c128_i32_215
  let c99840_i32_216 : BitVec 32 := 99840#32
  let v448 : BitVec 32 := Scalar.minsi v447 c99840_i32_216
  let v449 : BitVec 32 := v448
  ![v451.toNat, v449.toNat]
def k0_mult32 (v457 : BitVec 32) : BitVec 32 :=
  let c_m1_i32_221 : BitVec 32 := 4294967295#32
  let v458 : BitVec 1 := Scalar.cmpi .ne v457 c_m1_i32_221
  let c0_i32_222 : BitVec 32 := 0#32
  let v459 : BitVec 32 := Scalar.select v458 v457 c0_i32_222
  let c0_i32_224 : BitVec 32 := 0#32
  let v461 : BitVec 1 := Scalar.cmpi .sgt v459 c0_i32_224
  let v462 : BitVec 32 := Scalar.extui v461
  let c0_i32_225 : BitVec 32 := 0#32
  let v463 : BitVec 1 := Scalar.cmpi .slt v459 c0_i32_225
  let v464 : BitVec 32 := Scalar.extui v463
  let v465 : BitVec 32 := Scalar.subi v462 v464
  let c128_i32_223 : BitVec 32 := 128#32
  let c0_i32_226 : BitVec 32 := 0#32
  let v466 : BitVec 1 := Scalar.cmpi .sgt c128_i32_223 c0_i32_226
  let v467 : BitVec 32 := Scalar.extui v466
  let c0_i32_227 : BitVec 32 := 0#32
  let v468 : BitVec 1 := Scalar.cmpi .slt c128_i32_223 c0_i32_227
  let v469 : BitVec 32 := Scalar.extui v468
  let v470 : BitVec 32 := Scalar.subi v467 v469
  let v471 : BitVec 1 := Scalar.cmpi .ne v465 v470
  let v472 : BitVec 32 := Scalar.remsi v459 c128_i32_223
  let c0_i32_228 : BitVec 32 := 0#32
  let v473 : BitVec 1 := Scalar.cmpi .ne v472 c0_i32_228
  let v474 : BitVec 1 := Scalar.andi v471 v473
  let v460 : BitVec 32 := Scalar.divsi v459 c128_i32_223
  let c1_i32_229 : BitVec 32 := 1#32
  let v475 : BitVec 32 := Scalar.subi v460 c1_i32_229
  let v476 : BitVec 32 := Scalar.select v474 v475 v460
  let c128_i32_230 : BitVec 32 := 128#32
  let v477 : BitVec 32 := Scalar.muli v476 c128_i32_230
  let c99840_i32_231 : BitVec 32 := 99840#32
  let v478 : BitVec 32 := Scalar.minsi v477 c99840_i32_231
  v478

def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_232 : BitVec 32 := 8#32
  let v480 : BitVec 32 := Scalar.addi v3 c8_i32_232
  v480
def k0_off17 (i : grid0.Coords) (v457 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_232 : BitVec 32 := 8#32
  let v480 : BitVec 32 := Scalar.addi v3 c8_i32_232
  let v481 : BitVec 32 := v480
  let c_m1_i32_221 : BitVec 32 := 4294967295#32
  let v458 : BitVec 1 := Scalar.cmpi .ne v457 c_m1_i32_221
  let c0_i32_222 : BitVec 32 := 0#32
  let v459 : BitVec 32 := Scalar.select v458 v457 c0_i32_222
  let c0_i32_224 : BitVec 32 := 0#32
  let v461 : BitVec 1 := Scalar.cmpi .sgt v459 c0_i32_224
  let v462 : BitVec 32 := Scalar.extui v461
  let c0_i32_225 : BitVec 32 := 0#32
  let v463 : BitVec 1 := Scalar.cmpi .slt v459 c0_i32_225
  let v464 : BitVec 32 := Scalar.extui v463
  let v465 : BitVec 32 := Scalar.subi v462 v464
  let c128_i32_223 : BitVec 32 := 128#32
  let c0_i32_226 : BitVec 32 := 0#32
  let v466 : BitVec 1 := Scalar.cmpi .sgt c128_i32_223 c0_i32_226
  let v467 : BitVec 32 := Scalar.extui v466
  let c0_i32_227 : BitVec 32 := 0#32
  let v468 : BitVec 1 := Scalar.cmpi .slt c128_i32_223 c0_i32_227
  let v469 : BitVec 32 := Scalar.extui v468
  let v470 : BitVec 32 := Scalar.subi v467 v469
  let v471 : BitVec 1 := Scalar.cmpi .ne v465 v470
  let v472 : BitVec 32 := Scalar.remsi v459 c128_i32_223
  let c0_i32_228 : BitVec 32 := 0#32
  let v473 : BitVec 1 := Scalar.cmpi .ne v472 c0_i32_228
  let v474 : BitVec 1 := Scalar.andi v471 v473
  let v460 : BitVec 32 := Scalar.divsi v459 c128_i32_223
  let c1_i32_229 : BitVec 32 := 1#32
  let v475 : BitVec 32 := Scalar.subi v460 c1_i32_229
  let v476 : BitVec 32 := Scalar.select v474 v475 v460
  let c128_i32_230 : BitVec 32 := 128#32
  let v477 : BitVec 32 := Scalar.muli v476 c128_i32_230
  let c99840_i32_231 : BitVec 32 := 99840#32
  let v478 : BitVec 32 := Scalar.minsi v477 c99840_i32_231
  let v479 : BitVec 32 := v478
  ![v481.toNat, v479.toNat]
def k0_mult34 (v489 : BitVec 32) : BitVec 32 :=
  let c_m1_i32_236 : BitVec 32 := 4294967295#32
  let v490 : BitVec 1 := Scalar.cmpi .ne v489 c_m1_i32_236
  let c0_i32_237 : BitVec 32 := 0#32
  let v491 : BitVec 32 := Scalar.select v490 v489 c0_i32_237
  let c0_i32_239 : BitVec 32 := 0#32
  let v493 : BitVec 1 := Scalar.cmpi .sgt v491 c0_i32_239
  let v494 : BitVec 32 := Scalar.extui v493
  let c0_i32_240 : BitVec 32 := 0#32
  let v495 : BitVec 1 := Scalar.cmpi .slt v491 c0_i32_240
  let v496 : BitVec 32 := Scalar.extui v495
  let v497 : BitVec 32 := Scalar.subi v494 v496
  let c128_i32_238 : BitVec 32 := 128#32
  let c0_i32_241 : BitVec 32 := 0#32
  let v498 : BitVec 1 := Scalar.cmpi .sgt c128_i32_238 c0_i32_241
  let v499 : BitVec 32 := Scalar.extui v498
  let c0_i32_242 : BitVec 32 := 0#32
  let v500 : BitVec 1 := Scalar.cmpi .slt c128_i32_238 c0_i32_242
  let v501 : BitVec 32 := Scalar.extui v500
  let v502 : BitVec 32 := Scalar.subi v499 v501
  let v503 : BitVec 1 := Scalar.cmpi .ne v497 v502
  let v504 : BitVec 32 := Scalar.remsi v491 c128_i32_238
  let c0_i32_243 : BitVec 32 := 0#32
  let v505 : BitVec 1 := Scalar.cmpi .ne v504 c0_i32_243
  let v506 : BitVec 1 := Scalar.andi v503 v505
  let v492 : BitVec 32 := Scalar.divsi v491 c128_i32_238
  let c1_i32_244 : BitVec 32 := 1#32
  let v507 : BitVec 32 := Scalar.subi v492 c1_i32_244
  let v508 : BitVec 32 := Scalar.select v506 v507 v492
  let c128_i32_245 : BitVec 32 := 128#32
  let v509 : BitVec 32 := Scalar.muli v508 c128_i32_245
  let c99840_i32_246 : BitVec 32 := 99840#32
  let v510 : BitVec 32 := Scalar.minsi v509 c99840_i32_246
  v510

def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32 : BitVec 32 := 16#32
  let v512 : BitVec 32 := Scalar.addi v3 c16_i32
  v512
def k0_off18 (i : grid0.Coords) (v489 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32 : BitVec 32 := 16#32
  let v512 : BitVec 32 := Scalar.addi v3 c16_i32
  let v513 : BitVec 32 := v512
  let c_m1_i32_236 : BitVec 32 := 4294967295#32
  let v490 : BitVec 1 := Scalar.cmpi .ne v489 c_m1_i32_236
  let c0_i32_237 : BitVec 32 := 0#32
  let v491 : BitVec 32 := Scalar.select v490 v489 c0_i32_237
  let c0_i32_239 : BitVec 32 := 0#32
  let v493 : BitVec 1 := Scalar.cmpi .sgt v491 c0_i32_239
  let v494 : BitVec 32 := Scalar.extui v493
  let c0_i32_240 : BitVec 32 := 0#32
  let v495 : BitVec 1 := Scalar.cmpi .slt v491 c0_i32_240
  let v496 : BitVec 32 := Scalar.extui v495
  let v497 : BitVec 32 := Scalar.subi v494 v496
  let c128_i32_238 : BitVec 32 := 128#32
  let c0_i32_241 : BitVec 32 := 0#32
  let v498 : BitVec 1 := Scalar.cmpi .sgt c128_i32_238 c0_i32_241
  let v499 : BitVec 32 := Scalar.extui v498
  let c0_i32_242 : BitVec 32 := 0#32
  let v500 : BitVec 1 := Scalar.cmpi .slt c128_i32_238 c0_i32_242
  let v501 : BitVec 32 := Scalar.extui v500
  let v502 : BitVec 32 := Scalar.subi v499 v501
  let v503 : BitVec 1 := Scalar.cmpi .ne v497 v502
  let v504 : BitVec 32 := Scalar.remsi v491 c128_i32_238
  let c0_i32_243 : BitVec 32 := 0#32
  let v505 : BitVec 1 := Scalar.cmpi .ne v504 c0_i32_243
  let v506 : BitVec 1 := Scalar.andi v503 v505
  let v492 : BitVec 32 := Scalar.divsi v491 c128_i32_238
  let c1_i32_244 : BitVec 32 := 1#32
  let v507 : BitVec 32 := Scalar.subi v492 c1_i32_244
  let v508 : BitVec 32 := Scalar.select v506 v507 v492
  let c128_i32_245 : BitVec 32 := 128#32
  let v509 : BitVec 32 := Scalar.muli v508 c128_i32_245
  let c99840_i32_246 : BitVec 32 := 99840#32
  let v510 : BitVec 32 := Scalar.minsi v509 c99840_i32_246
  let v511 : BitVec 32 := v510
  ![v513.toNat, v511.toNat]
def k0_mult36 (v519 : BitVec 32) : BitVec 32 :=
  let c_m1_i32_250 : BitVec 32 := 4294967295#32
  let v520 : BitVec 1 := Scalar.cmpi .ne v519 c_m1_i32_250
  let c0_i32_251 : BitVec 32 := 0#32
  let v521 : BitVec 32 := Scalar.select v520 v519 c0_i32_251
  let c0_i32_253 : BitVec 32 := 0#32
  let v523 : BitVec 1 := Scalar.cmpi .sgt v521 c0_i32_253
  let v524 : BitVec 32 := Scalar.extui v523
  let c0_i32_254 : BitVec 32 := 0#32
  let v525 : BitVec 1 := Scalar.cmpi .slt v521 c0_i32_254
  let v526 : BitVec 32 := Scalar.extui v525
  let v527 : BitVec 32 := Scalar.subi v524 v526
  let c128_i32_252 : BitVec 32 := 128#32
  let c0_i32_255 : BitVec 32 := 0#32
  let v528 : BitVec 1 := Scalar.cmpi .sgt c128_i32_252 c0_i32_255
  let v529 : BitVec 32 := Scalar.extui v528
  let c0_i32_256 : BitVec 32 := 0#32
  let v530 : BitVec 1 := Scalar.cmpi .slt c128_i32_252 c0_i32_256
  let v531 : BitVec 32 := Scalar.extui v530
  let v532 : BitVec 32 := Scalar.subi v529 v531
  let v533 : BitVec 1 := Scalar.cmpi .ne v527 v532
  let v534 : BitVec 32 := Scalar.remsi v521 c128_i32_252
  let c0_i32_257 : BitVec 32 := 0#32
  let v535 : BitVec 1 := Scalar.cmpi .ne v534 c0_i32_257
  let v536 : BitVec 1 := Scalar.andi v533 v535
  let v522 : BitVec 32 := Scalar.divsi v521 c128_i32_252
  let c1_i32_258 : BitVec 32 := 1#32
  let v537 : BitVec 32 := Scalar.subi v522 c1_i32_258
  let v538 : BitVec 32 := Scalar.select v536 v537 v522
  let c128_i32_259 : BitVec 32 := 128#32
  let v539 : BitVec 32 := Scalar.muli v538 c128_i32_259
  let c99840_i32_260 : BitVec 32 := 99840#32
  let v540 : BitVec 32 := Scalar.minsi v539 c99840_i32_260
  v540

def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_261 : BitVec 32 := 16#32
  let v542 : BitVec 32 := Scalar.addi v3 c16_i32_261
  v542
def k0_off19 (i : grid0.Coords) (v519 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_261 : BitVec 32 := 16#32
  let v542 : BitVec 32 := Scalar.addi v3 c16_i32_261
  let v543 : BitVec 32 := v542
  let c_m1_i32_250 : BitVec 32 := 4294967295#32
  let v520 : BitVec 1 := Scalar.cmpi .ne v519 c_m1_i32_250
  let c0_i32_251 : BitVec 32 := 0#32
  let v521 : BitVec 32 := Scalar.select v520 v519 c0_i32_251
  let c0_i32_253 : BitVec 32 := 0#32
  let v523 : BitVec 1 := Scalar.cmpi .sgt v521 c0_i32_253
  let v524 : BitVec 32 := Scalar.extui v523
  let c0_i32_254 : BitVec 32 := 0#32
  let v525 : BitVec 1 := Scalar.cmpi .slt v521 c0_i32_254
  let v526 : BitVec 32 := Scalar.extui v525
  let v527 : BitVec 32 := Scalar.subi v524 v526
  let c128_i32_252 : BitVec 32 := 128#32
  let c0_i32_255 : BitVec 32 := 0#32
  let v528 : BitVec 1 := Scalar.cmpi .sgt c128_i32_252 c0_i32_255
  let v529 : BitVec 32 := Scalar.extui v528
  let c0_i32_256 : BitVec 32 := 0#32
  let v530 : BitVec 1 := Scalar.cmpi .slt c128_i32_252 c0_i32_256
  let v531 : BitVec 32 := Scalar.extui v530
  let v532 : BitVec 32 := Scalar.subi v529 v531
  let v533 : BitVec 1 := Scalar.cmpi .ne v527 v532
  let v534 : BitVec 32 := Scalar.remsi v521 c128_i32_252
  let c0_i32_257 : BitVec 32 := 0#32
  let v535 : BitVec 1 := Scalar.cmpi .ne v534 c0_i32_257
  let v536 : BitVec 1 := Scalar.andi v533 v535
  let v522 : BitVec 32 := Scalar.divsi v521 c128_i32_252
  let c1_i32_258 : BitVec 32 := 1#32
  let v537 : BitVec 32 := Scalar.subi v522 c1_i32_258
  let v538 : BitVec 32 := Scalar.select v536 v537 v522
  let c128_i32_259 : BitVec 32 := 128#32
  let v539 : BitVec 32 := Scalar.muli v538 c128_i32_259
  let c99840_i32_260 : BitVec 32 := 99840#32
  let v540 : BitVec 32 := Scalar.minsi v539 c99840_i32_260
  let v541 : BitVec 32 := v540
  ![v543.toNat, v541.toNat]
def k0_mult38 (v549 : BitVec 32) : BitVec 32 :=
  let c_m1_i32_265 : BitVec 32 := 4294967295#32
  let v550 : BitVec 1 := Scalar.cmpi .ne v549 c_m1_i32_265
  let c0_i32_266 : BitVec 32 := 0#32
  let v551 : BitVec 32 := Scalar.select v550 v549 c0_i32_266
  let c0_i32_268 : BitVec 32 := 0#32
  let v553 : BitVec 1 := Scalar.cmpi .sgt v551 c0_i32_268
  let v554 : BitVec 32 := Scalar.extui v553
  let c0_i32_269 : BitVec 32 := 0#32
  let v555 : BitVec 1 := Scalar.cmpi .slt v551 c0_i32_269
  let v556 : BitVec 32 := Scalar.extui v555
  let v557 : BitVec 32 := Scalar.subi v554 v556
  let c128_i32_267 : BitVec 32 := 128#32
  let c0_i32_270 : BitVec 32 := 0#32
  let v558 : BitVec 1 := Scalar.cmpi .sgt c128_i32_267 c0_i32_270
  let v559 : BitVec 32 := Scalar.extui v558
  let c0_i32_271 : BitVec 32 := 0#32
  let v560 : BitVec 1 := Scalar.cmpi .slt c128_i32_267 c0_i32_271
  let v561 : BitVec 32 := Scalar.extui v560
  let v562 : BitVec 32 := Scalar.subi v559 v561
  let v563 : BitVec 1 := Scalar.cmpi .ne v557 v562
  let v564 : BitVec 32 := Scalar.remsi v551 c128_i32_267
  let c0_i32_272 : BitVec 32 := 0#32
  let v565 : BitVec 1 := Scalar.cmpi .ne v564 c0_i32_272
  let v566 : BitVec 1 := Scalar.andi v563 v565
  let v552 : BitVec 32 := Scalar.divsi v551 c128_i32_267
  let c1_i32_273 : BitVec 32 := 1#32
  let v567 : BitVec 32 := Scalar.subi v552 c1_i32_273
  let v568 : BitVec 32 := Scalar.select v566 v567 v552
  let c128_i32_274 : BitVec 32 := 128#32
  let v569 : BitVec 32 := Scalar.muli v568 c128_i32_274
  let c99840_i32_275 : BitVec 32 := 99840#32
  let v570 : BitVec 32 := Scalar.minsi v569 c99840_i32_275
  v570

def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_276 : BitVec 32 := 16#32
  let v572 : BitVec 32 := Scalar.addi v3 c16_i32_276
  v572
def k0_off20 (i : grid0.Coords) (v549 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_276 : BitVec 32 := 16#32
  let v572 : BitVec 32 := Scalar.addi v3 c16_i32_276
  let v573 : BitVec 32 := v572
  let c_m1_i32_265 : BitVec 32 := 4294967295#32
  let v550 : BitVec 1 := Scalar.cmpi .ne v549 c_m1_i32_265
  let c0_i32_266 : BitVec 32 := 0#32
  let v551 : BitVec 32 := Scalar.select v550 v549 c0_i32_266
  let c0_i32_268 : BitVec 32 := 0#32
  let v553 : BitVec 1 := Scalar.cmpi .sgt v551 c0_i32_268
  let v554 : BitVec 32 := Scalar.extui v553
  let c0_i32_269 : BitVec 32 := 0#32
  let v555 : BitVec 1 := Scalar.cmpi .slt v551 c0_i32_269
  let v556 : BitVec 32 := Scalar.extui v555
  let v557 : BitVec 32 := Scalar.subi v554 v556
  let c128_i32_267 : BitVec 32 := 128#32
  let c0_i32_270 : BitVec 32 := 0#32
  let v558 : BitVec 1 := Scalar.cmpi .sgt c128_i32_267 c0_i32_270
  let v559 : BitVec 32 := Scalar.extui v558
  let c0_i32_271 : BitVec 32 := 0#32
  let v560 : BitVec 1 := Scalar.cmpi .slt c128_i32_267 c0_i32_271
  let v561 : BitVec 32 := Scalar.extui v560
  let v562 : BitVec 32 := Scalar.subi v559 v561
  let v563 : BitVec 1 := Scalar.cmpi .ne v557 v562
  let v564 : BitVec 32 := Scalar.remsi v551 c128_i32_267
  let c0_i32_272 : BitVec 32 := 0#32
  let v565 : BitVec 1 := Scalar.cmpi .ne v564 c0_i32_272
  let v566 : BitVec 1 := Scalar.andi v563 v565
  let v552 : BitVec 32 := Scalar.divsi v551 c128_i32_267
  let c1_i32_273 : BitVec 32 := 1#32
  let v567 : BitVec 32 := Scalar.subi v552 c1_i32_273
  let v568 : BitVec 32 := Scalar.select v566 v567 v552
  let c128_i32_274 : BitVec 32 := 128#32
  let v569 : BitVec 32 := Scalar.muli v568 c128_i32_274
  let c99840_i32_275 : BitVec 32 := 99840#32
  let v570 : BitVec 32 := Scalar.minsi v569 c99840_i32_275
  let v571 : BitVec 32 := v570
  ![v573.toNat, v571.toNat]
def k0_mult40 (v579 : BitVec 32) : BitVec 32 :=
  let c_m1_i32_280 : BitVec 32 := 4294967295#32
  let v580 : BitVec 1 := Scalar.cmpi .ne v579 c_m1_i32_280
  let c0_i32_281 : BitVec 32 := 0#32
  let v581 : BitVec 32 := Scalar.select v580 v579 c0_i32_281
  let c0_i32_283 : BitVec 32 := 0#32
  let v583 : BitVec 1 := Scalar.cmpi .sgt v581 c0_i32_283
  let v584 : BitVec 32 := Scalar.extui v583
  let c0_i32_284 : BitVec 32 := 0#32
  let v585 : BitVec 1 := Scalar.cmpi .slt v581 c0_i32_284
  let v586 : BitVec 32 := Scalar.extui v585
  let v587 : BitVec 32 := Scalar.subi v584 v586
  let c128_i32_282 : BitVec 32 := 128#32
  let c0_i32_285 : BitVec 32 := 0#32
  let v588 : BitVec 1 := Scalar.cmpi .sgt c128_i32_282 c0_i32_285
  let v589 : BitVec 32 := Scalar.extui v588
  let c0_i32_286 : BitVec 32 := 0#32
  let v590 : BitVec 1 := Scalar.cmpi .slt c128_i32_282 c0_i32_286
  let v591 : BitVec 32 := Scalar.extui v590
  let v592 : BitVec 32 := Scalar.subi v589 v591
  let v593 : BitVec 1 := Scalar.cmpi .ne v587 v592
  let v594 : BitVec 32 := Scalar.remsi v581 c128_i32_282
  let c0_i32_287 : BitVec 32 := 0#32
  let v595 : BitVec 1 := Scalar.cmpi .ne v594 c0_i32_287
  let v596 : BitVec 1 := Scalar.andi v593 v595
  let v582 : BitVec 32 := Scalar.divsi v581 c128_i32_282
  let c1_i32_288 : BitVec 32 := 1#32
  let v597 : BitVec 32 := Scalar.subi v582 c1_i32_288
  let v598 : BitVec 32 := Scalar.select v596 v597 v582
  let c128_i32_289 : BitVec 32 := 128#32
  let v599 : BitVec 32 := Scalar.muli v598 c128_i32_289
  let c99840_i32_290 : BitVec 32 := 99840#32
  let v600 : BitVec 32 := Scalar.minsi v599 c99840_i32_290
  v600

def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_291 : BitVec 32 := 16#32
  let v602 : BitVec 32 := Scalar.addi v3 c16_i32_291
  v602
def k0_off21 (i : grid0.Coords) (v579 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_291 : BitVec 32 := 16#32
  let v602 : BitVec 32 := Scalar.addi v3 c16_i32_291
  let v603 : BitVec 32 := v602
  let c_m1_i32_280 : BitVec 32 := 4294967295#32
  let v580 : BitVec 1 := Scalar.cmpi .ne v579 c_m1_i32_280
  let c0_i32_281 : BitVec 32 := 0#32
  let v581 : BitVec 32 := Scalar.select v580 v579 c0_i32_281
  let c0_i32_283 : BitVec 32 := 0#32
  let v583 : BitVec 1 := Scalar.cmpi .sgt v581 c0_i32_283
  let v584 : BitVec 32 := Scalar.extui v583
  let c0_i32_284 : BitVec 32 := 0#32
  let v585 : BitVec 1 := Scalar.cmpi .slt v581 c0_i32_284
  let v586 : BitVec 32 := Scalar.extui v585
  let v587 : BitVec 32 := Scalar.subi v584 v586
  let c128_i32_282 : BitVec 32 := 128#32
  let c0_i32_285 : BitVec 32 := 0#32
  let v588 : BitVec 1 := Scalar.cmpi .sgt c128_i32_282 c0_i32_285
  let v589 : BitVec 32 := Scalar.extui v588
  let c0_i32_286 : BitVec 32 := 0#32
  let v590 : BitVec 1 := Scalar.cmpi .slt c128_i32_282 c0_i32_286
  let v591 : BitVec 32 := Scalar.extui v590
  let v592 : BitVec 32 := Scalar.subi v589 v591
  let v593 : BitVec 1 := Scalar.cmpi .ne v587 v592
  let v594 : BitVec 32 := Scalar.remsi v581 c128_i32_282
  let c0_i32_287 : BitVec 32 := 0#32
  let v595 : BitVec 1 := Scalar.cmpi .ne v594 c0_i32_287
  let v596 : BitVec 1 := Scalar.andi v593 v595
  let v582 : BitVec 32 := Scalar.divsi v581 c128_i32_282
  let c1_i32_288 : BitVec 32 := 1#32
  let v597 : BitVec 32 := Scalar.subi v582 c1_i32_288
  let v598 : BitVec 32 := Scalar.select v596 v597 v582
  let c128_i32_289 : BitVec 32 := 128#32
  let v599 : BitVec 32 := Scalar.muli v598 c128_i32_289
  let c99840_i32_290 : BitVec 32 := 99840#32
  let v600 : BitVec 32 := Scalar.minsi v599 c99840_i32_290
  let v601 : BitVec 32 := v600
  ![v603.toNat, v601.toNat]
def k0_mult42 (v609 : BitVec 32) : BitVec 32 :=
  let c_m1_i32_295 : BitVec 32 := 4294967295#32
  let v610 : BitVec 1 := Scalar.cmpi .ne v609 c_m1_i32_295
  let c0_i32_296 : BitVec 32 := 0#32
  let v611 : BitVec 32 := Scalar.select v610 v609 c0_i32_296
  let c0_i32_298 : BitVec 32 := 0#32
  let v613 : BitVec 1 := Scalar.cmpi .sgt v611 c0_i32_298
  let v614 : BitVec 32 := Scalar.extui v613
  let c0_i32_299 : BitVec 32 := 0#32
  let v615 : BitVec 1 := Scalar.cmpi .slt v611 c0_i32_299
  let v616 : BitVec 32 := Scalar.extui v615
  let v617 : BitVec 32 := Scalar.subi v614 v616
  let c128_i32_297 : BitVec 32 := 128#32
  let c0_i32_300 : BitVec 32 := 0#32
  let v618 : BitVec 1 := Scalar.cmpi .sgt c128_i32_297 c0_i32_300
  let v619 : BitVec 32 := Scalar.extui v618
  let c0_i32_301 : BitVec 32 := 0#32
  let v620 : BitVec 1 := Scalar.cmpi .slt c128_i32_297 c0_i32_301
  let v621 : BitVec 32 := Scalar.extui v620
  let v622 : BitVec 32 := Scalar.subi v619 v621
  let v623 : BitVec 1 := Scalar.cmpi .ne v617 v622
  let v624 : BitVec 32 := Scalar.remsi v611 c128_i32_297
  let c0_i32_302 : BitVec 32 := 0#32
  let v625 : BitVec 1 := Scalar.cmpi .ne v624 c0_i32_302
  let v626 : BitVec 1 := Scalar.andi v623 v625
  let v612 : BitVec 32 := Scalar.divsi v611 c128_i32_297
  let c1_i32_303 : BitVec 32 := 1#32
  let v627 : BitVec 32 := Scalar.subi v612 c1_i32_303
  let v628 : BitVec 32 := Scalar.select v626 v627 v612
  let c128_i32_304 : BitVec 32 := 128#32
  let v629 : BitVec 32 := Scalar.muli v628 c128_i32_304
  let c99840_i32_305 : BitVec 32 := 99840#32
  let v630 : BitVec 32 := Scalar.minsi v629 c99840_i32_305
  v630

def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_306 : BitVec 32 := 16#32
  let v632 : BitVec 32 := Scalar.addi v3 c16_i32_306
  v632
def k0_off22 (i : grid0.Coords) (v609 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_306 : BitVec 32 := 16#32
  let v632 : BitVec 32 := Scalar.addi v3 c16_i32_306
  let v633 : BitVec 32 := v632
  let c_m1_i32_295 : BitVec 32 := 4294967295#32
  let v610 : BitVec 1 := Scalar.cmpi .ne v609 c_m1_i32_295
  let c0_i32_296 : BitVec 32 := 0#32
  let v611 : BitVec 32 := Scalar.select v610 v609 c0_i32_296
  let c0_i32_298 : BitVec 32 := 0#32
  let v613 : BitVec 1 := Scalar.cmpi .sgt v611 c0_i32_298
  let v614 : BitVec 32 := Scalar.extui v613
  let c0_i32_299 : BitVec 32 := 0#32
  let v615 : BitVec 1 := Scalar.cmpi .slt v611 c0_i32_299
  let v616 : BitVec 32 := Scalar.extui v615
  let v617 : BitVec 32 := Scalar.subi v614 v616
  let c128_i32_297 : BitVec 32 := 128#32
  let c0_i32_300 : BitVec 32 := 0#32
  let v618 : BitVec 1 := Scalar.cmpi .sgt c128_i32_297 c0_i32_300
  let v619 : BitVec 32 := Scalar.extui v618
  let c0_i32_301 : BitVec 32 := 0#32
  let v620 : BitVec 1 := Scalar.cmpi .slt c128_i32_297 c0_i32_301
  let v621 : BitVec 32 := Scalar.extui v620
  let v622 : BitVec 32 := Scalar.subi v619 v621
  let v623 : BitVec 1 := Scalar.cmpi .ne v617 v622
  let v624 : BitVec 32 := Scalar.remsi v611 c128_i32_297
  let c0_i32_302 : BitVec 32 := 0#32
  let v625 : BitVec 1 := Scalar.cmpi .ne v624 c0_i32_302
  let v626 : BitVec 1 := Scalar.andi v623 v625
  let v612 : BitVec 32 := Scalar.divsi v611 c128_i32_297
  let c1_i32_303 : BitVec 32 := 1#32
  let v627 : BitVec 32 := Scalar.subi v612 c1_i32_303
  let v628 : BitVec 32 := Scalar.select v626 v627 v612
  let c128_i32_304 : BitVec 32 := 128#32
  let v629 : BitVec 32 := Scalar.muli v628 c128_i32_304
  let c99840_i32_305 : BitVec 32 := 99840#32
  let v630 : BitVec 32 := Scalar.minsi v629 c99840_i32_305
  let v631 : BitVec 32 := v630
  ![v633.toNat, v631.toNat]
def k0_mult44 (v639 : BitVec 32) : BitVec 32 :=
  let c_m1_i32_310 : BitVec 32 := 4294967295#32
  let v640 : BitVec 1 := Scalar.cmpi .ne v639 c_m1_i32_310
  let c0_i32_311 : BitVec 32 := 0#32
  let v641 : BitVec 32 := Scalar.select v640 v639 c0_i32_311
  let c0_i32_313 : BitVec 32 := 0#32
  let v643 : BitVec 1 := Scalar.cmpi .sgt v641 c0_i32_313
  let v644 : BitVec 32 := Scalar.extui v643
  let c0_i32_314 : BitVec 32 := 0#32
  let v645 : BitVec 1 := Scalar.cmpi .slt v641 c0_i32_314
  let v646 : BitVec 32 := Scalar.extui v645
  let v647 : BitVec 32 := Scalar.subi v644 v646
  let c128_i32_312 : BitVec 32 := 128#32
  let c0_i32_315 : BitVec 32 := 0#32
  let v648 : BitVec 1 := Scalar.cmpi .sgt c128_i32_312 c0_i32_315
  let v649 : BitVec 32 := Scalar.extui v648
  let c0_i32_316 : BitVec 32 := 0#32
  let v650 : BitVec 1 := Scalar.cmpi .slt c128_i32_312 c0_i32_316
  let v651 : BitVec 32 := Scalar.extui v650
  let v652 : BitVec 32 := Scalar.subi v649 v651
  let v653 : BitVec 1 := Scalar.cmpi .ne v647 v652
  let v654 : BitVec 32 := Scalar.remsi v641 c128_i32_312
  let c0_i32_317 : BitVec 32 := 0#32
  let v655 : BitVec 1 := Scalar.cmpi .ne v654 c0_i32_317
  let v656 : BitVec 1 := Scalar.andi v653 v655
  let v642 : BitVec 32 := Scalar.divsi v641 c128_i32_312
  let c1_i32_318 : BitVec 32 := 1#32
  let v657 : BitVec 32 := Scalar.subi v642 c1_i32_318
  let v658 : BitVec 32 := Scalar.select v656 v657 v642
  let c128_i32_319 : BitVec 32 := 128#32
  let v659 : BitVec 32 := Scalar.muli v658 c128_i32_319
  let c99840_i32_320 : BitVec 32 := 99840#32
  let v660 : BitVec 32 := Scalar.minsi v659 c99840_i32_320
  v660

def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_321 : BitVec 32 := 16#32
  let v662 : BitVec 32 := Scalar.addi v3 c16_i32_321
  v662
def k0_off23 (i : grid0.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_321 : BitVec 32 := 16#32
  let v662 : BitVec 32 := Scalar.addi v3 c16_i32_321
  let v663 : BitVec 32 := v662
  let c_m1_i32_310 : BitVec 32 := 4294967295#32
  let v640 : BitVec 1 := Scalar.cmpi .ne v639 c_m1_i32_310
  let c0_i32_311 : BitVec 32 := 0#32
  let v641 : BitVec 32 := Scalar.select v640 v639 c0_i32_311
  let c0_i32_313 : BitVec 32 := 0#32
  let v643 : BitVec 1 := Scalar.cmpi .sgt v641 c0_i32_313
  let v644 : BitVec 32 := Scalar.extui v643
  let c0_i32_314 : BitVec 32 := 0#32
  let v645 : BitVec 1 := Scalar.cmpi .slt v641 c0_i32_314
  let v646 : BitVec 32 := Scalar.extui v645
  let v647 : BitVec 32 := Scalar.subi v644 v646
  let c128_i32_312 : BitVec 32 := 128#32
  let c0_i32_315 : BitVec 32 := 0#32
  let v648 : BitVec 1 := Scalar.cmpi .sgt c128_i32_312 c0_i32_315
  let v649 : BitVec 32 := Scalar.extui v648
  let c0_i32_316 : BitVec 32 := 0#32
  let v650 : BitVec 1 := Scalar.cmpi .slt c128_i32_312 c0_i32_316
  let v651 : BitVec 32 := Scalar.extui v650
  let v652 : BitVec 32 := Scalar.subi v649 v651
  let v653 : BitVec 1 := Scalar.cmpi .ne v647 v652
  let v654 : BitVec 32 := Scalar.remsi v641 c128_i32_312
  let c0_i32_317 : BitVec 32 := 0#32
  let v655 : BitVec 1 := Scalar.cmpi .ne v654 c0_i32_317
  let v656 : BitVec 1 := Scalar.andi v653 v655
  let v642 : BitVec 32 := Scalar.divsi v641 c128_i32_312
  let c1_i32_318 : BitVec 32 := 1#32
  let v657 : BitVec 32 := Scalar.subi v642 c1_i32_318
  let v658 : BitVec 32 := Scalar.select v656 v657 v642
  let c128_i32_319 : BitVec 32 := 128#32
  let v659 : BitVec 32 := Scalar.muli v658 c128_i32_319
  let c99840_i32_320 : BitVec 32 := 99840#32
  let v660 : BitVec 32 := Scalar.minsi v659 c99840_i32_320
  let v661 : BitVec 32 := v660
  ![v663.toNat, v661.toNat]
def k0_mult46 (v669 : BitVec 32) : BitVec 32 :=
  let c_m1_i32_325 : BitVec 32 := 4294967295#32
  let v670 : BitVec 1 := Scalar.cmpi .ne v669 c_m1_i32_325
  let c0_i32_326 : BitVec 32 := 0#32
  let v671 : BitVec 32 := Scalar.select v670 v669 c0_i32_326
  let c0_i32_328 : BitVec 32 := 0#32
  let v673 : BitVec 1 := Scalar.cmpi .sgt v671 c0_i32_328
  let v674 : BitVec 32 := Scalar.extui v673
  let c0_i32_329 : BitVec 32 := 0#32
  let v675 : BitVec 1 := Scalar.cmpi .slt v671 c0_i32_329
  let v676 : BitVec 32 := Scalar.extui v675
  let v677 : BitVec 32 := Scalar.subi v674 v676
  let c128_i32_327 : BitVec 32 := 128#32
  let c0_i32_330 : BitVec 32 := 0#32
  let v678 : BitVec 1 := Scalar.cmpi .sgt c128_i32_327 c0_i32_330
  let v679 : BitVec 32 := Scalar.extui v678
  let c0_i32_331 : BitVec 32 := 0#32
  let v680 : BitVec 1 := Scalar.cmpi .slt c128_i32_327 c0_i32_331
  let v681 : BitVec 32 := Scalar.extui v680
  let v682 : BitVec 32 := Scalar.subi v679 v681
  let v683 : BitVec 1 := Scalar.cmpi .ne v677 v682
  let v684 : BitVec 32 := Scalar.remsi v671 c128_i32_327
  let c0_i32_332 : BitVec 32 := 0#32
  let v685 : BitVec 1 := Scalar.cmpi .ne v684 c0_i32_332
  let v686 : BitVec 1 := Scalar.andi v683 v685
  let v672 : BitVec 32 := Scalar.divsi v671 c128_i32_327
  let c1_i32_333 : BitVec 32 := 1#32
  let v687 : BitVec 32 := Scalar.subi v672 c1_i32_333
  let v688 : BitVec 32 := Scalar.select v686 v687 v672
  let c128_i32_334 : BitVec 32 := 128#32
  let v689 : BitVec 32 := Scalar.muli v688 c128_i32_334
  let c99840_i32_335 : BitVec 32 := 99840#32
  let v690 : BitVec 32 := Scalar.minsi v689 c99840_i32_335
  v690

def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_336 : BitVec 32 := 16#32
  let v692 : BitVec 32 := Scalar.addi v3 c16_i32_336
  v692
def k0_off24 (i : grid0.Coords) (v669 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_336 : BitVec 32 := 16#32
  let v692 : BitVec 32 := Scalar.addi v3 c16_i32_336
  let v693 : BitVec 32 := v692
  let c_m1_i32_325 : BitVec 32 := 4294967295#32
  let v670 : BitVec 1 := Scalar.cmpi .ne v669 c_m1_i32_325
  let c0_i32_326 : BitVec 32 := 0#32
  let v671 : BitVec 32 := Scalar.select v670 v669 c0_i32_326
  let c0_i32_328 : BitVec 32 := 0#32
  let v673 : BitVec 1 := Scalar.cmpi .sgt v671 c0_i32_328
  let v674 : BitVec 32 := Scalar.extui v673
  let c0_i32_329 : BitVec 32 := 0#32
  let v675 : BitVec 1 := Scalar.cmpi .slt v671 c0_i32_329
  let v676 : BitVec 32 := Scalar.extui v675
  let v677 : BitVec 32 := Scalar.subi v674 v676
  let c128_i32_327 : BitVec 32 := 128#32
  let c0_i32_330 : BitVec 32 := 0#32
  let v678 : BitVec 1 := Scalar.cmpi .sgt c128_i32_327 c0_i32_330
  let v679 : BitVec 32 := Scalar.extui v678
  let c0_i32_331 : BitVec 32 := 0#32
  let v680 : BitVec 1 := Scalar.cmpi .slt c128_i32_327 c0_i32_331
  let v681 : BitVec 32 := Scalar.extui v680
  let v682 : BitVec 32 := Scalar.subi v679 v681
  let v683 : BitVec 1 := Scalar.cmpi .ne v677 v682
  let v684 : BitVec 32 := Scalar.remsi v671 c128_i32_327
  let c0_i32_332 : BitVec 32 := 0#32
  let v685 : BitVec 1 := Scalar.cmpi .ne v684 c0_i32_332
  let v686 : BitVec 1 := Scalar.andi v683 v685
  let v672 : BitVec 32 := Scalar.divsi v671 c128_i32_327
  let c1_i32_333 : BitVec 32 := 1#32
  let v687 : BitVec 32 := Scalar.subi v672 c1_i32_333
  let v688 : BitVec 32 := Scalar.select v686 v687 v672
  let c128_i32_334 : BitVec 32 := 128#32
  let v689 : BitVec 32 := Scalar.muli v688 c128_i32_334
  let c99840_i32_335 : BitVec 32 := 99840#32
  let v690 : BitVec 32 := Scalar.minsi v689 c99840_i32_335
  let v691 : BitVec 32 := v690
  ![v693.toNat, v691.toNat]
def k0_mult48 (v699 : BitVec 32) : BitVec 32 :=
  let c_m1_i32_340 : BitVec 32 := 4294967295#32
  let v700 : BitVec 1 := Scalar.cmpi .ne v699 c_m1_i32_340
  let c0_i32_341 : BitVec 32 := 0#32
  let v701 : BitVec 32 := Scalar.select v700 v699 c0_i32_341
  let c0_i32_343 : BitVec 32 := 0#32
  let v703 : BitVec 1 := Scalar.cmpi .sgt v701 c0_i32_343
  let v704 : BitVec 32 := Scalar.extui v703
  let c0_i32_344 : BitVec 32 := 0#32
  let v705 : BitVec 1 := Scalar.cmpi .slt v701 c0_i32_344
  let v706 : BitVec 32 := Scalar.extui v705
  let v707 : BitVec 32 := Scalar.subi v704 v706
  let c128_i32_342 : BitVec 32 := 128#32
  let c0_i32_345 : BitVec 32 := 0#32
  let v708 : BitVec 1 := Scalar.cmpi .sgt c128_i32_342 c0_i32_345
  let v709 : BitVec 32 := Scalar.extui v708
  let c0_i32_346 : BitVec 32 := 0#32
  let v710 : BitVec 1 := Scalar.cmpi .slt c128_i32_342 c0_i32_346
  let v711 : BitVec 32 := Scalar.extui v710
  let v712 : BitVec 32 := Scalar.subi v709 v711
  let v713 : BitVec 1 := Scalar.cmpi .ne v707 v712
  let v714 : BitVec 32 := Scalar.remsi v701 c128_i32_342
  let c0_i32_347 : BitVec 32 := 0#32
  let v715 : BitVec 1 := Scalar.cmpi .ne v714 c0_i32_347
  let v716 : BitVec 1 := Scalar.andi v713 v715
  let v702 : BitVec 32 := Scalar.divsi v701 c128_i32_342
  let c1_i32_348 : BitVec 32 := 1#32
  let v717 : BitVec 32 := Scalar.subi v702 c1_i32_348
  let v718 : BitVec 32 := Scalar.select v716 v717 v702
  let c128_i32_349 : BitVec 32 := 128#32
  let v719 : BitVec 32 := Scalar.muli v718 c128_i32_349
  let c99840_i32_350 : BitVec 32 := 99840#32
  let v720 : BitVec 32 := Scalar.minsi v719 c99840_i32_350
  v720

def k0_mult49 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_351 : BitVec 32 := 16#32
  let v722 : BitVec 32 := Scalar.addi v3 c16_i32_351
  v722
def k0_off25 (i : grid0.Coords) (v699 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_351 : BitVec 32 := 16#32
  let v722 : BitVec 32 := Scalar.addi v3 c16_i32_351
  let v723 : BitVec 32 := v722
  let c_m1_i32_340 : BitVec 32 := 4294967295#32
  let v700 : BitVec 1 := Scalar.cmpi .ne v699 c_m1_i32_340
  let c0_i32_341 : BitVec 32 := 0#32
  let v701 : BitVec 32 := Scalar.select v700 v699 c0_i32_341
  let c0_i32_343 : BitVec 32 := 0#32
  let v703 : BitVec 1 := Scalar.cmpi .sgt v701 c0_i32_343
  let v704 : BitVec 32 := Scalar.extui v703
  let c0_i32_344 : BitVec 32 := 0#32
  let v705 : BitVec 1 := Scalar.cmpi .slt v701 c0_i32_344
  let v706 : BitVec 32 := Scalar.extui v705
  let v707 : BitVec 32 := Scalar.subi v704 v706
  let c128_i32_342 : BitVec 32 := 128#32
  let c0_i32_345 : BitVec 32 := 0#32
  let v708 : BitVec 1 := Scalar.cmpi .sgt c128_i32_342 c0_i32_345
  let v709 : BitVec 32 := Scalar.extui v708
  let c0_i32_346 : BitVec 32 := 0#32
  let v710 : BitVec 1 := Scalar.cmpi .slt c128_i32_342 c0_i32_346
  let v711 : BitVec 32 := Scalar.extui v710
  let v712 : BitVec 32 := Scalar.subi v709 v711
  let v713 : BitVec 1 := Scalar.cmpi .ne v707 v712
  let v714 : BitVec 32 := Scalar.remsi v701 c128_i32_342
  let c0_i32_347 : BitVec 32 := 0#32
  let v715 : BitVec 1 := Scalar.cmpi .ne v714 c0_i32_347
  let v716 : BitVec 1 := Scalar.andi v713 v715
  let v702 : BitVec 32 := Scalar.divsi v701 c128_i32_342
  let c1_i32_348 : BitVec 32 := 1#32
  let v717 : BitVec 32 := Scalar.subi v702 c1_i32_348
  let v718 : BitVec 32 := Scalar.select v716 v717 v702
  let c128_i32_349 : BitVec 32 := 128#32
  let v719 : BitVec 32 := Scalar.muli v718 c128_i32_349
  let c99840_i32_350 : BitVec 32 := 99840#32
  let v720 : BitVec 32 := Scalar.minsi v719 c99840_i32_350
  let v721 : BitVec 32 := v720
  ![v723.toNat, v721.toNat]
def k0_mult50 (v729 : BitVec 32) : BitVec 32 :=
  let c_m1_i32_355 : BitVec 32 := 4294967295#32
  let v730 : BitVec 1 := Scalar.cmpi .ne v729 c_m1_i32_355
  let c0_i32_356 : BitVec 32 := 0#32
  let v731 : BitVec 32 := Scalar.select v730 v729 c0_i32_356
  let c0_i32_358 : BitVec 32 := 0#32
  let v733 : BitVec 1 := Scalar.cmpi .sgt v731 c0_i32_358
  let v734 : BitVec 32 := Scalar.extui v733
  let c0_i32_359 : BitVec 32 := 0#32
  let v735 : BitVec 1 := Scalar.cmpi .slt v731 c0_i32_359
  let v736 : BitVec 32 := Scalar.extui v735
  let v737 : BitVec 32 := Scalar.subi v734 v736
  let c128_i32_357 : BitVec 32 := 128#32
  let c0_i32_360 : BitVec 32 := 0#32
  let v738 : BitVec 1 := Scalar.cmpi .sgt c128_i32_357 c0_i32_360
  let v739 : BitVec 32 := Scalar.extui v738
  let c0_i32_361 : BitVec 32 := 0#32
  let v740 : BitVec 1 := Scalar.cmpi .slt c128_i32_357 c0_i32_361
  let v741 : BitVec 32 := Scalar.extui v740
  let v742 : BitVec 32 := Scalar.subi v739 v741
  let v743 : BitVec 1 := Scalar.cmpi .ne v737 v742
  let v744 : BitVec 32 := Scalar.remsi v731 c128_i32_357
  let c0_i32_362 : BitVec 32 := 0#32
  let v745 : BitVec 1 := Scalar.cmpi .ne v744 c0_i32_362
  let v746 : BitVec 1 := Scalar.andi v743 v745
  let v732 : BitVec 32 := Scalar.divsi v731 c128_i32_357
  let c1_i32_363 : BitVec 32 := 1#32
  let v747 : BitVec 32 := Scalar.subi v732 c1_i32_363
  let v748 : BitVec 32 := Scalar.select v746 v747 v732
  let c128_i32_364 : BitVec 32 := 128#32
  let v749 : BitVec 32 := Scalar.muli v748 c128_i32_364
  let c99840_i32_365 : BitVec 32 := 99840#32
  let v750 : BitVec 32 := Scalar.minsi v749 c99840_i32_365
  v750

def k0_mult51 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32 : BitVec 32 := 24#32
  let v752 : BitVec 32 := Scalar.addi v3 c24_i32
  v752
def k0_off26 (i : grid0.Coords) (v729 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32 : BitVec 32 := 24#32
  let v752 : BitVec 32 := Scalar.addi v3 c24_i32
  let v753 : BitVec 32 := v752
  let c_m1_i32_355 : BitVec 32 := 4294967295#32
  let v730 : BitVec 1 := Scalar.cmpi .ne v729 c_m1_i32_355
  let c0_i32_356 : BitVec 32 := 0#32
  let v731 : BitVec 32 := Scalar.select v730 v729 c0_i32_356
  let c0_i32_358 : BitVec 32 := 0#32
  let v733 : BitVec 1 := Scalar.cmpi .sgt v731 c0_i32_358
  let v734 : BitVec 32 := Scalar.extui v733
  let c0_i32_359 : BitVec 32 := 0#32
  let v735 : BitVec 1 := Scalar.cmpi .slt v731 c0_i32_359
  let v736 : BitVec 32 := Scalar.extui v735
  let v737 : BitVec 32 := Scalar.subi v734 v736
  let c128_i32_357 : BitVec 32 := 128#32
  let c0_i32_360 : BitVec 32 := 0#32
  let v738 : BitVec 1 := Scalar.cmpi .sgt c128_i32_357 c0_i32_360
  let v739 : BitVec 32 := Scalar.extui v738
  let c0_i32_361 : BitVec 32 := 0#32
  let v740 : BitVec 1 := Scalar.cmpi .slt c128_i32_357 c0_i32_361
  let v741 : BitVec 32 := Scalar.extui v740
  let v742 : BitVec 32 := Scalar.subi v739 v741
  let v743 : BitVec 1 := Scalar.cmpi .ne v737 v742
  let v744 : BitVec 32 := Scalar.remsi v731 c128_i32_357
  let c0_i32_362 : BitVec 32 := 0#32
  let v745 : BitVec 1 := Scalar.cmpi .ne v744 c0_i32_362
  let v746 : BitVec 1 := Scalar.andi v743 v745
  let v732 : BitVec 32 := Scalar.divsi v731 c128_i32_357
  let c1_i32_363 : BitVec 32 := 1#32
  let v747 : BitVec 32 := Scalar.subi v732 c1_i32_363
  let v748 : BitVec 32 := Scalar.select v746 v747 v732
  let c128_i32_364 : BitVec 32 := 128#32
  let v749 : BitVec 32 := Scalar.muli v748 c128_i32_364
  let c99840_i32_365 : BitVec 32 := 99840#32
  let v750 : BitVec 32 := Scalar.minsi v749 c99840_i32_365
  let v751 : BitVec 32 := v750
  ![v753.toNat, v751.toNat]
def k0_mult52 (v759 : BitVec 32) : BitVec 32 :=
  let c_m1_i32_369 : BitVec 32 := 4294967295#32
  let v760 : BitVec 1 := Scalar.cmpi .ne v759 c_m1_i32_369
  let c0_i32_370 : BitVec 32 := 0#32
  let v761 : BitVec 32 := Scalar.select v760 v759 c0_i32_370
  let c0_i32_372 : BitVec 32 := 0#32
  let v763 : BitVec 1 := Scalar.cmpi .sgt v761 c0_i32_372
  let v764 : BitVec 32 := Scalar.extui v763
  let c0_i32_373 : BitVec 32 := 0#32
  let v765 : BitVec 1 := Scalar.cmpi .slt v761 c0_i32_373
  let v766 : BitVec 32 := Scalar.extui v765
  let v767 : BitVec 32 := Scalar.subi v764 v766
  let c128_i32_371 : BitVec 32 := 128#32
  let c0_i32_374 : BitVec 32 := 0#32
  let v768 : BitVec 1 := Scalar.cmpi .sgt c128_i32_371 c0_i32_374
  let v769 : BitVec 32 := Scalar.extui v768
  let c0_i32_375 : BitVec 32 := 0#32
  let v770 : BitVec 1 := Scalar.cmpi .slt c128_i32_371 c0_i32_375
  let v771 : BitVec 32 := Scalar.extui v770
  let v772 : BitVec 32 := Scalar.subi v769 v771
  let v773 : BitVec 1 := Scalar.cmpi .ne v767 v772
  let v774 : BitVec 32 := Scalar.remsi v761 c128_i32_371
  let c0_i32_376 : BitVec 32 := 0#32
  let v775 : BitVec 1 := Scalar.cmpi .ne v774 c0_i32_376
  let v776 : BitVec 1 := Scalar.andi v773 v775
  let v762 : BitVec 32 := Scalar.divsi v761 c128_i32_371
  let c1_i32_377 : BitVec 32 := 1#32
  let v777 : BitVec 32 := Scalar.subi v762 c1_i32_377
  let v778 : BitVec 32 := Scalar.select v776 v777 v762
  let c128_i32_378 : BitVec 32 := 128#32
  let v779 : BitVec 32 := Scalar.muli v778 c128_i32_378
  let c99840_i32_379 : BitVec 32 := 99840#32
  let v780 : BitVec 32 := Scalar.minsi v779 c99840_i32_379
  v780

def k0_mult53 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_380 : BitVec 32 := 24#32
  let v782 : BitVec 32 := Scalar.addi v3 c24_i32_380
  v782
def k0_off27 (i : grid0.Coords) (v759 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_380 : BitVec 32 := 24#32
  let v782 : BitVec 32 := Scalar.addi v3 c24_i32_380
  let v783 : BitVec 32 := v782
  let c_m1_i32_369 : BitVec 32 := 4294967295#32
  let v760 : BitVec 1 := Scalar.cmpi .ne v759 c_m1_i32_369
  let c0_i32_370 : BitVec 32 := 0#32
  let v761 : BitVec 32 := Scalar.select v760 v759 c0_i32_370
  let c0_i32_372 : BitVec 32 := 0#32
  let v763 : BitVec 1 := Scalar.cmpi .sgt v761 c0_i32_372
  let v764 : BitVec 32 := Scalar.extui v763
  let c0_i32_373 : BitVec 32 := 0#32
  let v765 : BitVec 1 := Scalar.cmpi .slt v761 c0_i32_373
  let v766 : BitVec 32 := Scalar.extui v765
  let v767 : BitVec 32 := Scalar.subi v764 v766
  let c128_i32_371 : BitVec 32 := 128#32
  let c0_i32_374 : BitVec 32 := 0#32
  let v768 : BitVec 1 := Scalar.cmpi .sgt c128_i32_371 c0_i32_374
  let v769 : BitVec 32 := Scalar.extui v768
  let c0_i32_375 : BitVec 32 := 0#32
  let v770 : BitVec 1 := Scalar.cmpi .slt c128_i32_371 c0_i32_375
  let v771 : BitVec 32 := Scalar.extui v770
  let v772 : BitVec 32 := Scalar.subi v769 v771
  let v773 : BitVec 1 := Scalar.cmpi .ne v767 v772
  let v774 : BitVec 32 := Scalar.remsi v761 c128_i32_371
  let c0_i32_376 : BitVec 32 := 0#32
  let v775 : BitVec 1 := Scalar.cmpi .ne v774 c0_i32_376
  let v776 : BitVec 1 := Scalar.andi v773 v775
  let v762 : BitVec 32 := Scalar.divsi v761 c128_i32_371
  let c1_i32_377 : BitVec 32 := 1#32
  let v777 : BitVec 32 := Scalar.subi v762 c1_i32_377
  let v778 : BitVec 32 := Scalar.select v776 v777 v762
  let c128_i32_378 : BitVec 32 := 128#32
  let v779 : BitVec 32 := Scalar.muli v778 c128_i32_378
  let c99840_i32_379 : BitVec 32 := 99840#32
  let v780 : BitVec 32 := Scalar.minsi v779 c99840_i32_379
  let v781 : BitVec 32 := v780
  ![v783.toNat, v781.toNat]
def k0_mult54 (v789 : BitVec 32) : BitVec 32 :=
  let c_m1_i32_384 : BitVec 32 := 4294967295#32
  let v790 : BitVec 1 := Scalar.cmpi .ne v789 c_m1_i32_384
  let c0_i32_385 : BitVec 32 := 0#32
  let v791 : BitVec 32 := Scalar.select v790 v789 c0_i32_385
  let c0_i32_387 : BitVec 32 := 0#32
  let v793 : BitVec 1 := Scalar.cmpi .sgt v791 c0_i32_387
  let v794 : BitVec 32 := Scalar.extui v793
  let c0_i32_388 : BitVec 32 := 0#32
  let v795 : BitVec 1 := Scalar.cmpi .slt v791 c0_i32_388
  let v796 : BitVec 32 := Scalar.extui v795
  let v797 : BitVec 32 := Scalar.subi v794 v796
  let c128_i32_386 : BitVec 32 := 128#32
  let c0_i32_389 : BitVec 32 := 0#32
  let v798 : BitVec 1 := Scalar.cmpi .sgt c128_i32_386 c0_i32_389
  let v799 : BitVec 32 := Scalar.extui v798
  let c0_i32_390 : BitVec 32 := 0#32
  let v800 : BitVec 1 := Scalar.cmpi .slt c128_i32_386 c0_i32_390
  let v801 : BitVec 32 := Scalar.extui v800
  let v802 : BitVec 32 := Scalar.subi v799 v801
  let v803 : BitVec 1 := Scalar.cmpi .ne v797 v802
  let v804 : BitVec 32 := Scalar.remsi v791 c128_i32_386
  let c0_i32_391 : BitVec 32 := 0#32
  let v805 : BitVec 1 := Scalar.cmpi .ne v804 c0_i32_391
  let v806 : BitVec 1 := Scalar.andi v803 v805
  let v792 : BitVec 32 := Scalar.divsi v791 c128_i32_386
  let c1_i32_392 : BitVec 32 := 1#32
  let v807 : BitVec 32 := Scalar.subi v792 c1_i32_392
  let v808 : BitVec 32 := Scalar.select v806 v807 v792
  let c128_i32_393 : BitVec 32 := 128#32
  let v809 : BitVec 32 := Scalar.muli v808 c128_i32_393
  let c99840_i32_394 : BitVec 32 := 99840#32
  let v810 : BitVec 32 := Scalar.minsi v809 c99840_i32_394
  v810

def k0_mult55 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_395 : BitVec 32 := 24#32
  let v812 : BitVec 32 := Scalar.addi v3 c24_i32_395
  v812
def k0_off28 (i : grid0.Coords) (v789 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_395 : BitVec 32 := 24#32
  let v812 : BitVec 32 := Scalar.addi v3 c24_i32_395
  let v813 : BitVec 32 := v812
  let c_m1_i32_384 : BitVec 32 := 4294967295#32
  let v790 : BitVec 1 := Scalar.cmpi .ne v789 c_m1_i32_384
  let c0_i32_385 : BitVec 32 := 0#32
  let v791 : BitVec 32 := Scalar.select v790 v789 c0_i32_385
  let c0_i32_387 : BitVec 32 := 0#32
  let v793 : BitVec 1 := Scalar.cmpi .sgt v791 c0_i32_387
  let v794 : BitVec 32 := Scalar.extui v793
  let c0_i32_388 : BitVec 32 := 0#32
  let v795 : BitVec 1 := Scalar.cmpi .slt v791 c0_i32_388
  let v796 : BitVec 32 := Scalar.extui v795
  let v797 : BitVec 32 := Scalar.subi v794 v796
  let c128_i32_386 : BitVec 32 := 128#32
  let c0_i32_389 : BitVec 32 := 0#32
  let v798 : BitVec 1 := Scalar.cmpi .sgt c128_i32_386 c0_i32_389
  let v799 : BitVec 32 := Scalar.extui v798
  let c0_i32_390 : BitVec 32 := 0#32
  let v800 : BitVec 1 := Scalar.cmpi .slt c128_i32_386 c0_i32_390
  let v801 : BitVec 32 := Scalar.extui v800
  let v802 : BitVec 32 := Scalar.subi v799 v801
  let v803 : BitVec 1 := Scalar.cmpi .ne v797 v802
  let v804 : BitVec 32 := Scalar.remsi v791 c128_i32_386
  let c0_i32_391 : BitVec 32 := 0#32
  let v805 : BitVec 1 := Scalar.cmpi .ne v804 c0_i32_391
  let v806 : BitVec 1 := Scalar.andi v803 v805
  let v792 : BitVec 32 := Scalar.divsi v791 c128_i32_386
  let c1_i32_392 : BitVec 32 := 1#32
  let v807 : BitVec 32 := Scalar.subi v792 c1_i32_392
  let v808 : BitVec 32 := Scalar.select v806 v807 v792
  let c128_i32_393 : BitVec 32 := 128#32
  let v809 : BitVec 32 := Scalar.muli v808 c128_i32_393
  let c99840_i32_394 : BitVec 32 := 99840#32
  let v810 : BitVec 32 := Scalar.minsi v809 c99840_i32_394
  let v811 : BitVec 32 := v810
  ![v813.toNat, v811.toNat]
def k0_mult56 (v819 : BitVec 32) : BitVec 32 :=
  let c_m1_i32_399 : BitVec 32 := 4294967295#32
  let v820 : BitVec 1 := Scalar.cmpi .ne v819 c_m1_i32_399
  let c0_i32_400 : BitVec 32 := 0#32
  let v821 : BitVec 32 := Scalar.select v820 v819 c0_i32_400
  let c0_i32_402 : BitVec 32 := 0#32
  let v823 : BitVec 1 := Scalar.cmpi .sgt v821 c0_i32_402
  let v824 : BitVec 32 := Scalar.extui v823
  let c0_i32_403 : BitVec 32 := 0#32
  let v825 : BitVec 1 := Scalar.cmpi .slt v821 c0_i32_403
  let v826 : BitVec 32 := Scalar.extui v825
  let v827 : BitVec 32 := Scalar.subi v824 v826
  let c128_i32_401 : BitVec 32 := 128#32
  let c0_i32_404 : BitVec 32 := 0#32
  let v828 : BitVec 1 := Scalar.cmpi .sgt c128_i32_401 c0_i32_404
  let v829 : BitVec 32 := Scalar.extui v828
  let c0_i32_405 : BitVec 32 := 0#32
  let v830 : BitVec 1 := Scalar.cmpi .slt c128_i32_401 c0_i32_405
  let v831 : BitVec 32 := Scalar.extui v830
  let v832 : BitVec 32 := Scalar.subi v829 v831
  let v833 : BitVec 1 := Scalar.cmpi .ne v827 v832
  let v834 : BitVec 32 := Scalar.remsi v821 c128_i32_401
  let c0_i32_406 : BitVec 32 := 0#32
  let v835 : BitVec 1 := Scalar.cmpi .ne v834 c0_i32_406
  let v836 : BitVec 1 := Scalar.andi v833 v835
  let v822 : BitVec 32 := Scalar.divsi v821 c128_i32_401
  let c1_i32_407 : BitVec 32 := 1#32
  let v837 : BitVec 32 := Scalar.subi v822 c1_i32_407
  let v838 : BitVec 32 := Scalar.select v836 v837 v822
  let c128_i32_408 : BitVec 32 := 128#32
  let v839 : BitVec 32 := Scalar.muli v838 c128_i32_408
  let c99840_i32_409 : BitVec 32 := 99840#32
  let v840 : BitVec 32 := Scalar.minsi v839 c99840_i32_409
  v840

def k0_mult57 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_410 : BitVec 32 := 24#32
  let v842 : BitVec 32 := Scalar.addi v3 c24_i32_410
  v842
def k0_off29 (i : grid0.Coords) (v819 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_410 : BitVec 32 := 24#32
  let v842 : BitVec 32 := Scalar.addi v3 c24_i32_410
  let v843 : BitVec 32 := v842
  let c_m1_i32_399 : BitVec 32 := 4294967295#32
  let v820 : BitVec 1 := Scalar.cmpi .ne v819 c_m1_i32_399
  let c0_i32_400 : BitVec 32 := 0#32
  let v821 : BitVec 32 := Scalar.select v820 v819 c0_i32_400
  let c0_i32_402 : BitVec 32 := 0#32
  let v823 : BitVec 1 := Scalar.cmpi .sgt v821 c0_i32_402
  let v824 : BitVec 32 := Scalar.extui v823
  let c0_i32_403 : BitVec 32 := 0#32
  let v825 : BitVec 1 := Scalar.cmpi .slt v821 c0_i32_403
  let v826 : BitVec 32 := Scalar.extui v825
  let v827 : BitVec 32 := Scalar.subi v824 v826
  let c128_i32_401 : BitVec 32 := 128#32
  let c0_i32_404 : BitVec 32 := 0#32
  let v828 : BitVec 1 := Scalar.cmpi .sgt c128_i32_401 c0_i32_404
  let v829 : BitVec 32 := Scalar.extui v828
  let c0_i32_405 : BitVec 32 := 0#32
  let v830 : BitVec 1 := Scalar.cmpi .slt c128_i32_401 c0_i32_405
  let v831 : BitVec 32 := Scalar.extui v830
  let v832 : BitVec 32 := Scalar.subi v829 v831
  let v833 : BitVec 1 := Scalar.cmpi .ne v827 v832
  let v834 : BitVec 32 := Scalar.remsi v821 c128_i32_401
  let c0_i32_406 : BitVec 32 := 0#32
  let v835 : BitVec 1 := Scalar.cmpi .ne v834 c0_i32_406
  let v836 : BitVec 1 := Scalar.andi v833 v835
  let v822 : BitVec 32 := Scalar.divsi v821 c128_i32_401
  let c1_i32_407 : BitVec 32 := 1#32
  let v837 : BitVec 32 := Scalar.subi v822 c1_i32_407
  let v838 : BitVec 32 := Scalar.select v836 v837 v822
  let c128_i32_408 : BitVec 32 := 128#32
  let v839 : BitVec 32 := Scalar.muli v838 c128_i32_408
  let c99840_i32_409 : BitVec 32 := 99840#32
  let v840 : BitVec 32 := Scalar.minsi v839 c99840_i32_409
  let v841 : BitVec 32 := v840
  ![v843.toNat, v841.toNat]
def k0_mult58 (v849 : BitVec 32) : BitVec 32 :=
  let c_m1_i32_414 : BitVec 32 := 4294967295#32
  let v850 : BitVec 1 := Scalar.cmpi .ne v849 c_m1_i32_414
  let c0_i32_415 : BitVec 32 := 0#32
  let v851 : BitVec 32 := Scalar.select v850 v849 c0_i32_415
  let c0_i32_417 : BitVec 32 := 0#32
  let v853 : BitVec 1 := Scalar.cmpi .sgt v851 c0_i32_417
  let v854 : BitVec 32 := Scalar.extui v853
  let c0_i32_418 : BitVec 32 := 0#32
  let v855 : BitVec 1 := Scalar.cmpi .slt v851 c0_i32_418
  let v856 : BitVec 32 := Scalar.extui v855
  let v857 : BitVec 32 := Scalar.subi v854 v856
  let c128_i32_416 : BitVec 32 := 128#32
  let c0_i32_419 : BitVec 32 := 0#32
  let v858 : BitVec 1 := Scalar.cmpi .sgt c128_i32_416 c0_i32_419
  let v859 : BitVec 32 := Scalar.extui v858
  let c0_i32_420 : BitVec 32 := 0#32
  let v860 : BitVec 1 := Scalar.cmpi .slt c128_i32_416 c0_i32_420
  let v861 : BitVec 32 := Scalar.extui v860
  let v862 : BitVec 32 := Scalar.subi v859 v861
  let v863 : BitVec 1 := Scalar.cmpi .ne v857 v862
  let v864 : BitVec 32 := Scalar.remsi v851 c128_i32_416
  let c0_i32_421 : BitVec 32 := 0#32
  let v865 : BitVec 1 := Scalar.cmpi .ne v864 c0_i32_421
  let v866 : BitVec 1 := Scalar.andi v863 v865
  let v852 : BitVec 32 := Scalar.divsi v851 c128_i32_416
  let c1_i32_422 : BitVec 32 := 1#32
  let v867 : BitVec 32 := Scalar.subi v852 c1_i32_422
  let v868 : BitVec 32 := Scalar.select v866 v867 v852
  let c128_i32_423 : BitVec 32 := 128#32
  let v869 : BitVec 32 := Scalar.muli v868 c128_i32_423
  let c99840_i32_424 : BitVec 32 := 99840#32
  let v870 : BitVec 32 := Scalar.minsi v869 c99840_i32_424
  v870

def k0_mult59 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_425 : BitVec 32 := 24#32
  let v872 : BitVec 32 := Scalar.addi v3 c24_i32_425
  v872
def k0_off30 (i : grid0.Coords) (v849 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_425 : BitVec 32 := 24#32
  let v872 : BitVec 32 := Scalar.addi v3 c24_i32_425
  let v873 : BitVec 32 := v872
  let c_m1_i32_414 : BitVec 32 := 4294967295#32
  let v850 : BitVec 1 := Scalar.cmpi .ne v849 c_m1_i32_414
  let c0_i32_415 : BitVec 32 := 0#32
  let v851 : BitVec 32 := Scalar.select v850 v849 c0_i32_415
  let c0_i32_417 : BitVec 32 := 0#32
  let v853 : BitVec 1 := Scalar.cmpi .sgt v851 c0_i32_417
  let v854 : BitVec 32 := Scalar.extui v853
  let c0_i32_418 : BitVec 32 := 0#32
  let v855 : BitVec 1 := Scalar.cmpi .slt v851 c0_i32_418
  let v856 : BitVec 32 := Scalar.extui v855
  let v857 : BitVec 32 := Scalar.subi v854 v856
  let c128_i32_416 : BitVec 32 := 128#32
  let c0_i32_419 : BitVec 32 := 0#32
  let v858 : BitVec 1 := Scalar.cmpi .sgt c128_i32_416 c0_i32_419
  let v859 : BitVec 32 := Scalar.extui v858
  let c0_i32_420 : BitVec 32 := 0#32
  let v860 : BitVec 1 := Scalar.cmpi .slt c128_i32_416 c0_i32_420
  let v861 : BitVec 32 := Scalar.extui v860
  let v862 : BitVec 32 := Scalar.subi v859 v861
  let v863 : BitVec 1 := Scalar.cmpi .ne v857 v862
  let v864 : BitVec 32 := Scalar.remsi v851 c128_i32_416
  let c0_i32_421 : BitVec 32 := 0#32
  let v865 : BitVec 1 := Scalar.cmpi .ne v864 c0_i32_421
  let v866 : BitVec 1 := Scalar.andi v863 v865
  let v852 : BitVec 32 := Scalar.divsi v851 c128_i32_416
  let c1_i32_422 : BitVec 32 := 1#32
  let v867 : BitVec 32 := Scalar.subi v852 c1_i32_422
  let v868 : BitVec 32 := Scalar.select v866 v867 v852
  let c128_i32_423 : BitVec 32 := 128#32
  let v869 : BitVec 32 := Scalar.muli v868 c128_i32_423
  let c99840_i32_424 : BitVec 32 := 99840#32
  let v870 : BitVec 32 := Scalar.minsi v869 c99840_i32_424
  let v871 : BitVec 32 := v870
  ![v873.toNat, v871.toNat]
def k0_mult60 (v879 : BitVec 32) : BitVec 32 :=
  let c_m1_i32_429 : BitVec 32 := 4294967295#32
  let v880 : BitVec 1 := Scalar.cmpi .ne v879 c_m1_i32_429
  let c0_i32_430 : BitVec 32 := 0#32
  let v881 : BitVec 32 := Scalar.select v880 v879 c0_i32_430
  let c0_i32_432 : BitVec 32 := 0#32
  let v883 : BitVec 1 := Scalar.cmpi .sgt v881 c0_i32_432
  let v884 : BitVec 32 := Scalar.extui v883
  let c0_i32_433 : BitVec 32 := 0#32
  let v885 : BitVec 1 := Scalar.cmpi .slt v881 c0_i32_433
  let v886 : BitVec 32 := Scalar.extui v885
  let v887 : BitVec 32 := Scalar.subi v884 v886
  let c128_i32_431 : BitVec 32 := 128#32
  let c0_i32_434 : BitVec 32 := 0#32
  let v888 : BitVec 1 := Scalar.cmpi .sgt c128_i32_431 c0_i32_434
  let v889 : BitVec 32 := Scalar.extui v888
  let c0_i32_435 : BitVec 32 := 0#32
  let v890 : BitVec 1 := Scalar.cmpi .slt c128_i32_431 c0_i32_435
  let v891 : BitVec 32 := Scalar.extui v890
  let v892 : BitVec 32 := Scalar.subi v889 v891
  let v893 : BitVec 1 := Scalar.cmpi .ne v887 v892
  let v894 : BitVec 32 := Scalar.remsi v881 c128_i32_431
  let c0_i32_436 : BitVec 32 := 0#32
  let v895 : BitVec 1 := Scalar.cmpi .ne v894 c0_i32_436
  let v896 : BitVec 1 := Scalar.andi v893 v895
  let v882 : BitVec 32 := Scalar.divsi v881 c128_i32_431
  let c1_i32_437 : BitVec 32 := 1#32
  let v897 : BitVec 32 := Scalar.subi v882 c1_i32_437
  let v898 : BitVec 32 := Scalar.select v896 v897 v882
  let c128_i32_438 : BitVec 32 := 128#32
  let v899 : BitVec 32 := Scalar.muli v898 c128_i32_438
  let c99840_i32_439 : BitVec 32 := 99840#32
  let v900 : BitVec 32 := Scalar.minsi v899 c99840_i32_439
  v900

def k0_mult61 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_440 : BitVec 32 := 24#32
  let v902 : BitVec 32 := Scalar.addi v3 c24_i32_440
  v902
def k0_off31 (i : grid0.Coords) (v879 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_440 : BitVec 32 := 24#32
  let v902 : BitVec 32 := Scalar.addi v3 c24_i32_440
  let v903 : BitVec 32 := v902
  let c_m1_i32_429 : BitVec 32 := 4294967295#32
  let v880 : BitVec 1 := Scalar.cmpi .ne v879 c_m1_i32_429
  let c0_i32_430 : BitVec 32 := 0#32
  let v881 : BitVec 32 := Scalar.select v880 v879 c0_i32_430
  let c0_i32_432 : BitVec 32 := 0#32
  let v883 : BitVec 1 := Scalar.cmpi .sgt v881 c0_i32_432
  let v884 : BitVec 32 := Scalar.extui v883
  let c0_i32_433 : BitVec 32 := 0#32
  let v885 : BitVec 1 := Scalar.cmpi .slt v881 c0_i32_433
  let v886 : BitVec 32 := Scalar.extui v885
  let v887 : BitVec 32 := Scalar.subi v884 v886
  let c128_i32_431 : BitVec 32 := 128#32
  let c0_i32_434 : BitVec 32 := 0#32
  let v888 : BitVec 1 := Scalar.cmpi .sgt c128_i32_431 c0_i32_434
  let v889 : BitVec 32 := Scalar.extui v888
  let c0_i32_435 : BitVec 32 := 0#32
  let v890 : BitVec 1 := Scalar.cmpi .slt c128_i32_431 c0_i32_435
  let v891 : BitVec 32 := Scalar.extui v890
  let v892 : BitVec 32 := Scalar.subi v889 v891
  let v893 : BitVec 1 := Scalar.cmpi .ne v887 v892
  let v894 : BitVec 32 := Scalar.remsi v881 c128_i32_431
  let c0_i32_436 : BitVec 32 := 0#32
  let v895 : BitVec 1 := Scalar.cmpi .ne v894 c0_i32_436
  let v896 : BitVec 1 := Scalar.andi v893 v895
  let v882 : BitVec 32 := Scalar.divsi v881 c128_i32_431
  let c1_i32_437 : BitVec 32 := 1#32
  let v897 : BitVec 32 := Scalar.subi v882 c1_i32_437
  let v898 : BitVec 32 := Scalar.select v896 v897 v882
  let c128_i32_438 : BitVec 32 := 128#32
  let v899 : BitVec 32 := Scalar.muli v898 c128_i32_438
  let c99840_i32_439 : BitVec 32 := 99840#32
  let v900 : BitVec 32 := Scalar.minsi v899 c99840_i32_439
  let v901 : BitVec 32 := v900
  ![v903.toNat, v901.toNat]
def k0_mult62 (v909 : BitVec 32) : BitVec 32 :=
  let c_m1_i32_444 : BitVec 32 := 4294967295#32
  let v910 : BitVec 1 := Scalar.cmpi .ne v909 c_m1_i32_444
  let c0_i32_445 : BitVec 32 := 0#32
  let v911 : BitVec 32 := Scalar.select v910 v909 c0_i32_445
  let c0_i32_447 : BitVec 32 := 0#32
  let v913 : BitVec 1 := Scalar.cmpi .sgt v911 c0_i32_447
  let v914 : BitVec 32 := Scalar.extui v913
  let c0_i32_448 : BitVec 32 := 0#32
  let v915 : BitVec 1 := Scalar.cmpi .slt v911 c0_i32_448
  let v916 : BitVec 32 := Scalar.extui v915
  let v917 : BitVec 32 := Scalar.subi v914 v916
  let c128_i32_446 : BitVec 32 := 128#32
  let c0_i32_449 : BitVec 32 := 0#32
  let v918 : BitVec 1 := Scalar.cmpi .sgt c128_i32_446 c0_i32_449
  let v919 : BitVec 32 := Scalar.extui v918
  let c0_i32_450 : BitVec 32 := 0#32
  let v920 : BitVec 1 := Scalar.cmpi .slt c128_i32_446 c0_i32_450
  let v921 : BitVec 32 := Scalar.extui v920
  let v922 : BitVec 32 := Scalar.subi v919 v921
  let v923 : BitVec 1 := Scalar.cmpi .ne v917 v922
  let v924 : BitVec 32 := Scalar.remsi v911 c128_i32_446
  let c0_i32_451 : BitVec 32 := 0#32
  let v925 : BitVec 1 := Scalar.cmpi .ne v924 c0_i32_451
  let v926 : BitVec 1 := Scalar.andi v923 v925
  let v912 : BitVec 32 := Scalar.divsi v911 c128_i32_446
  let c1_i32_452 : BitVec 32 := 1#32
  let v927 : BitVec 32 := Scalar.subi v912 c1_i32_452
  let v928 : BitVec 32 := Scalar.select v926 v927 v912
  let c128_i32_453 : BitVec 32 := 128#32
  let v929 : BitVec 32 := Scalar.muli v928 c128_i32_453
  let c99840_i32_454 : BitVec 32 := 99840#32
  let v930 : BitVec 32 := Scalar.minsi v929 c99840_i32_454
  v930

def k0_mult63 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_455 : BitVec 32 := 24#32
  let v932 : BitVec 32 := Scalar.addi v3 c24_i32_455
  v932
def k0_off32 (i : grid0.Coords) (v909 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_455 : BitVec 32 := 24#32
  let v932 : BitVec 32 := Scalar.addi v3 c24_i32_455
  let v933 : BitVec 32 := v932
  let c_m1_i32_444 : BitVec 32 := 4294967295#32
  let v910 : BitVec 1 := Scalar.cmpi .ne v909 c_m1_i32_444
  let c0_i32_445 : BitVec 32 := 0#32
  let v911 : BitVec 32 := Scalar.select v910 v909 c0_i32_445
  let c0_i32_447 : BitVec 32 := 0#32
  let v913 : BitVec 1 := Scalar.cmpi .sgt v911 c0_i32_447
  let v914 : BitVec 32 := Scalar.extui v913
  let c0_i32_448 : BitVec 32 := 0#32
  let v915 : BitVec 1 := Scalar.cmpi .slt v911 c0_i32_448
  let v916 : BitVec 32 := Scalar.extui v915
  let v917 : BitVec 32 := Scalar.subi v914 v916
  let c128_i32_446 : BitVec 32 := 128#32
  let c0_i32_449 : BitVec 32 := 0#32
  let v918 : BitVec 1 := Scalar.cmpi .sgt c128_i32_446 c0_i32_449
  let v919 : BitVec 32 := Scalar.extui v918
  let c0_i32_450 : BitVec 32 := 0#32
  let v920 : BitVec 1 := Scalar.cmpi .slt c128_i32_446 c0_i32_450
  let v921 : BitVec 32 := Scalar.extui v920
  let v922 : BitVec 32 := Scalar.subi v919 v921
  let v923 : BitVec 1 := Scalar.cmpi .ne v917 v922
  let v924 : BitVec 32 := Scalar.remsi v911 c128_i32_446
  let c0_i32_451 : BitVec 32 := 0#32
  let v925 : BitVec 1 := Scalar.cmpi .ne v924 c0_i32_451
  let v926 : BitVec 1 := Scalar.andi v923 v925
  let v912 : BitVec 32 := Scalar.divsi v911 c128_i32_446
  let c1_i32_452 : BitVec 32 := 1#32
  let v927 : BitVec 32 := Scalar.subi v912 c1_i32_452
  let v928 : BitVec 32 := Scalar.select v926 v927 v912
  let c128_i32_453 : BitVec 32 := 128#32
  let v929 : BitVec 32 := Scalar.muli v928 c128_i32_453
  let c99840_i32_454 : BitVec 32 := 99840#32
  let v930 : BitVec 32 := Scalar.minsi v929 c99840_i32_454
  let v931 : BitVec 32 := v930
  ![v933.toNat, v931.toNat]
def k0_mult64 (v939 : BitVec 32) : BitVec 32 :=
  let c_m1_i32_459 : BitVec 32 := 4294967295#32
  let v940 : BitVec 1 := Scalar.cmpi .ne v939 c_m1_i32_459
  let c0_i32_460 : BitVec 32 := 0#32
  let v941 : BitVec 32 := Scalar.select v940 v939 c0_i32_460
  let c0_i32_462 : BitVec 32 := 0#32
  let v943 : BitVec 1 := Scalar.cmpi .sgt v941 c0_i32_462
  let v944 : BitVec 32 := Scalar.extui v943
  let c0_i32_463 : BitVec 32 := 0#32
  let v945 : BitVec 1 := Scalar.cmpi .slt v941 c0_i32_463
  let v946 : BitVec 32 := Scalar.extui v945
  let v947 : BitVec 32 := Scalar.subi v944 v946
  let c128_i32_461 : BitVec 32 := 128#32
  let c0_i32_464 : BitVec 32 := 0#32
  let v948 : BitVec 1 := Scalar.cmpi .sgt c128_i32_461 c0_i32_464
  let v949 : BitVec 32 := Scalar.extui v948
  let c0_i32_465 : BitVec 32 := 0#32
  let v950 : BitVec 1 := Scalar.cmpi .slt c128_i32_461 c0_i32_465
  let v951 : BitVec 32 := Scalar.extui v950
  let v952 : BitVec 32 := Scalar.subi v949 v951
  let v953 : BitVec 1 := Scalar.cmpi .ne v947 v952
  let v954 : BitVec 32 := Scalar.remsi v941 c128_i32_461
  let c0_i32_466 : BitVec 32 := 0#32
  let v955 : BitVec 1 := Scalar.cmpi .ne v954 c0_i32_466
  let v956 : BitVec 1 := Scalar.andi v953 v955
  let v942 : BitVec 32 := Scalar.divsi v941 c128_i32_461
  let c1_i32_467 : BitVec 32 := 1#32
  let v957 : BitVec 32 := Scalar.subi v942 c1_i32_467
  let v958 : BitVec 32 := Scalar.select v956 v957 v942
  let c128_i32_468 : BitVec 32 := 128#32
  let v959 : BitVec 32 := Scalar.muli v958 c128_i32_468
  let c99840_i32_469 : BitVec 32 := 99840#32
  let v960 : BitVec 32 := Scalar.minsi v959 c99840_i32_469
  v960

def k0_mult65 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_470 : BitVec 32 := 24#32
  let v962 : BitVec 32 := Scalar.addi v3 c24_i32_470
  v962
def k0_off33 (i : grid0.Coords) (v939 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_470 : BitVec 32 := 24#32
  let v962 : BitVec 32 := Scalar.addi v3 c24_i32_470
  let v963 : BitVec 32 := v962
  let c_m1_i32_459 : BitVec 32 := 4294967295#32
  let v940 : BitVec 1 := Scalar.cmpi .ne v939 c_m1_i32_459
  let c0_i32_460 : BitVec 32 := 0#32
  let v941 : BitVec 32 := Scalar.select v940 v939 c0_i32_460
  let c0_i32_462 : BitVec 32 := 0#32
  let v943 : BitVec 1 := Scalar.cmpi .sgt v941 c0_i32_462
  let v944 : BitVec 32 := Scalar.extui v943
  let c0_i32_463 : BitVec 32 := 0#32
  let v945 : BitVec 1 := Scalar.cmpi .slt v941 c0_i32_463
  let v946 : BitVec 32 := Scalar.extui v945
  let v947 : BitVec 32 := Scalar.subi v944 v946
  let c128_i32_461 : BitVec 32 := 128#32
  let c0_i32_464 : BitVec 32 := 0#32
  let v948 : BitVec 1 := Scalar.cmpi .sgt c128_i32_461 c0_i32_464
  let v949 : BitVec 32 := Scalar.extui v948
  let c0_i32_465 : BitVec 32 := 0#32
  let v950 : BitVec 1 := Scalar.cmpi .slt c128_i32_461 c0_i32_465
  let v951 : BitVec 32 := Scalar.extui v950
  let v952 : BitVec 32 := Scalar.subi v949 v951
  let v953 : BitVec 1 := Scalar.cmpi .ne v947 v952
  let v954 : BitVec 32 := Scalar.remsi v941 c128_i32_461
  let c0_i32_466 : BitVec 32 := 0#32
  let v955 : BitVec 1 := Scalar.cmpi .ne v954 c0_i32_466
  let v956 : BitVec 1 := Scalar.andi v953 v955
  let v942 : BitVec 32 := Scalar.divsi v941 c128_i32_461
  let c1_i32_467 : BitVec 32 := 1#32
  let v957 : BitVec 32 := Scalar.subi v942 c1_i32_467
  let v958 : BitVec 32 := Scalar.select v956 v957 v942
  let c128_i32_468 : BitVec 32 := 128#32
  let v959 : BitVec 32 := Scalar.muli v958 c128_i32_468
  let c99840_i32_469 : BitVec 32 := 99840#32
  let v960 : BitVec 32 := Scalar.minsi v959 c99840_i32_469
  let v961 : BitVec 32 := v960
  ![v963.toNat, v961.toNat]

def k0_chk32 (i : grid0.Coords) (v939 : BitVec 32) : Prop :=
  (128 ∣ (k0_mult64 v939).toNat) ∧
  (∀ a, (k0_off33 i v939) a + S8x128.size a ≤ S1024x100000.size a)
theorem k0_mult64_dvd : ∀ (i : grid0.Coords) (v939 : BitVec 32) (k0_hw32 : k0_chk32 i v939), 128 ∣ (k0_mult64 v939).toNat := fun i v939 k0_hw32 => k0_hw32.1
theorem k0_off33_inb : ∀ (i : grid0.Coords) (v939 : BitVec 32) (k0_hw32 : k0_chk32 i v939), ∀ a, (k0_off33 i v939) a + S8x128.size a ≤ S1024x100000.size a := fun i v939 k0_hw32 => k0_hw32.2

def k0_off34 (i : grid0.Coords) (v7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_6 : BitVec 32 := 0#32
  let v30 : BitVec 32 := Scalar.addi v3 c0_i32_6
  let v31 : BitVec 32 := v30
  let c_m1_i32 : BitVec 32 := 4294967295#32
  let v8 : BitVec 1 := Scalar.cmpi .ne v7 c_m1_i32
  let c0_i32 : BitVec 32 := 0#32
  let v9 : BitVec 32 := Scalar.select v8 v7 c0_i32
  let c0_i32_0 : BitVec 32 := 0#32
  let v11 : BitVec 1 := Scalar.cmpi .sgt v9 c0_i32_0
  let v12 : BitVec 32 := Scalar.extui v11
  let c0_i32_1 : BitVec 32 := 0#32
  let v13 : BitVec 1 := Scalar.cmpi .slt v9 c0_i32_1
  let v14 : BitVec 32 := Scalar.extui v13
  let v15 : BitVec 32 := Scalar.subi v12 v14
  let c128_i32 : BitVec 32 := 128#32
  let c0_i32_2 : BitVec 32 := 0#32
  let v16 : BitVec 1 := Scalar.cmpi .sgt c128_i32 c0_i32_2
  let v17 : BitVec 32 := Scalar.extui v16
  let c0_i32_3 : BitVec 32 := 0#32
  let v18 : BitVec 1 := Scalar.cmpi .slt c128_i32 c0_i32_3
  let v19 : BitVec 32 := Scalar.extui v18
  let v20 : BitVec 32 := Scalar.subi v17 v19
  let v21 : BitVec 1 := Scalar.cmpi .ne v15 v20
  let v22 : BitVec 32 := Scalar.remsi v9 c128_i32
  let c0_i32_4 : BitVec 32 := 0#32
  let v23 : BitVec 1 := Scalar.cmpi .ne v22 c0_i32_4
  let v24 : BitVec 1 := Scalar.andi v21 v23
  let v10 : BitVec 32 := Scalar.divsi v9 c128_i32
  let c1_i32 : BitVec 32 := 1#32
  let v25 : BitVec 32 := Scalar.subi v10 c1_i32
  let v26 : BitVec 32 := Scalar.select v24 v25 v10
  let c128_i32_5 : BitVec 32 := 128#32
  let v27 : BitVec 32 := Scalar.muli v26 c128_i32_5
  let c99840_i32 : BitVec 32 := 99840#32
  let v28 : BitVec 32 := Scalar.minsi v27 c99840_i32
  let v29 : BitVec 32 := v28
  ![v31.toNat, v29.toNat]

def k0_chk1 (i : grid0.Coords) (v7 : BitVec 32) : Prop :=
  (128 ∣ (k0_mult2 v7).toNat) ∧
  (∀ a, (k0_off2 i v7) a + S8x128.size a ≤ S1024x100000.size a) ∧
  (∀ a, (k0_off34 i v7) a + S8x128.size a ≤ S1024x100000.size a)
theorem k0_mult2_dvd : ∀ (i : grid0.Coords) (v7 : BitVec 32) (k0_hw1 : k0_chk1 i v7), 128 ∣ (k0_mult2 v7).toNat := fun i v7 k0_hw1 => k0_hw1.1
theorem k0_off2_inb : ∀ (i : grid0.Coords) (v7 : BitVec 32) (k0_hw1 : k0_chk1 i v7), ∀ a, (k0_off2 i v7) a + S8x128.size a ≤ S1024x100000.size a := fun i v7 k0_hw1 => k0_hw1.2.1
theorem k0_off34_inb : ∀ (i : grid0.Coords) (v7 : BitVec 32) (k0_hw1 : k0_chk1 i v7), ∀ a, (k0_off34 i v7) a + S8x128.size a ≤ S1024x100000.size a := fun i v7 k0_hw1 => k0_hw1.2.2

def k0_off35 (i : grid0.Coords) (v37 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_22 : BitVec 32 := 0#32
  let v60 : BitVec 32 := Scalar.addi v3 c0_i32_22
  let v61 : BitVec 32 := v60
  let c_m1_i32_11 : BitVec 32 := 4294967295#32
  let v38 : BitVec 1 := Scalar.cmpi .ne v37 c_m1_i32_11
  let c0_i32_12 : BitVec 32 := 0#32
  let v39 : BitVec 32 := Scalar.select v38 v37 c0_i32_12
  let c0_i32_14 : BitVec 32 := 0#32
  let v41 : BitVec 1 := Scalar.cmpi .sgt v39 c0_i32_14
  let v42 : BitVec 32 := Scalar.extui v41
  let c0_i32_15 : BitVec 32 := 0#32
  let v43 : BitVec 1 := Scalar.cmpi .slt v39 c0_i32_15
  let v44 : BitVec 32 := Scalar.extui v43
  let v45 : BitVec 32 := Scalar.subi v42 v44
  let c128_i32_13 : BitVec 32 := 128#32
  let c0_i32_16 : BitVec 32 := 0#32
  let v46 : BitVec 1 := Scalar.cmpi .sgt c128_i32_13 c0_i32_16
  let v47 : BitVec 32 := Scalar.extui v46
  let c0_i32_17 : BitVec 32 := 0#32
  let v48 : BitVec 1 := Scalar.cmpi .slt c128_i32_13 c0_i32_17
  let v49 : BitVec 32 := Scalar.extui v48
  let v50 : BitVec 32 := Scalar.subi v47 v49
  let v51 : BitVec 1 := Scalar.cmpi .ne v45 v50
  let v52 : BitVec 32 := Scalar.remsi v39 c128_i32_13
  let c0_i32_18 : BitVec 32 := 0#32
  let v53 : BitVec 1 := Scalar.cmpi .ne v52 c0_i32_18
  let v54 : BitVec 1 := Scalar.andi v51 v53
  let v40 : BitVec 32 := Scalar.divsi v39 c128_i32_13
  let c1_i32_19 : BitVec 32 := 1#32
  let v55 : BitVec 32 := Scalar.subi v40 c1_i32_19
  let v56 : BitVec 32 := Scalar.select v54 v55 v40
  let c128_i32_20 : BitVec 32 := 128#32
  let v57 : BitVec 32 := Scalar.muli v56 c128_i32_20
  let c99840_i32_21 : BitVec 32 := 99840#32
  let v58 : BitVec 32 := Scalar.minsi v57 c99840_i32_21
  let v59 : BitVec 32 := v58
  ![v61.toNat, v59.toNat]

def k0_chk2 (i : grid0.Coords) (v37 : BitVec 32) : Prop :=
  (128 ∣ (k0_mult4 v37).toNat) ∧
  (∀ a, (k0_off3 i v37) a + S8x128.size a ≤ S1024x100000.size a) ∧
  (∀ a, (k0_off35 i v37) a + S8x128.size a ≤ S1024x100000.size a)
theorem k0_mult4_dvd : ∀ (i : grid0.Coords) (v37 : BitVec 32) (k0_hw2 : k0_chk2 i v37), 128 ∣ (k0_mult4 v37).toNat := fun i v37 k0_hw2 => k0_hw2.1
theorem k0_off3_inb : ∀ (i : grid0.Coords) (v37 : BitVec 32) (k0_hw2 : k0_chk2 i v37), ∀ a, (k0_off3 i v37) a + S8x128.size a ≤ S1024x100000.size a := fun i v37 k0_hw2 => k0_hw2.2.1
theorem k0_off35_inb : ∀ (i : grid0.Coords) (v37 : BitVec 32) (k0_hw2 : k0_chk2 i v37), ∀ a, (k0_off35 i v37) a + S8x128.size a ≤ S1024x100000.size a := fun i v37 k0_hw2 => k0_hw2.2.2

def k0_off36 (i : grid0.Coords) (v67 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_38 : BitVec 32 := 0#32
  let v90 : BitVec 32 := Scalar.addi v3 c0_i32_38
  let v91 : BitVec 32 := v90
  let c_m1_i32_27 : BitVec 32 := 4294967295#32
  let v68 : BitVec 1 := Scalar.cmpi .ne v67 c_m1_i32_27
  let c0_i32_28 : BitVec 32 := 0#32
  let v69 : BitVec 32 := Scalar.select v68 v67 c0_i32_28
  let c0_i32_30 : BitVec 32 := 0#32
  let v71 : BitVec 1 := Scalar.cmpi .sgt v69 c0_i32_30
  let v72 : BitVec 32 := Scalar.extui v71
  let c0_i32_31 : BitVec 32 := 0#32
  let v73 : BitVec 1 := Scalar.cmpi .slt v69 c0_i32_31
  let v74 : BitVec 32 := Scalar.extui v73
  let v75 : BitVec 32 := Scalar.subi v72 v74
  let c128_i32_29 : BitVec 32 := 128#32
  let c0_i32_32 : BitVec 32 := 0#32
  let v76 : BitVec 1 := Scalar.cmpi .sgt c128_i32_29 c0_i32_32
  let v77 : BitVec 32 := Scalar.extui v76
  let c0_i32_33 : BitVec 32 := 0#32
  let v78 : BitVec 1 := Scalar.cmpi .slt c128_i32_29 c0_i32_33
  let v79 : BitVec 32 := Scalar.extui v78
  let v80 : BitVec 32 := Scalar.subi v77 v79
  let v81 : BitVec 1 := Scalar.cmpi .ne v75 v80
  let v82 : BitVec 32 := Scalar.remsi v69 c128_i32_29
  let c0_i32_34 : BitVec 32 := 0#32
  let v83 : BitVec 1 := Scalar.cmpi .ne v82 c0_i32_34
  let v84 : BitVec 1 := Scalar.andi v81 v83
  let v70 : BitVec 32 := Scalar.divsi v69 c128_i32_29
  let c1_i32_35 : BitVec 32 := 1#32
  let v85 : BitVec 32 := Scalar.subi v70 c1_i32_35
  let v86 : BitVec 32 := Scalar.select v84 v85 v70
  let c128_i32_36 : BitVec 32 := 128#32
  let v87 : BitVec 32 := Scalar.muli v86 c128_i32_36
  let c99840_i32_37 : BitVec 32 := 99840#32
  let v88 : BitVec 32 := Scalar.minsi v87 c99840_i32_37
  let v89 : BitVec 32 := v88
  ![v91.toNat, v89.toNat]

def k0_chk3 (i : grid0.Coords) (v67 : BitVec 32) : Prop :=
  (128 ∣ (k0_mult6 v67).toNat) ∧
  (∀ a, (k0_off4 i v67) a + S8x128.size a ≤ S1024x100000.size a) ∧
  (∀ a, (k0_off36 i v67) a + S8x128.size a ≤ S1024x100000.size a)
theorem k0_mult6_dvd : ∀ (i : grid0.Coords) (v67 : BitVec 32) (k0_hw3 : k0_chk3 i v67), 128 ∣ (k0_mult6 v67).toNat := fun i v67 k0_hw3 => k0_hw3.1
theorem k0_off4_inb : ∀ (i : grid0.Coords) (v67 : BitVec 32) (k0_hw3 : k0_chk3 i v67), ∀ a, (k0_off4 i v67) a + S8x128.size a ≤ S1024x100000.size a := fun i v67 k0_hw3 => k0_hw3.2.1
theorem k0_off36_inb : ∀ (i : grid0.Coords) (v67 : BitVec 32) (k0_hw3 : k0_chk3 i v67), ∀ a, (k0_off36 i v67) a + S8x128.size a ≤ S1024x100000.size a := fun i v67 k0_hw3 => k0_hw3.2.2

def k0_off37 (i : grid0.Coords) (v97 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_53 : BitVec 32 := 0#32
  let v120 : BitVec 32 := Scalar.addi v3 c0_i32_53
  let v121 : BitVec 32 := v120
  let c_m1_i32_42 : BitVec 32 := 4294967295#32
  let v98 : BitVec 1 := Scalar.cmpi .ne v97 c_m1_i32_42
  let c0_i32_43 : BitVec 32 := 0#32
  let v99 : BitVec 32 := Scalar.select v98 v97 c0_i32_43
  let c0_i32_45 : BitVec 32 := 0#32
  let v101 : BitVec 1 := Scalar.cmpi .sgt v99 c0_i32_45
  let v102 : BitVec 32 := Scalar.extui v101
  let c0_i32_46 : BitVec 32 := 0#32
  let v103 : BitVec 1 := Scalar.cmpi .slt v99 c0_i32_46
  let v104 : BitVec 32 := Scalar.extui v103
  let v105 : BitVec 32 := Scalar.subi v102 v104
  let c128_i32_44 : BitVec 32 := 128#32
  let c0_i32_47 : BitVec 32 := 0#32
  let v106 : BitVec 1 := Scalar.cmpi .sgt c128_i32_44 c0_i32_47
  let v107 : BitVec 32 := Scalar.extui v106
  let c0_i32_48 : BitVec 32 := 0#32
  let v108 : BitVec 1 := Scalar.cmpi .slt c128_i32_44 c0_i32_48
  let v109 : BitVec 32 := Scalar.extui v108
  let v110 : BitVec 32 := Scalar.subi v107 v109
  let v111 : BitVec 1 := Scalar.cmpi .ne v105 v110
  let v112 : BitVec 32 := Scalar.remsi v99 c128_i32_44
  let c0_i32_49 : BitVec 32 := 0#32
  let v113 : BitVec 1 := Scalar.cmpi .ne v112 c0_i32_49
  let v114 : BitVec 1 := Scalar.andi v111 v113
  let v100 : BitVec 32 := Scalar.divsi v99 c128_i32_44
  let c1_i32_50 : BitVec 32 := 1#32
  let v115 : BitVec 32 := Scalar.subi v100 c1_i32_50
  let v116 : BitVec 32 := Scalar.select v114 v115 v100
  let c128_i32_51 : BitVec 32 := 128#32
  let v117 : BitVec 32 := Scalar.muli v116 c128_i32_51
  let c99840_i32_52 : BitVec 32 := 99840#32
  let v118 : BitVec 32 := Scalar.minsi v117 c99840_i32_52
  let v119 : BitVec 32 := v118
  ![v121.toNat, v119.toNat]

def k0_chk4 (i : grid0.Coords) (v97 : BitVec 32) : Prop :=
  (128 ∣ (k0_mult8 v97).toNat) ∧
  (∀ a, (k0_off5 i v97) a + S8x128.size a ≤ S1024x100000.size a) ∧
  (∀ a, (k0_off37 i v97) a + S8x128.size a ≤ S1024x100000.size a)
theorem k0_mult8_dvd : ∀ (i : grid0.Coords) (v97 : BitVec 32) (k0_hw4 : k0_chk4 i v97), 128 ∣ (k0_mult8 v97).toNat := fun i v97 k0_hw4 => k0_hw4.1
theorem k0_off5_inb : ∀ (i : grid0.Coords) (v97 : BitVec 32) (k0_hw4 : k0_chk4 i v97), ∀ a, (k0_off5 i v97) a + S8x128.size a ≤ S1024x100000.size a := fun i v97 k0_hw4 => k0_hw4.2.1
theorem k0_off37_inb : ∀ (i : grid0.Coords) (v97 : BitVec 32) (k0_hw4 : k0_chk4 i v97), ∀ a, (k0_off37 i v97) a + S8x128.size a ≤ S1024x100000.size a := fun i v97 k0_hw4 => k0_hw4.2.2

def k0_off38 (i : grid0.Coords) (v127 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_68 : BitVec 32 := 0#32
  let v150 : BitVec 32 := Scalar.addi v3 c0_i32_68
  let v151 : BitVec 32 := v150
  let c_m1_i32_57 : BitVec 32 := 4294967295#32
  let v128 : BitVec 1 := Scalar.cmpi .ne v127 c_m1_i32_57
  let c0_i32_58 : BitVec 32 := 0#32
  let v129 : BitVec 32 := Scalar.select v128 v127 c0_i32_58
  let c0_i32_60 : BitVec 32 := 0#32
  let v131 : BitVec 1 := Scalar.cmpi .sgt v129 c0_i32_60
  let v132 : BitVec 32 := Scalar.extui v131
  let c0_i32_61 : BitVec 32 := 0#32
  let v133 : BitVec 1 := Scalar.cmpi .slt v129 c0_i32_61
  let v134 : BitVec 32 := Scalar.extui v133
  let v135 : BitVec 32 := Scalar.subi v132 v134
  let c128_i32_59 : BitVec 32 := 128#32
  let c0_i32_62 : BitVec 32 := 0#32
  let v136 : BitVec 1 := Scalar.cmpi .sgt c128_i32_59 c0_i32_62
  let v137 : BitVec 32 := Scalar.extui v136
  let c0_i32_63 : BitVec 32 := 0#32
  let v138 : BitVec 1 := Scalar.cmpi .slt c128_i32_59 c0_i32_63
  let v139 : BitVec 32 := Scalar.extui v138
  let v140 : BitVec 32 := Scalar.subi v137 v139
  let v141 : BitVec 1 := Scalar.cmpi .ne v135 v140
  let v142 : BitVec 32 := Scalar.remsi v129 c128_i32_59
  let c0_i32_64 : BitVec 32 := 0#32
  let v143 : BitVec 1 := Scalar.cmpi .ne v142 c0_i32_64
  let v144 : BitVec 1 := Scalar.andi v141 v143
  let v130 : BitVec 32 := Scalar.divsi v129 c128_i32_59
  let c1_i32_65 : BitVec 32 := 1#32
  let v145 : BitVec 32 := Scalar.subi v130 c1_i32_65
  let v146 : BitVec 32 := Scalar.select v144 v145 v130
  let c128_i32_66 : BitVec 32 := 128#32
  let v147 : BitVec 32 := Scalar.muli v146 c128_i32_66
  let c99840_i32_67 : BitVec 32 := 99840#32
  let v148 : BitVec 32 := Scalar.minsi v147 c99840_i32_67
  let v149 : BitVec 32 := v148
  ![v151.toNat, v149.toNat]

def k0_chk5 (i : grid0.Coords) (v127 : BitVec 32) : Prop :=
  (128 ∣ (k0_mult10 v127).toNat) ∧
  (∀ a, (k0_off6 i v127) a + S8x128.size a ≤ S1024x100000.size a) ∧
  (∀ a, (k0_off38 i v127) a + S8x128.size a ≤ S1024x100000.size a)
theorem k0_mult10_dvd : ∀ (i : grid0.Coords) (v127 : BitVec 32) (k0_hw5 : k0_chk5 i v127), 128 ∣ (k0_mult10 v127).toNat := fun i v127 k0_hw5 => k0_hw5.1
theorem k0_off6_inb : ∀ (i : grid0.Coords) (v127 : BitVec 32) (k0_hw5 : k0_chk5 i v127), ∀ a, (k0_off6 i v127) a + S8x128.size a ≤ S1024x100000.size a := fun i v127 k0_hw5 => k0_hw5.2.1
theorem k0_off38_inb : ∀ (i : grid0.Coords) (v127 : BitVec 32) (k0_hw5 : k0_chk5 i v127), ∀ a, (k0_off38 i v127) a + S8x128.size a ≤ S1024x100000.size a := fun i v127 k0_hw5 => k0_hw5.2.2

def k0_off39 (i : grid0.Coords) (v157 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_83 : BitVec 32 := 0#32
  let v180 : BitVec 32 := Scalar.addi v3 c0_i32_83
  let v181 : BitVec 32 := v180
  let c_m1_i32_72 : BitVec 32 := 4294967295#32
  let v158 : BitVec 1 := Scalar.cmpi .ne v157 c_m1_i32_72
  let c0_i32_73 : BitVec 32 := 0#32
  let v159 : BitVec 32 := Scalar.select v158 v157 c0_i32_73
  let c0_i32_75 : BitVec 32 := 0#32
  let v161 : BitVec 1 := Scalar.cmpi .sgt v159 c0_i32_75
  let v162 : BitVec 32 := Scalar.extui v161
  let c0_i32_76 : BitVec 32 := 0#32
  let v163 : BitVec 1 := Scalar.cmpi .slt v159 c0_i32_76
  let v164 : BitVec 32 := Scalar.extui v163
  let v165 : BitVec 32 := Scalar.subi v162 v164
  let c128_i32_74 : BitVec 32 := 128#32
  let c0_i32_77 : BitVec 32 := 0#32
  let v166 : BitVec 1 := Scalar.cmpi .sgt c128_i32_74 c0_i32_77
  let v167 : BitVec 32 := Scalar.extui v166
  let c0_i32_78 : BitVec 32 := 0#32
  let v168 : BitVec 1 := Scalar.cmpi .slt c128_i32_74 c0_i32_78
  let v169 : BitVec 32 := Scalar.extui v168
  let v170 : BitVec 32 := Scalar.subi v167 v169
  let v171 : BitVec 1 := Scalar.cmpi .ne v165 v170
  let v172 : BitVec 32 := Scalar.remsi v159 c128_i32_74
  let c0_i32_79 : BitVec 32 := 0#32
  let v173 : BitVec 1 := Scalar.cmpi .ne v172 c0_i32_79
  let v174 : BitVec 1 := Scalar.andi v171 v173
  let v160 : BitVec 32 := Scalar.divsi v159 c128_i32_74
  let c1_i32_80 : BitVec 32 := 1#32
  let v175 : BitVec 32 := Scalar.subi v160 c1_i32_80
  let v176 : BitVec 32 := Scalar.select v174 v175 v160
  let c128_i32_81 : BitVec 32 := 128#32
  let v177 : BitVec 32 := Scalar.muli v176 c128_i32_81
  let c99840_i32_82 : BitVec 32 := 99840#32
  let v178 : BitVec 32 := Scalar.minsi v177 c99840_i32_82
  let v179 : BitVec 32 := v178
  ![v181.toNat, v179.toNat]

def k0_chk6 (i : grid0.Coords) (v157 : BitVec 32) : Prop :=
  (128 ∣ (k0_mult12 v157).toNat) ∧
  (∀ a, (k0_off7 i v157) a + S8x128.size a ≤ S1024x100000.size a) ∧
  (∀ a, (k0_off39 i v157) a + S8x128.size a ≤ S1024x100000.size a)
theorem k0_mult12_dvd : ∀ (i : grid0.Coords) (v157 : BitVec 32) (k0_hw6 : k0_chk6 i v157), 128 ∣ (k0_mult12 v157).toNat := fun i v157 k0_hw6 => k0_hw6.1
theorem k0_off7_inb : ∀ (i : grid0.Coords) (v157 : BitVec 32) (k0_hw6 : k0_chk6 i v157), ∀ a, (k0_off7 i v157) a + S8x128.size a ≤ S1024x100000.size a := fun i v157 k0_hw6 => k0_hw6.2.1
theorem k0_off39_inb : ∀ (i : grid0.Coords) (v157 : BitVec 32) (k0_hw6 : k0_chk6 i v157), ∀ a, (k0_off39 i v157) a + S8x128.size a ≤ S1024x100000.size a := fun i v157 k0_hw6 => k0_hw6.2.2

def k0_off40 (i : grid0.Coords) (v187 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_98 : BitVec 32 := 0#32
  let v210 : BitVec 32 := Scalar.addi v3 c0_i32_98
  let v211 : BitVec 32 := v210
  let c_m1_i32_87 : BitVec 32 := 4294967295#32
  let v188 : BitVec 1 := Scalar.cmpi .ne v187 c_m1_i32_87
  let c0_i32_88 : BitVec 32 := 0#32
  let v189 : BitVec 32 := Scalar.select v188 v187 c0_i32_88
  let c0_i32_90 : BitVec 32 := 0#32
  let v191 : BitVec 1 := Scalar.cmpi .sgt v189 c0_i32_90
  let v192 : BitVec 32 := Scalar.extui v191
  let c0_i32_91 : BitVec 32 := 0#32
  let v193 : BitVec 1 := Scalar.cmpi .slt v189 c0_i32_91
  let v194 : BitVec 32 := Scalar.extui v193
  let v195 : BitVec 32 := Scalar.subi v192 v194
  let c128_i32_89 : BitVec 32 := 128#32
  let c0_i32_92 : BitVec 32 := 0#32
  let v196 : BitVec 1 := Scalar.cmpi .sgt c128_i32_89 c0_i32_92
  let v197 : BitVec 32 := Scalar.extui v196
  let c0_i32_93 : BitVec 32 := 0#32
  let v198 : BitVec 1 := Scalar.cmpi .slt c128_i32_89 c0_i32_93
  let v199 : BitVec 32 := Scalar.extui v198
  let v200 : BitVec 32 := Scalar.subi v197 v199
  let v201 : BitVec 1 := Scalar.cmpi .ne v195 v200
  let v202 : BitVec 32 := Scalar.remsi v189 c128_i32_89
  let c0_i32_94 : BitVec 32 := 0#32
  let v203 : BitVec 1 := Scalar.cmpi .ne v202 c0_i32_94
  let v204 : BitVec 1 := Scalar.andi v201 v203
  let v190 : BitVec 32 := Scalar.divsi v189 c128_i32_89
  let c1_i32_95 : BitVec 32 := 1#32
  let v205 : BitVec 32 := Scalar.subi v190 c1_i32_95
  let v206 : BitVec 32 := Scalar.select v204 v205 v190
  let c128_i32_96 : BitVec 32 := 128#32
  let v207 : BitVec 32 := Scalar.muli v206 c128_i32_96
  let c99840_i32_97 : BitVec 32 := 99840#32
  let v208 : BitVec 32 := Scalar.minsi v207 c99840_i32_97
  let v209 : BitVec 32 := v208
  ![v211.toNat, v209.toNat]

def k0_chk7 (i : grid0.Coords) (v187 : BitVec 32) : Prop :=
  (128 ∣ (k0_mult14 v187).toNat) ∧
  (∀ a, (k0_off8 i v187) a + S8x128.size a ≤ S1024x100000.size a) ∧
  (∀ a, (k0_off40 i v187) a + S8x128.size a ≤ S1024x100000.size a)
theorem k0_mult14_dvd : ∀ (i : grid0.Coords) (v187 : BitVec 32) (k0_hw7 : k0_chk7 i v187), 128 ∣ (k0_mult14 v187).toNat := fun i v187 k0_hw7 => k0_hw7.1
theorem k0_off8_inb : ∀ (i : grid0.Coords) (v187 : BitVec 32) (k0_hw7 : k0_chk7 i v187), ∀ a, (k0_off8 i v187) a + S8x128.size a ≤ S1024x100000.size a := fun i v187 k0_hw7 => k0_hw7.2.1
theorem k0_off40_inb : ∀ (i : grid0.Coords) (v187 : BitVec 32) (k0_hw7 : k0_chk7 i v187), ∀ a, (k0_off40 i v187) a + S8x128.size a ≤ S1024x100000.size a := fun i v187 k0_hw7 => k0_hw7.2.2

def k0_off41 (i : grid0.Coords) (v217 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c0_i32_113 : BitVec 32 := 0#32
  let v240 : BitVec 32 := Scalar.addi v3 c0_i32_113
  let v241 : BitVec 32 := v240
  let c_m1_i32_102 : BitVec 32 := 4294967295#32
  let v218 : BitVec 1 := Scalar.cmpi .ne v217 c_m1_i32_102
  let c0_i32_103 : BitVec 32 := 0#32
  let v219 : BitVec 32 := Scalar.select v218 v217 c0_i32_103
  let c0_i32_105 : BitVec 32 := 0#32
  let v221 : BitVec 1 := Scalar.cmpi .sgt v219 c0_i32_105
  let v222 : BitVec 32 := Scalar.extui v221
  let c0_i32_106 : BitVec 32 := 0#32
  let v223 : BitVec 1 := Scalar.cmpi .slt v219 c0_i32_106
  let v224 : BitVec 32 := Scalar.extui v223
  let v225 : BitVec 32 := Scalar.subi v222 v224
  let c128_i32_104 : BitVec 32 := 128#32
  let c0_i32_107 : BitVec 32 := 0#32
  let v226 : BitVec 1 := Scalar.cmpi .sgt c128_i32_104 c0_i32_107
  let v227 : BitVec 32 := Scalar.extui v226
  let c0_i32_108 : BitVec 32 := 0#32
  let v228 : BitVec 1 := Scalar.cmpi .slt c128_i32_104 c0_i32_108
  let v229 : BitVec 32 := Scalar.extui v228
  let v230 : BitVec 32 := Scalar.subi v227 v229
  let v231 : BitVec 1 := Scalar.cmpi .ne v225 v230
  let v232 : BitVec 32 := Scalar.remsi v219 c128_i32_104
  let c0_i32_109 : BitVec 32 := 0#32
  let v233 : BitVec 1 := Scalar.cmpi .ne v232 c0_i32_109
  let v234 : BitVec 1 := Scalar.andi v231 v233
  let v220 : BitVec 32 := Scalar.divsi v219 c128_i32_104
  let c1_i32_110 : BitVec 32 := 1#32
  let v235 : BitVec 32 := Scalar.subi v220 c1_i32_110
  let v236 : BitVec 32 := Scalar.select v234 v235 v220
  let c128_i32_111 : BitVec 32 := 128#32
  let v237 : BitVec 32 := Scalar.muli v236 c128_i32_111
  let c99840_i32_112 : BitVec 32 := 99840#32
  let v238 : BitVec 32 := Scalar.minsi v237 c99840_i32_112
  let v239 : BitVec 32 := v238
  ![v241.toNat, v239.toNat]

def k0_chk8 (i : grid0.Coords) (v217 : BitVec 32) : Prop :=
  (128 ∣ (k0_mult16 v217).toNat) ∧
  (∀ a, (k0_off9 i v217) a + S8x128.size a ≤ S1024x100000.size a) ∧
  (∀ a, (k0_off41 i v217) a + S8x128.size a ≤ S1024x100000.size a)
theorem k0_mult16_dvd : ∀ (i : grid0.Coords) (v217 : BitVec 32) (k0_hw8 : k0_chk8 i v217), 128 ∣ (k0_mult16 v217).toNat := fun i v217 k0_hw8 => k0_hw8.1
theorem k0_off9_inb : ∀ (i : grid0.Coords) (v217 : BitVec 32) (k0_hw8 : k0_chk8 i v217), ∀ a, (k0_off9 i v217) a + S8x128.size a ≤ S1024x100000.size a := fun i v217 k0_hw8 => k0_hw8.2.1
theorem k0_off41_inb : ∀ (i : grid0.Coords) (v217 : BitVec 32) (k0_hw8 : k0_chk8 i v217), ∀ a, (k0_off41 i v217) a + S8x128.size a ≤ S1024x100000.size a := fun i v217 k0_hw8 => k0_hw8.2.2

def k0_off42 (i : grid0.Coords) (v247 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32 : BitVec 32 := 8#32
  let v270 : BitVec 32 := Scalar.addi v3 c8_i32
  let v271 : BitVec 32 := v270
  let c_m1_i32_117 : BitVec 32 := 4294967295#32
  let v248 : BitVec 1 := Scalar.cmpi .ne v247 c_m1_i32_117
  let c0_i32_118 : BitVec 32 := 0#32
  let v249 : BitVec 32 := Scalar.select v248 v247 c0_i32_118
  let c0_i32_120 : BitVec 32 := 0#32
  let v251 : BitVec 1 := Scalar.cmpi .sgt v249 c0_i32_120
  let v252 : BitVec 32 := Scalar.extui v251
  let c0_i32_121 : BitVec 32 := 0#32
  let v253 : BitVec 1 := Scalar.cmpi .slt v249 c0_i32_121
  let v254 : BitVec 32 := Scalar.extui v253
  let v255 : BitVec 32 := Scalar.subi v252 v254
  let c128_i32_119 : BitVec 32 := 128#32
  let c0_i32_122 : BitVec 32 := 0#32
  let v256 : BitVec 1 := Scalar.cmpi .sgt c128_i32_119 c0_i32_122
  let v257 : BitVec 32 := Scalar.extui v256
  let c0_i32_123 : BitVec 32 := 0#32
  let v258 : BitVec 1 := Scalar.cmpi .slt c128_i32_119 c0_i32_123
  let v259 : BitVec 32 := Scalar.extui v258
  let v260 : BitVec 32 := Scalar.subi v257 v259
  let v261 : BitVec 1 := Scalar.cmpi .ne v255 v260
  let v262 : BitVec 32 := Scalar.remsi v249 c128_i32_119
  let c0_i32_124 : BitVec 32 := 0#32
  let v263 : BitVec 1 := Scalar.cmpi .ne v262 c0_i32_124
  let v264 : BitVec 1 := Scalar.andi v261 v263
  let v250 : BitVec 32 := Scalar.divsi v249 c128_i32_119
  let c1_i32_125 : BitVec 32 := 1#32
  let v265 : BitVec 32 := Scalar.subi v250 c1_i32_125
  let v266 : BitVec 32 := Scalar.select v264 v265 v250
  let c128_i32_126 : BitVec 32 := 128#32
  let v267 : BitVec 32 := Scalar.muli v266 c128_i32_126
  let c99840_i32_127 : BitVec 32 := 99840#32
  let v268 : BitVec 32 := Scalar.minsi v267 c99840_i32_127
  let v269 : BitVec 32 := v268
  ![v271.toNat, v269.toNat]

def k0_chk9 (i : grid0.Coords) (v247 : BitVec 32) : Prop :=
  (128 ∣ (k0_mult18 v247).toNat) ∧
  (∀ a, (k0_off10 i v247) a + S8x128.size a ≤ S1024x100000.size a) ∧
  (∀ a, (k0_off42 i v247) a + S8x128.size a ≤ S1024x100000.size a)
theorem k0_mult18_dvd : ∀ (i : grid0.Coords) (v247 : BitVec 32) (k0_hw9 : k0_chk9 i v247), 128 ∣ (k0_mult18 v247).toNat := fun i v247 k0_hw9 => k0_hw9.1
theorem k0_off10_inb : ∀ (i : grid0.Coords) (v247 : BitVec 32) (k0_hw9 : k0_chk9 i v247), ∀ a, (k0_off10 i v247) a + S8x128.size a ≤ S1024x100000.size a := fun i v247 k0_hw9 => k0_hw9.2.1
theorem k0_off42_inb : ∀ (i : grid0.Coords) (v247 : BitVec 32) (k0_hw9 : k0_chk9 i v247), ∀ a, (k0_off42 i v247) a + S8x128.size a ≤ S1024x100000.size a := fun i v247 k0_hw9 => k0_hw9.2.2

def k0_off43 (i : grid0.Coords) (v277 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_142 : BitVec 32 := 8#32
  let v300 : BitVec 32 := Scalar.addi v3 c8_i32_142
  let v301 : BitVec 32 := v300
  let c_m1_i32_131 : BitVec 32 := 4294967295#32
  let v278 : BitVec 1 := Scalar.cmpi .ne v277 c_m1_i32_131
  let c0_i32_132 : BitVec 32 := 0#32
  let v279 : BitVec 32 := Scalar.select v278 v277 c0_i32_132
  let c0_i32_134 : BitVec 32 := 0#32
  let v281 : BitVec 1 := Scalar.cmpi .sgt v279 c0_i32_134
  let v282 : BitVec 32 := Scalar.extui v281
  let c0_i32_135 : BitVec 32 := 0#32
  let v283 : BitVec 1 := Scalar.cmpi .slt v279 c0_i32_135
  let v284 : BitVec 32 := Scalar.extui v283
  let v285 : BitVec 32 := Scalar.subi v282 v284
  let c128_i32_133 : BitVec 32 := 128#32
  let c0_i32_136 : BitVec 32 := 0#32
  let v286 : BitVec 1 := Scalar.cmpi .sgt c128_i32_133 c0_i32_136
  let v287 : BitVec 32 := Scalar.extui v286
  let c0_i32_137 : BitVec 32 := 0#32
  let v288 : BitVec 1 := Scalar.cmpi .slt c128_i32_133 c0_i32_137
  let v289 : BitVec 32 := Scalar.extui v288
  let v290 : BitVec 32 := Scalar.subi v287 v289
  let v291 : BitVec 1 := Scalar.cmpi .ne v285 v290
  let v292 : BitVec 32 := Scalar.remsi v279 c128_i32_133
  let c0_i32_138 : BitVec 32 := 0#32
  let v293 : BitVec 1 := Scalar.cmpi .ne v292 c0_i32_138
  let v294 : BitVec 1 := Scalar.andi v291 v293
  let v280 : BitVec 32 := Scalar.divsi v279 c128_i32_133
  let c1_i32_139 : BitVec 32 := 1#32
  let v295 : BitVec 32 := Scalar.subi v280 c1_i32_139
  let v296 : BitVec 32 := Scalar.select v294 v295 v280
  let c128_i32_140 : BitVec 32 := 128#32
  let v297 : BitVec 32 := Scalar.muli v296 c128_i32_140
  let c99840_i32_141 : BitVec 32 := 99840#32
  let v298 : BitVec 32 := Scalar.minsi v297 c99840_i32_141
  let v299 : BitVec 32 := v298
  ![v301.toNat, v299.toNat]

def k0_chk10 (i : grid0.Coords) (v277 : BitVec 32) : Prop :=
  (128 ∣ (k0_mult20 v277).toNat) ∧
  (∀ a, (k0_off11 i v277) a + S8x128.size a ≤ S1024x100000.size a) ∧
  (∀ a, (k0_off43 i v277) a + S8x128.size a ≤ S1024x100000.size a)
theorem k0_mult20_dvd : ∀ (i : grid0.Coords) (v277 : BitVec 32) (k0_hw10 : k0_chk10 i v277), 128 ∣ (k0_mult20 v277).toNat := fun i v277 k0_hw10 => k0_hw10.1
theorem k0_off11_inb : ∀ (i : grid0.Coords) (v277 : BitVec 32) (k0_hw10 : k0_chk10 i v277), ∀ a, (k0_off11 i v277) a + S8x128.size a ≤ S1024x100000.size a := fun i v277 k0_hw10 => k0_hw10.2.1
theorem k0_off43_inb : ∀ (i : grid0.Coords) (v277 : BitVec 32) (k0_hw10 : k0_chk10 i v277), ∀ a, (k0_off43 i v277) a + S8x128.size a ≤ S1024x100000.size a := fun i v277 k0_hw10 => k0_hw10.2.2

def k0_off44 (i : grid0.Coords) (v307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_157 : BitVec 32 := 8#32
  let v330 : BitVec 32 := Scalar.addi v3 c8_i32_157
  let v331 : BitVec 32 := v330
  let c_m1_i32_146 : BitVec 32 := 4294967295#32
  let v308 : BitVec 1 := Scalar.cmpi .ne v307 c_m1_i32_146
  let c0_i32_147 : BitVec 32 := 0#32
  let v309 : BitVec 32 := Scalar.select v308 v307 c0_i32_147
  let c0_i32_149 : BitVec 32 := 0#32
  let v311 : BitVec 1 := Scalar.cmpi .sgt v309 c0_i32_149
  let v312 : BitVec 32 := Scalar.extui v311
  let c0_i32_150 : BitVec 32 := 0#32
  let v313 : BitVec 1 := Scalar.cmpi .slt v309 c0_i32_150
  let v314 : BitVec 32 := Scalar.extui v313
  let v315 : BitVec 32 := Scalar.subi v312 v314
  let c128_i32_148 : BitVec 32 := 128#32
  let c0_i32_151 : BitVec 32 := 0#32
  let v316 : BitVec 1 := Scalar.cmpi .sgt c128_i32_148 c0_i32_151
  let v317 : BitVec 32 := Scalar.extui v316
  let c0_i32_152 : BitVec 32 := 0#32
  let v318 : BitVec 1 := Scalar.cmpi .slt c128_i32_148 c0_i32_152
  let v319 : BitVec 32 := Scalar.extui v318
  let v320 : BitVec 32 := Scalar.subi v317 v319
  let v321 : BitVec 1 := Scalar.cmpi .ne v315 v320
  let v322 : BitVec 32 := Scalar.remsi v309 c128_i32_148
  let c0_i32_153 : BitVec 32 := 0#32
  let v323 : BitVec 1 := Scalar.cmpi .ne v322 c0_i32_153
  let v324 : BitVec 1 := Scalar.andi v321 v323
  let v310 : BitVec 32 := Scalar.divsi v309 c128_i32_148
  let c1_i32_154 : BitVec 32 := 1#32
  let v325 : BitVec 32 := Scalar.subi v310 c1_i32_154
  let v326 : BitVec 32 := Scalar.select v324 v325 v310
  let c128_i32_155 : BitVec 32 := 128#32
  let v327 : BitVec 32 := Scalar.muli v326 c128_i32_155
  let c99840_i32_156 : BitVec 32 := 99840#32
  let v328 : BitVec 32 := Scalar.minsi v327 c99840_i32_156
  let v329 : BitVec 32 := v328
  ![v331.toNat, v329.toNat]

def k0_chk11 (i : grid0.Coords) (v307 : BitVec 32) : Prop :=
  (128 ∣ (k0_mult22 v307).toNat) ∧
  (∀ a, (k0_off12 i v307) a + S8x128.size a ≤ S1024x100000.size a) ∧
  (∀ a, (k0_off44 i v307) a + S8x128.size a ≤ S1024x100000.size a)
theorem k0_mult22_dvd : ∀ (i : grid0.Coords) (v307 : BitVec 32) (k0_hw11 : k0_chk11 i v307), 128 ∣ (k0_mult22 v307).toNat := fun i v307 k0_hw11 => k0_hw11.1
theorem k0_off12_inb : ∀ (i : grid0.Coords) (v307 : BitVec 32) (k0_hw11 : k0_chk11 i v307), ∀ a, (k0_off12 i v307) a + S8x128.size a ≤ S1024x100000.size a := fun i v307 k0_hw11 => k0_hw11.2.1
theorem k0_off44_inb : ∀ (i : grid0.Coords) (v307 : BitVec 32) (k0_hw11 : k0_chk11 i v307), ∀ a, (k0_off44 i v307) a + S8x128.size a ≤ S1024x100000.size a := fun i v307 k0_hw11 => k0_hw11.2.2

def k0_off45 (i : grid0.Coords) (v337 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_172 : BitVec 32 := 8#32
  let v360 : BitVec 32 := Scalar.addi v3 c8_i32_172
  let v361 : BitVec 32 := v360
  let c_m1_i32_161 : BitVec 32 := 4294967295#32
  let v338 : BitVec 1 := Scalar.cmpi .ne v337 c_m1_i32_161
  let c0_i32_162 : BitVec 32 := 0#32
  let v339 : BitVec 32 := Scalar.select v338 v337 c0_i32_162
  let c0_i32_164 : BitVec 32 := 0#32
  let v341 : BitVec 1 := Scalar.cmpi .sgt v339 c0_i32_164
  let v342 : BitVec 32 := Scalar.extui v341
  let c0_i32_165 : BitVec 32 := 0#32
  let v343 : BitVec 1 := Scalar.cmpi .slt v339 c0_i32_165
  let v344 : BitVec 32 := Scalar.extui v343
  let v345 : BitVec 32 := Scalar.subi v342 v344
  let c128_i32_163 : BitVec 32 := 128#32
  let c0_i32_166 : BitVec 32 := 0#32
  let v346 : BitVec 1 := Scalar.cmpi .sgt c128_i32_163 c0_i32_166
  let v347 : BitVec 32 := Scalar.extui v346
  let c0_i32_167 : BitVec 32 := 0#32
  let v348 : BitVec 1 := Scalar.cmpi .slt c128_i32_163 c0_i32_167
  let v349 : BitVec 32 := Scalar.extui v348
  let v350 : BitVec 32 := Scalar.subi v347 v349
  let v351 : BitVec 1 := Scalar.cmpi .ne v345 v350
  let v352 : BitVec 32 := Scalar.remsi v339 c128_i32_163
  let c0_i32_168 : BitVec 32 := 0#32
  let v353 : BitVec 1 := Scalar.cmpi .ne v352 c0_i32_168
  let v354 : BitVec 1 := Scalar.andi v351 v353
  let v340 : BitVec 32 := Scalar.divsi v339 c128_i32_163
  let c1_i32_169 : BitVec 32 := 1#32
  let v355 : BitVec 32 := Scalar.subi v340 c1_i32_169
  let v356 : BitVec 32 := Scalar.select v354 v355 v340
  let c128_i32_170 : BitVec 32 := 128#32
  let v357 : BitVec 32 := Scalar.muli v356 c128_i32_170
  let c99840_i32_171 : BitVec 32 := 99840#32
  let v358 : BitVec 32 := Scalar.minsi v357 c99840_i32_171
  let v359 : BitVec 32 := v358
  ![v361.toNat, v359.toNat]

def k0_chk12 (i : grid0.Coords) (v337 : BitVec 32) : Prop :=
  (128 ∣ (k0_mult24 v337).toNat) ∧
  (∀ a, (k0_off13 i v337) a + S8x128.size a ≤ S1024x100000.size a) ∧
  (∀ a, (k0_off45 i v337) a + S8x128.size a ≤ S1024x100000.size a)
theorem k0_mult24_dvd : ∀ (i : grid0.Coords) (v337 : BitVec 32) (k0_hw12 : k0_chk12 i v337), 128 ∣ (k0_mult24 v337).toNat := fun i v337 k0_hw12 => k0_hw12.1
theorem k0_off13_inb : ∀ (i : grid0.Coords) (v337 : BitVec 32) (k0_hw12 : k0_chk12 i v337), ∀ a, (k0_off13 i v337) a + S8x128.size a ≤ S1024x100000.size a := fun i v337 k0_hw12 => k0_hw12.2.1
theorem k0_off45_inb : ∀ (i : grid0.Coords) (v337 : BitVec 32) (k0_hw12 : k0_chk12 i v337), ∀ a, (k0_off45 i v337) a + S8x128.size a ≤ S1024x100000.size a := fun i v337 k0_hw12 => k0_hw12.2.2

def k0_off46 (i : grid0.Coords) (v367 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_187 : BitVec 32 := 8#32
  let v390 : BitVec 32 := Scalar.addi v3 c8_i32_187
  let v391 : BitVec 32 := v390
  let c_m1_i32_176 : BitVec 32 := 4294967295#32
  let v368 : BitVec 1 := Scalar.cmpi .ne v367 c_m1_i32_176
  let c0_i32_177 : BitVec 32 := 0#32
  let v369 : BitVec 32 := Scalar.select v368 v367 c0_i32_177
  let c0_i32_179 : BitVec 32 := 0#32
  let v371 : BitVec 1 := Scalar.cmpi .sgt v369 c0_i32_179
  let v372 : BitVec 32 := Scalar.extui v371
  let c0_i32_180 : BitVec 32 := 0#32
  let v373 : BitVec 1 := Scalar.cmpi .slt v369 c0_i32_180
  let v374 : BitVec 32 := Scalar.extui v373
  let v375 : BitVec 32 := Scalar.subi v372 v374
  let c128_i32_178 : BitVec 32 := 128#32
  let c0_i32_181 : BitVec 32 := 0#32
  let v376 : BitVec 1 := Scalar.cmpi .sgt c128_i32_178 c0_i32_181
  let v377 : BitVec 32 := Scalar.extui v376
  let c0_i32_182 : BitVec 32 := 0#32
  let v378 : BitVec 1 := Scalar.cmpi .slt c128_i32_178 c0_i32_182
  let v379 : BitVec 32 := Scalar.extui v378
  let v380 : BitVec 32 := Scalar.subi v377 v379
  let v381 : BitVec 1 := Scalar.cmpi .ne v375 v380
  let v382 : BitVec 32 := Scalar.remsi v369 c128_i32_178
  let c0_i32_183 : BitVec 32 := 0#32
  let v383 : BitVec 1 := Scalar.cmpi .ne v382 c0_i32_183
  let v384 : BitVec 1 := Scalar.andi v381 v383
  let v370 : BitVec 32 := Scalar.divsi v369 c128_i32_178
  let c1_i32_184 : BitVec 32 := 1#32
  let v385 : BitVec 32 := Scalar.subi v370 c1_i32_184
  let v386 : BitVec 32 := Scalar.select v384 v385 v370
  let c128_i32_185 : BitVec 32 := 128#32
  let v387 : BitVec 32 := Scalar.muli v386 c128_i32_185
  let c99840_i32_186 : BitVec 32 := 99840#32
  let v388 : BitVec 32 := Scalar.minsi v387 c99840_i32_186
  let v389 : BitVec 32 := v388
  ![v391.toNat, v389.toNat]

def k0_chk13 (i : grid0.Coords) (v367 : BitVec 32) : Prop :=
  (128 ∣ (k0_mult26 v367).toNat) ∧
  (∀ a, (k0_off14 i v367) a + S8x128.size a ≤ S1024x100000.size a) ∧
  (∀ a, (k0_off46 i v367) a + S8x128.size a ≤ S1024x100000.size a)
theorem k0_mult26_dvd : ∀ (i : grid0.Coords) (v367 : BitVec 32) (k0_hw13 : k0_chk13 i v367), 128 ∣ (k0_mult26 v367).toNat := fun i v367 k0_hw13 => k0_hw13.1
theorem k0_off14_inb : ∀ (i : grid0.Coords) (v367 : BitVec 32) (k0_hw13 : k0_chk13 i v367), ∀ a, (k0_off14 i v367) a + S8x128.size a ≤ S1024x100000.size a := fun i v367 k0_hw13 => k0_hw13.2.1
theorem k0_off46_inb : ∀ (i : grid0.Coords) (v367 : BitVec 32) (k0_hw13 : k0_chk13 i v367), ∀ a, (k0_off46 i v367) a + S8x128.size a ≤ S1024x100000.size a := fun i v367 k0_hw13 => k0_hw13.2.2

def k0_off47 (i : grid0.Coords) (v397 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_202 : BitVec 32 := 8#32
  let v420 : BitVec 32 := Scalar.addi v3 c8_i32_202
  let v421 : BitVec 32 := v420
  let c_m1_i32_191 : BitVec 32 := 4294967295#32
  let v398 : BitVec 1 := Scalar.cmpi .ne v397 c_m1_i32_191
  let c0_i32_192 : BitVec 32 := 0#32
  let v399 : BitVec 32 := Scalar.select v398 v397 c0_i32_192
  let c0_i32_194 : BitVec 32 := 0#32
  let v401 : BitVec 1 := Scalar.cmpi .sgt v399 c0_i32_194
  let v402 : BitVec 32 := Scalar.extui v401
  let c0_i32_195 : BitVec 32 := 0#32
  let v403 : BitVec 1 := Scalar.cmpi .slt v399 c0_i32_195
  let v404 : BitVec 32 := Scalar.extui v403
  let v405 : BitVec 32 := Scalar.subi v402 v404
  let c128_i32_193 : BitVec 32 := 128#32
  let c0_i32_196 : BitVec 32 := 0#32
  let v406 : BitVec 1 := Scalar.cmpi .sgt c128_i32_193 c0_i32_196
  let v407 : BitVec 32 := Scalar.extui v406
  let c0_i32_197 : BitVec 32 := 0#32
  let v408 : BitVec 1 := Scalar.cmpi .slt c128_i32_193 c0_i32_197
  let v409 : BitVec 32 := Scalar.extui v408
  let v410 : BitVec 32 := Scalar.subi v407 v409
  let v411 : BitVec 1 := Scalar.cmpi .ne v405 v410
  let v412 : BitVec 32 := Scalar.remsi v399 c128_i32_193
  let c0_i32_198 : BitVec 32 := 0#32
  let v413 : BitVec 1 := Scalar.cmpi .ne v412 c0_i32_198
  let v414 : BitVec 1 := Scalar.andi v411 v413
  let v400 : BitVec 32 := Scalar.divsi v399 c128_i32_193
  let c1_i32_199 : BitVec 32 := 1#32
  let v415 : BitVec 32 := Scalar.subi v400 c1_i32_199
  let v416 : BitVec 32 := Scalar.select v414 v415 v400
  let c128_i32_200 : BitVec 32 := 128#32
  let v417 : BitVec 32 := Scalar.muli v416 c128_i32_200
  let c99840_i32_201 : BitVec 32 := 99840#32
  let v418 : BitVec 32 := Scalar.minsi v417 c99840_i32_201
  let v419 : BitVec 32 := v418
  ![v421.toNat, v419.toNat]

def k0_chk14 (i : grid0.Coords) (v397 : BitVec 32) : Prop :=
  (128 ∣ (k0_mult28 v397).toNat) ∧
  (∀ a, (k0_off15 i v397) a + S8x128.size a ≤ S1024x100000.size a) ∧
  (∀ a, (k0_off47 i v397) a + S8x128.size a ≤ S1024x100000.size a)
theorem k0_mult28_dvd : ∀ (i : grid0.Coords) (v397 : BitVec 32) (k0_hw14 : k0_chk14 i v397), 128 ∣ (k0_mult28 v397).toNat := fun i v397 k0_hw14 => k0_hw14.1
theorem k0_off15_inb : ∀ (i : grid0.Coords) (v397 : BitVec 32) (k0_hw14 : k0_chk14 i v397), ∀ a, (k0_off15 i v397) a + S8x128.size a ≤ S1024x100000.size a := fun i v397 k0_hw14 => k0_hw14.2.1
theorem k0_off47_inb : ∀ (i : grid0.Coords) (v397 : BitVec 32) (k0_hw14 : k0_chk14 i v397), ∀ a, (k0_off47 i v397) a + S8x128.size a ≤ S1024x100000.size a := fun i v397 k0_hw14 => k0_hw14.2.2

def k0_off48 (i : grid0.Coords) (v427 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_217 : BitVec 32 := 8#32
  let v450 : BitVec 32 := Scalar.addi v3 c8_i32_217
  let v451 : BitVec 32 := v450
  let c_m1_i32_206 : BitVec 32 := 4294967295#32
  let v428 : BitVec 1 := Scalar.cmpi .ne v427 c_m1_i32_206
  let c0_i32_207 : BitVec 32 := 0#32
  let v429 : BitVec 32 := Scalar.select v428 v427 c0_i32_207
  let c0_i32_209 : BitVec 32 := 0#32
  let v431 : BitVec 1 := Scalar.cmpi .sgt v429 c0_i32_209
  let v432 : BitVec 32 := Scalar.extui v431
  let c0_i32_210 : BitVec 32 := 0#32
  let v433 : BitVec 1 := Scalar.cmpi .slt v429 c0_i32_210
  let v434 : BitVec 32 := Scalar.extui v433
  let v435 : BitVec 32 := Scalar.subi v432 v434
  let c128_i32_208 : BitVec 32 := 128#32
  let c0_i32_211 : BitVec 32 := 0#32
  let v436 : BitVec 1 := Scalar.cmpi .sgt c128_i32_208 c0_i32_211
  let v437 : BitVec 32 := Scalar.extui v436
  let c0_i32_212 : BitVec 32 := 0#32
  let v438 : BitVec 1 := Scalar.cmpi .slt c128_i32_208 c0_i32_212
  let v439 : BitVec 32 := Scalar.extui v438
  let v440 : BitVec 32 := Scalar.subi v437 v439
  let v441 : BitVec 1 := Scalar.cmpi .ne v435 v440
  let v442 : BitVec 32 := Scalar.remsi v429 c128_i32_208
  let c0_i32_213 : BitVec 32 := 0#32
  let v443 : BitVec 1 := Scalar.cmpi .ne v442 c0_i32_213
  let v444 : BitVec 1 := Scalar.andi v441 v443
  let v430 : BitVec 32 := Scalar.divsi v429 c128_i32_208
  let c1_i32_214 : BitVec 32 := 1#32
  let v445 : BitVec 32 := Scalar.subi v430 c1_i32_214
  let v446 : BitVec 32 := Scalar.select v444 v445 v430
  let c128_i32_215 : BitVec 32 := 128#32
  let v447 : BitVec 32 := Scalar.muli v446 c128_i32_215
  let c99840_i32_216 : BitVec 32 := 99840#32
  let v448 : BitVec 32 := Scalar.minsi v447 c99840_i32_216
  let v449 : BitVec 32 := v448
  ![v451.toNat, v449.toNat]

def k0_chk15 (i : grid0.Coords) (v427 : BitVec 32) : Prop :=
  (128 ∣ (k0_mult30 v427).toNat) ∧
  (∀ a, (k0_off16 i v427) a + S8x128.size a ≤ S1024x100000.size a) ∧
  (∀ a, (k0_off48 i v427) a + S8x128.size a ≤ S1024x100000.size a)
theorem k0_mult30_dvd : ∀ (i : grid0.Coords) (v427 : BitVec 32) (k0_hw15 : k0_chk15 i v427), 128 ∣ (k0_mult30 v427).toNat := fun i v427 k0_hw15 => k0_hw15.1
theorem k0_off16_inb : ∀ (i : grid0.Coords) (v427 : BitVec 32) (k0_hw15 : k0_chk15 i v427), ∀ a, (k0_off16 i v427) a + S8x128.size a ≤ S1024x100000.size a := fun i v427 k0_hw15 => k0_hw15.2.1
theorem k0_off48_inb : ∀ (i : grid0.Coords) (v427 : BitVec 32) (k0_hw15 : k0_chk15 i v427), ∀ a, (k0_off48 i v427) a + S8x128.size a ≤ S1024x100000.size a := fun i v427 k0_hw15 => k0_hw15.2.2

def k0_off49 (i : grid0.Coords) (v457 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c8_i32_232 : BitVec 32 := 8#32
  let v480 : BitVec 32 := Scalar.addi v3 c8_i32_232
  let v481 : BitVec 32 := v480
  let c_m1_i32_221 : BitVec 32 := 4294967295#32
  let v458 : BitVec 1 := Scalar.cmpi .ne v457 c_m1_i32_221
  let c0_i32_222 : BitVec 32 := 0#32
  let v459 : BitVec 32 := Scalar.select v458 v457 c0_i32_222
  let c0_i32_224 : BitVec 32 := 0#32
  let v461 : BitVec 1 := Scalar.cmpi .sgt v459 c0_i32_224
  let v462 : BitVec 32 := Scalar.extui v461
  let c0_i32_225 : BitVec 32 := 0#32
  let v463 : BitVec 1 := Scalar.cmpi .slt v459 c0_i32_225
  let v464 : BitVec 32 := Scalar.extui v463
  let v465 : BitVec 32 := Scalar.subi v462 v464
  let c128_i32_223 : BitVec 32 := 128#32
  let c0_i32_226 : BitVec 32 := 0#32
  let v466 : BitVec 1 := Scalar.cmpi .sgt c128_i32_223 c0_i32_226
  let v467 : BitVec 32 := Scalar.extui v466
  let c0_i32_227 : BitVec 32 := 0#32
  let v468 : BitVec 1 := Scalar.cmpi .slt c128_i32_223 c0_i32_227
  let v469 : BitVec 32 := Scalar.extui v468
  let v470 : BitVec 32 := Scalar.subi v467 v469
  let v471 : BitVec 1 := Scalar.cmpi .ne v465 v470
  let v472 : BitVec 32 := Scalar.remsi v459 c128_i32_223
  let c0_i32_228 : BitVec 32 := 0#32
  let v473 : BitVec 1 := Scalar.cmpi .ne v472 c0_i32_228
  let v474 : BitVec 1 := Scalar.andi v471 v473
  let v460 : BitVec 32 := Scalar.divsi v459 c128_i32_223
  let c1_i32_229 : BitVec 32 := 1#32
  let v475 : BitVec 32 := Scalar.subi v460 c1_i32_229
  let v476 : BitVec 32 := Scalar.select v474 v475 v460
  let c128_i32_230 : BitVec 32 := 128#32
  let v477 : BitVec 32 := Scalar.muli v476 c128_i32_230
  let c99840_i32_231 : BitVec 32 := 99840#32
  let v478 : BitVec 32 := Scalar.minsi v477 c99840_i32_231
  let v479 : BitVec 32 := v478
  ![v481.toNat, v479.toNat]

def k0_chk16 (i : grid0.Coords) (v457 : BitVec 32) : Prop :=
  (128 ∣ (k0_mult32 v457).toNat) ∧
  (∀ a, (k0_off17 i v457) a + S8x128.size a ≤ S1024x100000.size a) ∧
  (∀ a, (k0_off49 i v457) a + S8x128.size a ≤ S1024x100000.size a)
theorem k0_mult32_dvd : ∀ (i : grid0.Coords) (v457 : BitVec 32) (k0_hw16 : k0_chk16 i v457), 128 ∣ (k0_mult32 v457).toNat := fun i v457 k0_hw16 => k0_hw16.1
theorem k0_off17_inb : ∀ (i : grid0.Coords) (v457 : BitVec 32) (k0_hw16 : k0_chk16 i v457), ∀ a, (k0_off17 i v457) a + S8x128.size a ≤ S1024x100000.size a := fun i v457 k0_hw16 => k0_hw16.2.1
theorem k0_off49_inb : ∀ (i : grid0.Coords) (v457 : BitVec 32) (k0_hw16 : k0_chk16 i v457), ∀ a, (k0_off49 i v457) a + S8x128.size a ≤ S1024x100000.size a := fun i v457 k0_hw16 => k0_hw16.2.2

def k0_off50 (i : grid0.Coords) (v489 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32 : BitVec 32 := 16#32
  let v512 : BitVec 32 := Scalar.addi v3 c16_i32
  let v513 : BitVec 32 := v512
  let c_m1_i32_236 : BitVec 32 := 4294967295#32
  let v490 : BitVec 1 := Scalar.cmpi .ne v489 c_m1_i32_236
  let c0_i32_237 : BitVec 32 := 0#32
  let v491 : BitVec 32 := Scalar.select v490 v489 c0_i32_237
  let c0_i32_239 : BitVec 32 := 0#32
  let v493 : BitVec 1 := Scalar.cmpi .sgt v491 c0_i32_239
  let v494 : BitVec 32 := Scalar.extui v493
  let c0_i32_240 : BitVec 32 := 0#32
  let v495 : BitVec 1 := Scalar.cmpi .slt v491 c0_i32_240
  let v496 : BitVec 32 := Scalar.extui v495
  let v497 : BitVec 32 := Scalar.subi v494 v496
  let c128_i32_238 : BitVec 32 := 128#32
  let c0_i32_241 : BitVec 32 := 0#32
  let v498 : BitVec 1 := Scalar.cmpi .sgt c128_i32_238 c0_i32_241
  let v499 : BitVec 32 := Scalar.extui v498
  let c0_i32_242 : BitVec 32 := 0#32
  let v500 : BitVec 1 := Scalar.cmpi .slt c128_i32_238 c0_i32_242
  let v501 : BitVec 32 := Scalar.extui v500
  let v502 : BitVec 32 := Scalar.subi v499 v501
  let v503 : BitVec 1 := Scalar.cmpi .ne v497 v502
  let v504 : BitVec 32 := Scalar.remsi v491 c128_i32_238
  let c0_i32_243 : BitVec 32 := 0#32
  let v505 : BitVec 1 := Scalar.cmpi .ne v504 c0_i32_243
  let v506 : BitVec 1 := Scalar.andi v503 v505
  let v492 : BitVec 32 := Scalar.divsi v491 c128_i32_238
  let c1_i32_244 : BitVec 32 := 1#32
  let v507 : BitVec 32 := Scalar.subi v492 c1_i32_244
  let v508 : BitVec 32 := Scalar.select v506 v507 v492
  let c128_i32_245 : BitVec 32 := 128#32
  let v509 : BitVec 32 := Scalar.muli v508 c128_i32_245
  let c99840_i32_246 : BitVec 32 := 99840#32
  let v510 : BitVec 32 := Scalar.minsi v509 c99840_i32_246
  let v511 : BitVec 32 := v510
  ![v513.toNat, v511.toNat]

def k0_chk17 (i : grid0.Coords) (v489 : BitVec 32) : Prop :=
  (128 ∣ (k0_mult34 v489).toNat) ∧
  (∀ a, (k0_off18 i v489) a + S8x128.size a ≤ S1024x100000.size a) ∧
  (∀ a, (k0_off50 i v489) a + S8x128.size a ≤ S1024x100000.size a)
theorem k0_mult34_dvd : ∀ (i : grid0.Coords) (v489 : BitVec 32) (k0_hw17 : k0_chk17 i v489), 128 ∣ (k0_mult34 v489).toNat := fun i v489 k0_hw17 => k0_hw17.1
theorem k0_off18_inb : ∀ (i : grid0.Coords) (v489 : BitVec 32) (k0_hw17 : k0_chk17 i v489), ∀ a, (k0_off18 i v489) a + S8x128.size a ≤ S1024x100000.size a := fun i v489 k0_hw17 => k0_hw17.2.1
theorem k0_off50_inb : ∀ (i : grid0.Coords) (v489 : BitVec 32) (k0_hw17 : k0_chk17 i v489), ∀ a, (k0_off50 i v489) a + S8x128.size a ≤ S1024x100000.size a := fun i v489 k0_hw17 => k0_hw17.2.2

def k0_off51 (i : grid0.Coords) (v519 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_261 : BitVec 32 := 16#32
  let v542 : BitVec 32 := Scalar.addi v3 c16_i32_261
  let v543 : BitVec 32 := v542
  let c_m1_i32_250 : BitVec 32 := 4294967295#32
  let v520 : BitVec 1 := Scalar.cmpi .ne v519 c_m1_i32_250
  let c0_i32_251 : BitVec 32 := 0#32
  let v521 : BitVec 32 := Scalar.select v520 v519 c0_i32_251
  let c0_i32_253 : BitVec 32 := 0#32
  let v523 : BitVec 1 := Scalar.cmpi .sgt v521 c0_i32_253
  let v524 : BitVec 32 := Scalar.extui v523
  let c0_i32_254 : BitVec 32 := 0#32
  let v525 : BitVec 1 := Scalar.cmpi .slt v521 c0_i32_254
  let v526 : BitVec 32 := Scalar.extui v525
  let v527 : BitVec 32 := Scalar.subi v524 v526
  let c128_i32_252 : BitVec 32 := 128#32
  let c0_i32_255 : BitVec 32 := 0#32
  let v528 : BitVec 1 := Scalar.cmpi .sgt c128_i32_252 c0_i32_255
  let v529 : BitVec 32 := Scalar.extui v528
  let c0_i32_256 : BitVec 32 := 0#32
  let v530 : BitVec 1 := Scalar.cmpi .slt c128_i32_252 c0_i32_256
  let v531 : BitVec 32 := Scalar.extui v530
  let v532 : BitVec 32 := Scalar.subi v529 v531
  let v533 : BitVec 1 := Scalar.cmpi .ne v527 v532
  let v534 : BitVec 32 := Scalar.remsi v521 c128_i32_252
  let c0_i32_257 : BitVec 32 := 0#32
  let v535 : BitVec 1 := Scalar.cmpi .ne v534 c0_i32_257
  let v536 : BitVec 1 := Scalar.andi v533 v535
  let v522 : BitVec 32 := Scalar.divsi v521 c128_i32_252
  let c1_i32_258 : BitVec 32 := 1#32
  let v537 : BitVec 32 := Scalar.subi v522 c1_i32_258
  let v538 : BitVec 32 := Scalar.select v536 v537 v522
  let c128_i32_259 : BitVec 32 := 128#32
  let v539 : BitVec 32 := Scalar.muli v538 c128_i32_259
  let c99840_i32_260 : BitVec 32 := 99840#32
  let v540 : BitVec 32 := Scalar.minsi v539 c99840_i32_260
  let v541 : BitVec 32 := v540
  ![v543.toNat, v541.toNat]

def k0_chk18 (i : grid0.Coords) (v519 : BitVec 32) : Prop :=
  (128 ∣ (k0_mult36 v519).toNat) ∧
  (∀ a, (k0_off19 i v519) a + S8x128.size a ≤ S1024x100000.size a) ∧
  (∀ a, (k0_off51 i v519) a + S8x128.size a ≤ S1024x100000.size a)
theorem k0_mult36_dvd : ∀ (i : grid0.Coords) (v519 : BitVec 32) (k0_hw18 : k0_chk18 i v519), 128 ∣ (k0_mult36 v519).toNat := fun i v519 k0_hw18 => k0_hw18.1
theorem k0_off19_inb : ∀ (i : grid0.Coords) (v519 : BitVec 32) (k0_hw18 : k0_chk18 i v519), ∀ a, (k0_off19 i v519) a + S8x128.size a ≤ S1024x100000.size a := fun i v519 k0_hw18 => k0_hw18.2.1
theorem k0_off51_inb : ∀ (i : grid0.Coords) (v519 : BitVec 32) (k0_hw18 : k0_chk18 i v519), ∀ a, (k0_off51 i v519) a + S8x128.size a ≤ S1024x100000.size a := fun i v519 k0_hw18 => k0_hw18.2.2

def k0_off52 (i : grid0.Coords) (v549 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_276 : BitVec 32 := 16#32
  let v572 : BitVec 32 := Scalar.addi v3 c16_i32_276
  let v573 : BitVec 32 := v572
  let c_m1_i32_265 : BitVec 32 := 4294967295#32
  let v550 : BitVec 1 := Scalar.cmpi .ne v549 c_m1_i32_265
  let c0_i32_266 : BitVec 32 := 0#32
  let v551 : BitVec 32 := Scalar.select v550 v549 c0_i32_266
  let c0_i32_268 : BitVec 32 := 0#32
  let v553 : BitVec 1 := Scalar.cmpi .sgt v551 c0_i32_268
  let v554 : BitVec 32 := Scalar.extui v553
  let c0_i32_269 : BitVec 32 := 0#32
  let v555 : BitVec 1 := Scalar.cmpi .slt v551 c0_i32_269
  let v556 : BitVec 32 := Scalar.extui v555
  let v557 : BitVec 32 := Scalar.subi v554 v556
  let c128_i32_267 : BitVec 32 := 128#32
  let c0_i32_270 : BitVec 32 := 0#32
  let v558 : BitVec 1 := Scalar.cmpi .sgt c128_i32_267 c0_i32_270
  let v559 : BitVec 32 := Scalar.extui v558
  let c0_i32_271 : BitVec 32 := 0#32
  let v560 : BitVec 1 := Scalar.cmpi .slt c128_i32_267 c0_i32_271
  let v561 : BitVec 32 := Scalar.extui v560
  let v562 : BitVec 32 := Scalar.subi v559 v561
  let v563 : BitVec 1 := Scalar.cmpi .ne v557 v562
  let v564 : BitVec 32 := Scalar.remsi v551 c128_i32_267
  let c0_i32_272 : BitVec 32 := 0#32
  let v565 : BitVec 1 := Scalar.cmpi .ne v564 c0_i32_272
  let v566 : BitVec 1 := Scalar.andi v563 v565
  let v552 : BitVec 32 := Scalar.divsi v551 c128_i32_267
  let c1_i32_273 : BitVec 32 := 1#32
  let v567 : BitVec 32 := Scalar.subi v552 c1_i32_273
  let v568 : BitVec 32 := Scalar.select v566 v567 v552
  let c128_i32_274 : BitVec 32 := 128#32
  let v569 : BitVec 32 := Scalar.muli v568 c128_i32_274
  let c99840_i32_275 : BitVec 32 := 99840#32
  let v570 : BitVec 32 := Scalar.minsi v569 c99840_i32_275
  let v571 : BitVec 32 := v570
  ![v573.toNat, v571.toNat]

def k0_chk19 (i : grid0.Coords) (v549 : BitVec 32) : Prop :=
  (128 ∣ (k0_mult38 v549).toNat) ∧
  (∀ a, (k0_off20 i v549) a + S8x128.size a ≤ S1024x100000.size a) ∧
  (∀ a, (k0_off52 i v549) a + S8x128.size a ≤ S1024x100000.size a)
theorem k0_mult38_dvd : ∀ (i : grid0.Coords) (v549 : BitVec 32) (k0_hw19 : k0_chk19 i v549), 128 ∣ (k0_mult38 v549).toNat := fun i v549 k0_hw19 => k0_hw19.1
theorem k0_off20_inb : ∀ (i : grid0.Coords) (v549 : BitVec 32) (k0_hw19 : k0_chk19 i v549), ∀ a, (k0_off20 i v549) a + S8x128.size a ≤ S1024x100000.size a := fun i v549 k0_hw19 => k0_hw19.2.1
theorem k0_off52_inb : ∀ (i : grid0.Coords) (v549 : BitVec 32) (k0_hw19 : k0_chk19 i v549), ∀ a, (k0_off52 i v549) a + S8x128.size a ≤ S1024x100000.size a := fun i v549 k0_hw19 => k0_hw19.2.2

def k0_off53 (i : grid0.Coords) (v579 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_291 : BitVec 32 := 16#32
  let v602 : BitVec 32 := Scalar.addi v3 c16_i32_291
  let v603 : BitVec 32 := v602
  let c_m1_i32_280 : BitVec 32 := 4294967295#32
  let v580 : BitVec 1 := Scalar.cmpi .ne v579 c_m1_i32_280
  let c0_i32_281 : BitVec 32 := 0#32
  let v581 : BitVec 32 := Scalar.select v580 v579 c0_i32_281
  let c0_i32_283 : BitVec 32 := 0#32
  let v583 : BitVec 1 := Scalar.cmpi .sgt v581 c0_i32_283
  let v584 : BitVec 32 := Scalar.extui v583
  let c0_i32_284 : BitVec 32 := 0#32
  let v585 : BitVec 1 := Scalar.cmpi .slt v581 c0_i32_284
  let v586 : BitVec 32 := Scalar.extui v585
  let v587 : BitVec 32 := Scalar.subi v584 v586
  let c128_i32_282 : BitVec 32 := 128#32
  let c0_i32_285 : BitVec 32 := 0#32
  let v588 : BitVec 1 := Scalar.cmpi .sgt c128_i32_282 c0_i32_285
  let v589 : BitVec 32 := Scalar.extui v588
  let c0_i32_286 : BitVec 32 := 0#32
  let v590 : BitVec 1 := Scalar.cmpi .slt c128_i32_282 c0_i32_286
  let v591 : BitVec 32 := Scalar.extui v590
  let v592 : BitVec 32 := Scalar.subi v589 v591
  let v593 : BitVec 1 := Scalar.cmpi .ne v587 v592
  let v594 : BitVec 32 := Scalar.remsi v581 c128_i32_282
  let c0_i32_287 : BitVec 32 := 0#32
  let v595 : BitVec 1 := Scalar.cmpi .ne v594 c0_i32_287
  let v596 : BitVec 1 := Scalar.andi v593 v595
  let v582 : BitVec 32 := Scalar.divsi v581 c128_i32_282
  let c1_i32_288 : BitVec 32 := 1#32
  let v597 : BitVec 32 := Scalar.subi v582 c1_i32_288
  let v598 : BitVec 32 := Scalar.select v596 v597 v582
  let c128_i32_289 : BitVec 32 := 128#32
  let v599 : BitVec 32 := Scalar.muli v598 c128_i32_289
  let c99840_i32_290 : BitVec 32 := 99840#32
  let v600 : BitVec 32 := Scalar.minsi v599 c99840_i32_290
  let v601 : BitVec 32 := v600
  ![v603.toNat, v601.toNat]

def k0_chk20 (i : grid0.Coords) (v579 : BitVec 32) : Prop :=
  (128 ∣ (k0_mult40 v579).toNat) ∧
  (∀ a, (k0_off21 i v579) a + S8x128.size a ≤ S1024x100000.size a) ∧
  (∀ a, (k0_off53 i v579) a + S8x128.size a ≤ S1024x100000.size a)
theorem k0_mult40_dvd : ∀ (i : grid0.Coords) (v579 : BitVec 32) (k0_hw20 : k0_chk20 i v579), 128 ∣ (k0_mult40 v579).toNat := fun i v579 k0_hw20 => k0_hw20.1
theorem k0_off21_inb : ∀ (i : grid0.Coords) (v579 : BitVec 32) (k0_hw20 : k0_chk20 i v579), ∀ a, (k0_off21 i v579) a + S8x128.size a ≤ S1024x100000.size a := fun i v579 k0_hw20 => k0_hw20.2.1
theorem k0_off53_inb : ∀ (i : grid0.Coords) (v579 : BitVec 32) (k0_hw20 : k0_chk20 i v579), ∀ a, (k0_off53 i v579) a + S8x128.size a ≤ S1024x100000.size a := fun i v579 k0_hw20 => k0_hw20.2.2

def k0_off54 (i : grid0.Coords) (v609 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_306 : BitVec 32 := 16#32
  let v632 : BitVec 32 := Scalar.addi v3 c16_i32_306
  let v633 : BitVec 32 := v632
  let c_m1_i32_295 : BitVec 32 := 4294967295#32
  let v610 : BitVec 1 := Scalar.cmpi .ne v609 c_m1_i32_295
  let c0_i32_296 : BitVec 32 := 0#32
  let v611 : BitVec 32 := Scalar.select v610 v609 c0_i32_296
  let c0_i32_298 : BitVec 32 := 0#32
  let v613 : BitVec 1 := Scalar.cmpi .sgt v611 c0_i32_298
  let v614 : BitVec 32 := Scalar.extui v613
  let c0_i32_299 : BitVec 32 := 0#32
  let v615 : BitVec 1 := Scalar.cmpi .slt v611 c0_i32_299
  let v616 : BitVec 32 := Scalar.extui v615
  let v617 : BitVec 32 := Scalar.subi v614 v616
  let c128_i32_297 : BitVec 32 := 128#32
  let c0_i32_300 : BitVec 32 := 0#32
  let v618 : BitVec 1 := Scalar.cmpi .sgt c128_i32_297 c0_i32_300
  let v619 : BitVec 32 := Scalar.extui v618
  let c0_i32_301 : BitVec 32 := 0#32
  let v620 : BitVec 1 := Scalar.cmpi .slt c128_i32_297 c0_i32_301
  let v621 : BitVec 32 := Scalar.extui v620
  let v622 : BitVec 32 := Scalar.subi v619 v621
  let v623 : BitVec 1 := Scalar.cmpi .ne v617 v622
  let v624 : BitVec 32 := Scalar.remsi v611 c128_i32_297
  let c0_i32_302 : BitVec 32 := 0#32
  let v625 : BitVec 1 := Scalar.cmpi .ne v624 c0_i32_302
  let v626 : BitVec 1 := Scalar.andi v623 v625
  let v612 : BitVec 32 := Scalar.divsi v611 c128_i32_297
  let c1_i32_303 : BitVec 32 := 1#32
  let v627 : BitVec 32 := Scalar.subi v612 c1_i32_303
  let v628 : BitVec 32 := Scalar.select v626 v627 v612
  let c128_i32_304 : BitVec 32 := 128#32
  let v629 : BitVec 32 := Scalar.muli v628 c128_i32_304
  let c99840_i32_305 : BitVec 32 := 99840#32
  let v630 : BitVec 32 := Scalar.minsi v629 c99840_i32_305
  let v631 : BitVec 32 := v630
  ![v633.toNat, v631.toNat]

def k0_chk21 (i : grid0.Coords) (v609 : BitVec 32) : Prop :=
  (128 ∣ (k0_mult42 v609).toNat) ∧
  (∀ a, (k0_off22 i v609) a + S8x128.size a ≤ S1024x100000.size a) ∧
  (∀ a, (k0_off54 i v609) a + S8x128.size a ≤ S1024x100000.size a)
theorem k0_mult42_dvd : ∀ (i : grid0.Coords) (v609 : BitVec 32) (k0_hw21 : k0_chk21 i v609), 128 ∣ (k0_mult42 v609).toNat := fun i v609 k0_hw21 => k0_hw21.1
theorem k0_off22_inb : ∀ (i : grid0.Coords) (v609 : BitVec 32) (k0_hw21 : k0_chk21 i v609), ∀ a, (k0_off22 i v609) a + S8x128.size a ≤ S1024x100000.size a := fun i v609 k0_hw21 => k0_hw21.2.1
theorem k0_off54_inb : ∀ (i : grid0.Coords) (v609 : BitVec 32) (k0_hw21 : k0_chk21 i v609), ∀ a, (k0_off54 i v609) a + S8x128.size a ≤ S1024x100000.size a := fun i v609 k0_hw21 => k0_hw21.2.2

def k0_off55 (i : grid0.Coords) (v639 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_321 : BitVec 32 := 16#32
  let v662 : BitVec 32 := Scalar.addi v3 c16_i32_321
  let v663 : BitVec 32 := v662
  let c_m1_i32_310 : BitVec 32 := 4294967295#32
  let v640 : BitVec 1 := Scalar.cmpi .ne v639 c_m1_i32_310
  let c0_i32_311 : BitVec 32 := 0#32
  let v641 : BitVec 32 := Scalar.select v640 v639 c0_i32_311
  let c0_i32_313 : BitVec 32 := 0#32
  let v643 : BitVec 1 := Scalar.cmpi .sgt v641 c0_i32_313
  let v644 : BitVec 32 := Scalar.extui v643
  let c0_i32_314 : BitVec 32 := 0#32
  let v645 : BitVec 1 := Scalar.cmpi .slt v641 c0_i32_314
  let v646 : BitVec 32 := Scalar.extui v645
  let v647 : BitVec 32 := Scalar.subi v644 v646
  let c128_i32_312 : BitVec 32 := 128#32
  let c0_i32_315 : BitVec 32 := 0#32
  let v648 : BitVec 1 := Scalar.cmpi .sgt c128_i32_312 c0_i32_315
  let v649 : BitVec 32 := Scalar.extui v648
  let c0_i32_316 : BitVec 32 := 0#32
  let v650 : BitVec 1 := Scalar.cmpi .slt c128_i32_312 c0_i32_316
  let v651 : BitVec 32 := Scalar.extui v650
  let v652 : BitVec 32 := Scalar.subi v649 v651
  let v653 : BitVec 1 := Scalar.cmpi .ne v647 v652
  let v654 : BitVec 32 := Scalar.remsi v641 c128_i32_312
  let c0_i32_317 : BitVec 32 := 0#32
  let v655 : BitVec 1 := Scalar.cmpi .ne v654 c0_i32_317
  let v656 : BitVec 1 := Scalar.andi v653 v655
  let v642 : BitVec 32 := Scalar.divsi v641 c128_i32_312
  let c1_i32_318 : BitVec 32 := 1#32
  let v657 : BitVec 32 := Scalar.subi v642 c1_i32_318
  let v658 : BitVec 32 := Scalar.select v656 v657 v642
  let c128_i32_319 : BitVec 32 := 128#32
  let v659 : BitVec 32 := Scalar.muli v658 c128_i32_319
  let c99840_i32_320 : BitVec 32 := 99840#32
  let v660 : BitVec 32 := Scalar.minsi v659 c99840_i32_320
  let v661 : BitVec 32 := v660
  ![v663.toNat, v661.toNat]

def k0_chk22 (i : grid0.Coords) (v639 : BitVec 32) : Prop :=
  (128 ∣ (k0_mult44 v639).toNat) ∧
  (∀ a, (k0_off23 i v639) a + S8x128.size a ≤ S1024x100000.size a) ∧
  (∀ a, (k0_off55 i v639) a + S8x128.size a ≤ S1024x100000.size a)
theorem k0_mult44_dvd : ∀ (i : grid0.Coords) (v639 : BitVec 32) (k0_hw22 : k0_chk22 i v639), 128 ∣ (k0_mult44 v639).toNat := fun i v639 k0_hw22 => k0_hw22.1
theorem k0_off23_inb : ∀ (i : grid0.Coords) (v639 : BitVec 32) (k0_hw22 : k0_chk22 i v639), ∀ a, (k0_off23 i v639) a + S8x128.size a ≤ S1024x100000.size a := fun i v639 k0_hw22 => k0_hw22.2.1
theorem k0_off55_inb : ∀ (i : grid0.Coords) (v639 : BitVec 32) (k0_hw22 : k0_chk22 i v639), ∀ a, (k0_off55 i v639) a + S8x128.size a ≤ S1024x100000.size a := fun i v639 k0_hw22 => k0_hw22.2.2

def k0_off56 (i : grid0.Coords) (v669 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_336 : BitVec 32 := 16#32
  let v692 : BitVec 32 := Scalar.addi v3 c16_i32_336
  let v693 : BitVec 32 := v692
  let c_m1_i32_325 : BitVec 32 := 4294967295#32
  let v670 : BitVec 1 := Scalar.cmpi .ne v669 c_m1_i32_325
  let c0_i32_326 : BitVec 32 := 0#32
  let v671 : BitVec 32 := Scalar.select v670 v669 c0_i32_326
  let c0_i32_328 : BitVec 32 := 0#32
  let v673 : BitVec 1 := Scalar.cmpi .sgt v671 c0_i32_328
  let v674 : BitVec 32 := Scalar.extui v673
  let c0_i32_329 : BitVec 32 := 0#32
  let v675 : BitVec 1 := Scalar.cmpi .slt v671 c0_i32_329
  let v676 : BitVec 32 := Scalar.extui v675
  let v677 : BitVec 32 := Scalar.subi v674 v676
  let c128_i32_327 : BitVec 32 := 128#32
  let c0_i32_330 : BitVec 32 := 0#32
  let v678 : BitVec 1 := Scalar.cmpi .sgt c128_i32_327 c0_i32_330
  let v679 : BitVec 32 := Scalar.extui v678
  let c0_i32_331 : BitVec 32 := 0#32
  let v680 : BitVec 1 := Scalar.cmpi .slt c128_i32_327 c0_i32_331
  let v681 : BitVec 32 := Scalar.extui v680
  let v682 : BitVec 32 := Scalar.subi v679 v681
  let v683 : BitVec 1 := Scalar.cmpi .ne v677 v682
  let v684 : BitVec 32 := Scalar.remsi v671 c128_i32_327
  let c0_i32_332 : BitVec 32 := 0#32
  let v685 : BitVec 1 := Scalar.cmpi .ne v684 c0_i32_332
  let v686 : BitVec 1 := Scalar.andi v683 v685
  let v672 : BitVec 32 := Scalar.divsi v671 c128_i32_327
  let c1_i32_333 : BitVec 32 := 1#32
  let v687 : BitVec 32 := Scalar.subi v672 c1_i32_333
  let v688 : BitVec 32 := Scalar.select v686 v687 v672
  let c128_i32_334 : BitVec 32 := 128#32
  let v689 : BitVec 32 := Scalar.muli v688 c128_i32_334
  let c99840_i32_335 : BitVec 32 := 99840#32
  let v690 : BitVec 32 := Scalar.minsi v689 c99840_i32_335
  let v691 : BitVec 32 := v690
  ![v693.toNat, v691.toNat]

def k0_chk23 (i : grid0.Coords) (v669 : BitVec 32) : Prop :=
  (128 ∣ (k0_mult46 v669).toNat) ∧
  (∀ a, (k0_off24 i v669) a + S8x128.size a ≤ S1024x100000.size a) ∧
  (∀ a, (k0_off56 i v669) a + S8x128.size a ≤ S1024x100000.size a)
theorem k0_mult46_dvd : ∀ (i : grid0.Coords) (v669 : BitVec 32) (k0_hw23 : k0_chk23 i v669), 128 ∣ (k0_mult46 v669).toNat := fun i v669 k0_hw23 => k0_hw23.1
theorem k0_off24_inb : ∀ (i : grid0.Coords) (v669 : BitVec 32) (k0_hw23 : k0_chk23 i v669), ∀ a, (k0_off24 i v669) a + S8x128.size a ≤ S1024x100000.size a := fun i v669 k0_hw23 => k0_hw23.2.1
theorem k0_off56_inb : ∀ (i : grid0.Coords) (v669 : BitVec 32) (k0_hw23 : k0_chk23 i v669), ∀ a, (k0_off56 i v669) a + S8x128.size a ≤ S1024x100000.size a := fun i v669 k0_hw23 => k0_hw23.2.2

def k0_off57 (i : grid0.Coords) (v699 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c16_i32_351 : BitVec 32 := 16#32
  let v722 : BitVec 32 := Scalar.addi v3 c16_i32_351
  let v723 : BitVec 32 := v722
  let c_m1_i32_340 : BitVec 32 := 4294967295#32
  let v700 : BitVec 1 := Scalar.cmpi .ne v699 c_m1_i32_340
  let c0_i32_341 : BitVec 32 := 0#32
  let v701 : BitVec 32 := Scalar.select v700 v699 c0_i32_341
  let c0_i32_343 : BitVec 32 := 0#32
  let v703 : BitVec 1 := Scalar.cmpi .sgt v701 c0_i32_343
  let v704 : BitVec 32 := Scalar.extui v703
  let c0_i32_344 : BitVec 32 := 0#32
  let v705 : BitVec 1 := Scalar.cmpi .slt v701 c0_i32_344
  let v706 : BitVec 32 := Scalar.extui v705
  let v707 : BitVec 32 := Scalar.subi v704 v706
  let c128_i32_342 : BitVec 32 := 128#32
  let c0_i32_345 : BitVec 32 := 0#32
  let v708 : BitVec 1 := Scalar.cmpi .sgt c128_i32_342 c0_i32_345
  let v709 : BitVec 32 := Scalar.extui v708
  let c0_i32_346 : BitVec 32 := 0#32
  let v710 : BitVec 1 := Scalar.cmpi .slt c128_i32_342 c0_i32_346
  let v711 : BitVec 32 := Scalar.extui v710
  let v712 : BitVec 32 := Scalar.subi v709 v711
  let v713 : BitVec 1 := Scalar.cmpi .ne v707 v712
  let v714 : BitVec 32 := Scalar.remsi v701 c128_i32_342
  let c0_i32_347 : BitVec 32 := 0#32
  let v715 : BitVec 1 := Scalar.cmpi .ne v714 c0_i32_347
  let v716 : BitVec 1 := Scalar.andi v713 v715
  let v702 : BitVec 32 := Scalar.divsi v701 c128_i32_342
  let c1_i32_348 : BitVec 32 := 1#32
  let v717 : BitVec 32 := Scalar.subi v702 c1_i32_348
  let v718 : BitVec 32 := Scalar.select v716 v717 v702
  let c128_i32_349 : BitVec 32 := 128#32
  let v719 : BitVec 32 := Scalar.muli v718 c128_i32_349
  let c99840_i32_350 : BitVec 32 := 99840#32
  let v720 : BitVec 32 := Scalar.minsi v719 c99840_i32_350
  let v721 : BitVec 32 := v720
  ![v723.toNat, v721.toNat]

def k0_chk24 (i : grid0.Coords) (v699 : BitVec 32) : Prop :=
  (128 ∣ (k0_mult48 v699).toNat) ∧
  (∀ a, (k0_off25 i v699) a + S8x128.size a ≤ S1024x100000.size a) ∧
  (∀ a, (k0_off57 i v699) a + S8x128.size a ≤ S1024x100000.size a)
theorem k0_mult48_dvd : ∀ (i : grid0.Coords) (v699 : BitVec 32) (k0_hw24 : k0_chk24 i v699), 128 ∣ (k0_mult48 v699).toNat := fun i v699 k0_hw24 => k0_hw24.1
theorem k0_off25_inb : ∀ (i : grid0.Coords) (v699 : BitVec 32) (k0_hw24 : k0_chk24 i v699), ∀ a, (k0_off25 i v699) a + S8x128.size a ≤ S1024x100000.size a := fun i v699 k0_hw24 => k0_hw24.2.1
theorem k0_off57_inb : ∀ (i : grid0.Coords) (v699 : BitVec 32) (k0_hw24 : k0_chk24 i v699), ∀ a, (k0_off57 i v699) a + S8x128.size a ≤ S1024x100000.size a := fun i v699 k0_hw24 => k0_hw24.2.2

def k0_off58 (i : grid0.Coords) (v729 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32 : BitVec 32 := 24#32
  let v752 : BitVec 32 := Scalar.addi v3 c24_i32
  let v753 : BitVec 32 := v752
  let c_m1_i32_355 : BitVec 32 := 4294967295#32
  let v730 : BitVec 1 := Scalar.cmpi .ne v729 c_m1_i32_355
  let c0_i32_356 : BitVec 32 := 0#32
  let v731 : BitVec 32 := Scalar.select v730 v729 c0_i32_356
  let c0_i32_358 : BitVec 32 := 0#32
  let v733 : BitVec 1 := Scalar.cmpi .sgt v731 c0_i32_358
  let v734 : BitVec 32 := Scalar.extui v733
  let c0_i32_359 : BitVec 32 := 0#32
  let v735 : BitVec 1 := Scalar.cmpi .slt v731 c0_i32_359
  let v736 : BitVec 32 := Scalar.extui v735
  let v737 : BitVec 32 := Scalar.subi v734 v736
  let c128_i32_357 : BitVec 32 := 128#32
  let c0_i32_360 : BitVec 32 := 0#32
  let v738 : BitVec 1 := Scalar.cmpi .sgt c128_i32_357 c0_i32_360
  let v739 : BitVec 32 := Scalar.extui v738
  let c0_i32_361 : BitVec 32 := 0#32
  let v740 : BitVec 1 := Scalar.cmpi .slt c128_i32_357 c0_i32_361
  let v741 : BitVec 32 := Scalar.extui v740
  let v742 : BitVec 32 := Scalar.subi v739 v741
  let v743 : BitVec 1 := Scalar.cmpi .ne v737 v742
  let v744 : BitVec 32 := Scalar.remsi v731 c128_i32_357
  let c0_i32_362 : BitVec 32 := 0#32
  let v745 : BitVec 1 := Scalar.cmpi .ne v744 c0_i32_362
  let v746 : BitVec 1 := Scalar.andi v743 v745
  let v732 : BitVec 32 := Scalar.divsi v731 c128_i32_357
  let c1_i32_363 : BitVec 32 := 1#32
  let v747 : BitVec 32 := Scalar.subi v732 c1_i32_363
  let v748 : BitVec 32 := Scalar.select v746 v747 v732
  let c128_i32_364 : BitVec 32 := 128#32
  let v749 : BitVec 32 := Scalar.muli v748 c128_i32_364
  let c99840_i32_365 : BitVec 32 := 99840#32
  let v750 : BitVec 32 := Scalar.minsi v749 c99840_i32_365
  let v751 : BitVec 32 := v750
  ![v753.toNat, v751.toNat]

def k0_chk25 (i : grid0.Coords) (v729 : BitVec 32) : Prop :=
  (128 ∣ (k0_mult50 v729).toNat) ∧
  (∀ a, (k0_off26 i v729) a + S8x128.size a ≤ S1024x100000.size a) ∧
  (∀ a, (k0_off58 i v729) a + S8x128.size a ≤ S1024x100000.size a)
theorem k0_mult50_dvd : ∀ (i : grid0.Coords) (v729 : BitVec 32) (k0_hw25 : k0_chk25 i v729), 128 ∣ (k0_mult50 v729).toNat := fun i v729 k0_hw25 => k0_hw25.1
theorem k0_off26_inb : ∀ (i : grid0.Coords) (v729 : BitVec 32) (k0_hw25 : k0_chk25 i v729), ∀ a, (k0_off26 i v729) a + S8x128.size a ≤ S1024x100000.size a := fun i v729 k0_hw25 => k0_hw25.2.1
theorem k0_off58_inb : ∀ (i : grid0.Coords) (v729 : BitVec 32) (k0_hw25 : k0_chk25 i v729), ∀ a, (k0_off58 i v729) a + S8x128.size a ≤ S1024x100000.size a := fun i v729 k0_hw25 => k0_hw25.2.2

def k0_off59 (i : grid0.Coords) (v759 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_380 : BitVec 32 := 24#32
  let v782 : BitVec 32 := Scalar.addi v3 c24_i32_380
  let v783 : BitVec 32 := v782
  let c_m1_i32_369 : BitVec 32 := 4294967295#32
  let v760 : BitVec 1 := Scalar.cmpi .ne v759 c_m1_i32_369
  let c0_i32_370 : BitVec 32 := 0#32
  let v761 : BitVec 32 := Scalar.select v760 v759 c0_i32_370
  let c0_i32_372 : BitVec 32 := 0#32
  let v763 : BitVec 1 := Scalar.cmpi .sgt v761 c0_i32_372
  let v764 : BitVec 32 := Scalar.extui v763
  let c0_i32_373 : BitVec 32 := 0#32
  let v765 : BitVec 1 := Scalar.cmpi .slt v761 c0_i32_373
  let v766 : BitVec 32 := Scalar.extui v765
  let v767 : BitVec 32 := Scalar.subi v764 v766
  let c128_i32_371 : BitVec 32 := 128#32
  let c0_i32_374 : BitVec 32 := 0#32
  let v768 : BitVec 1 := Scalar.cmpi .sgt c128_i32_371 c0_i32_374
  let v769 : BitVec 32 := Scalar.extui v768
  let c0_i32_375 : BitVec 32 := 0#32
  let v770 : BitVec 1 := Scalar.cmpi .slt c128_i32_371 c0_i32_375
  let v771 : BitVec 32 := Scalar.extui v770
  let v772 : BitVec 32 := Scalar.subi v769 v771
  let v773 : BitVec 1 := Scalar.cmpi .ne v767 v772
  let v774 : BitVec 32 := Scalar.remsi v761 c128_i32_371
  let c0_i32_376 : BitVec 32 := 0#32
  let v775 : BitVec 1 := Scalar.cmpi .ne v774 c0_i32_376
  let v776 : BitVec 1 := Scalar.andi v773 v775
  let v762 : BitVec 32 := Scalar.divsi v761 c128_i32_371
  let c1_i32_377 : BitVec 32 := 1#32
  let v777 : BitVec 32 := Scalar.subi v762 c1_i32_377
  let v778 : BitVec 32 := Scalar.select v776 v777 v762
  let c128_i32_378 : BitVec 32 := 128#32
  let v779 : BitVec 32 := Scalar.muli v778 c128_i32_378
  let c99840_i32_379 : BitVec 32 := 99840#32
  let v780 : BitVec 32 := Scalar.minsi v779 c99840_i32_379
  let v781 : BitVec 32 := v780
  ![v783.toNat, v781.toNat]

def k0_chk26 (i : grid0.Coords) (v759 : BitVec 32) : Prop :=
  (128 ∣ (k0_mult52 v759).toNat) ∧
  (∀ a, (k0_off27 i v759) a + S8x128.size a ≤ S1024x100000.size a) ∧
  (∀ a, (k0_off59 i v759) a + S8x128.size a ≤ S1024x100000.size a)
theorem k0_mult52_dvd : ∀ (i : grid0.Coords) (v759 : BitVec 32) (k0_hw26 : k0_chk26 i v759), 128 ∣ (k0_mult52 v759).toNat := fun i v759 k0_hw26 => k0_hw26.1
theorem k0_off27_inb : ∀ (i : grid0.Coords) (v759 : BitVec 32) (k0_hw26 : k0_chk26 i v759), ∀ a, (k0_off27 i v759) a + S8x128.size a ≤ S1024x100000.size a := fun i v759 k0_hw26 => k0_hw26.2.1
theorem k0_off59_inb : ∀ (i : grid0.Coords) (v759 : BitVec 32) (k0_hw26 : k0_chk26 i v759), ∀ a, (k0_off59 i v759) a + S8x128.size a ≤ S1024x100000.size a := fun i v759 k0_hw26 => k0_hw26.2.2

def k0_off60 (i : grid0.Coords) (v789 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_395 : BitVec 32 := 24#32
  let v812 : BitVec 32 := Scalar.addi v3 c24_i32_395
  let v813 : BitVec 32 := v812
  let c_m1_i32_384 : BitVec 32 := 4294967295#32
  let v790 : BitVec 1 := Scalar.cmpi .ne v789 c_m1_i32_384
  let c0_i32_385 : BitVec 32 := 0#32
  let v791 : BitVec 32 := Scalar.select v790 v789 c0_i32_385
  let c0_i32_387 : BitVec 32 := 0#32
  let v793 : BitVec 1 := Scalar.cmpi .sgt v791 c0_i32_387
  let v794 : BitVec 32 := Scalar.extui v793
  let c0_i32_388 : BitVec 32 := 0#32
  let v795 : BitVec 1 := Scalar.cmpi .slt v791 c0_i32_388
  let v796 : BitVec 32 := Scalar.extui v795
  let v797 : BitVec 32 := Scalar.subi v794 v796
  let c128_i32_386 : BitVec 32 := 128#32
  let c0_i32_389 : BitVec 32 := 0#32
  let v798 : BitVec 1 := Scalar.cmpi .sgt c128_i32_386 c0_i32_389
  let v799 : BitVec 32 := Scalar.extui v798
  let c0_i32_390 : BitVec 32 := 0#32
  let v800 : BitVec 1 := Scalar.cmpi .slt c128_i32_386 c0_i32_390
  let v801 : BitVec 32 := Scalar.extui v800
  let v802 : BitVec 32 := Scalar.subi v799 v801
  let v803 : BitVec 1 := Scalar.cmpi .ne v797 v802
  let v804 : BitVec 32 := Scalar.remsi v791 c128_i32_386
  let c0_i32_391 : BitVec 32 := 0#32
  let v805 : BitVec 1 := Scalar.cmpi .ne v804 c0_i32_391
  let v806 : BitVec 1 := Scalar.andi v803 v805
  let v792 : BitVec 32 := Scalar.divsi v791 c128_i32_386
  let c1_i32_392 : BitVec 32 := 1#32
  let v807 : BitVec 32 := Scalar.subi v792 c1_i32_392
  let v808 : BitVec 32 := Scalar.select v806 v807 v792
  let c128_i32_393 : BitVec 32 := 128#32
  let v809 : BitVec 32 := Scalar.muli v808 c128_i32_393
  let c99840_i32_394 : BitVec 32 := 99840#32
  let v810 : BitVec 32 := Scalar.minsi v809 c99840_i32_394
  let v811 : BitVec 32 := v810
  ![v813.toNat, v811.toNat]

def k0_chk27 (i : grid0.Coords) (v789 : BitVec 32) : Prop :=
  (128 ∣ (k0_mult54 v789).toNat) ∧
  (∀ a, (k0_off28 i v789) a + S8x128.size a ≤ S1024x100000.size a) ∧
  (∀ a, (k0_off60 i v789) a + S8x128.size a ≤ S1024x100000.size a)
theorem k0_mult54_dvd : ∀ (i : grid0.Coords) (v789 : BitVec 32) (k0_hw27 : k0_chk27 i v789), 128 ∣ (k0_mult54 v789).toNat := fun i v789 k0_hw27 => k0_hw27.1
theorem k0_off28_inb : ∀ (i : grid0.Coords) (v789 : BitVec 32) (k0_hw27 : k0_chk27 i v789), ∀ a, (k0_off28 i v789) a + S8x128.size a ≤ S1024x100000.size a := fun i v789 k0_hw27 => k0_hw27.2.1
theorem k0_off60_inb : ∀ (i : grid0.Coords) (v789 : BitVec 32) (k0_hw27 : k0_chk27 i v789), ∀ a, (k0_off60 i v789) a + S8x128.size a ≤ S1024x100000.size a := fun i v789 k0_hw27 => k0_hw27.2.2

def k0_off61 (i : grid0.Coords) (v819 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_410 : BitVec 32 := 24#32
  let v842 : BitVec 32 := Scalar.addi v3 c24_i32_410
  let v843 : BitVec 32 := v842
  let c_m1_i32_399 : BitVec 32 := 4294967295#32
  let v820 : BitVec 1 := Scalar.cmpi .ne v819 c_m1_i32_399
  let c0_i32_400 : BitVec 32 := 0#32
  let v821 : BitVec 32 := Scalar.select v820 v819 c0_i32_400
  let c0_i32_402 : BitVec 32 := 0#32
  let v823 : BitVec 1 := Scalar.cmpi .sgt v821 c0_i32_402
  let v824 : BitVec 32 := Scalar.extui v823
  let c0_i32_403 : BitVec 32 := 0#32
  let v825 : BitVec 1 := Scalar.cmpi .slt v821 c0_i32_403
  let v826 : BitVec 32 := Scalar.extui v825
  let v827 : BitVec 32 := Scalar.subi v824 v826
  let c128_i32_401 : BitVec 32 := 128#32
  let c0_i32_404 : BitVec 32 := 0#32
  let v828 : BitVec 1 := Scalar.cmpi .sgt c128_i32_401 c0_i32_404
  let v829 : BitVec 32 := Scalar.extui v828
  let c0_i32_405 : BitVec 32 := 0#32
  let v830 : BitVec 1 := Scalar.cmpi .slt c128_i32_401 c0_i32_405
  let v831 : BitVec 32 := Scalar.extui v830
  let v832 : BitVec 32 := Scalar.subi v829 v831
  let v833 : BitVec 1 := Scalar.cmpi .ne v827 v832
  let v834 : BitVec 32 := Scalar.remsi v821 c128_i32_401
  let c0_i32_406 : BitVec 32 := 0#32
  let v835 : BitVec 1 := Scalar.cmpi .ne v834 c0_i32_406
  let v836 : BitVec 1 := Scalar.andi v833 v835
  let v822 : BitVec 32 := Scalar.divsi v821 c128_i32_401
  let c1_i32_407 : BitVec 32 := 1#32
  let v837 : BitVec 32 := Scalar.subi v822 c1_i32_407
  let v838 : BitVec 32 := Scalar.select v836 v837 v822
  let c128_i32_408 : BitVec 32 := 128#32
  let v839 : BitVec 32 := Scalar.muli v838 c128_i32_408
  let c99840_i32_409 : BitVec 32 := 99840#32
  let v840 : BitVec 32 := Scalar.minsi v839 c99840_i32_409
  let v841 : BitVec 32 := v840
  ![v843.toNat, v841.toNat]

def k0_chk28 (i : grid0.Coords) (v819 : BitVec 32) : Prop :=
  (128 ∣ (k0_mult56 v819).toNat) ∧
  (∀ a, (k0_off29 i v819) a + S8x128.size a ≤ S1024x100000.size a) ∧
  (∀ a, (k0_off61 i v819) a + S8x128.size a ≤ S1024x100000.size a)
theorem k0_mult56_dvd : ∀ (i : grid0.Coords) (v819 : BitVec 32) (k0_hw28 : k0_chk28 i v819), 128 ∣ (k0_mult56 v819).toNat := fun i v819 k0_hw28 => k0_hw28.1
theorem k0_off29_inb : ∀ (i : grid0.Coords) (v819 : BitVec 32) (k0_hw28 : k0_chk28 i v819), ∀ a, (k0_off29 i v819) a + S8x128.size a ≤ S1024x100000.size a := fun i v819 k0_hw28 => k0_hw28.2.1
theorem k0_off61_inb : ∀ (i : grid0.Coords) (v819 : BitVec 32) (k0_hw28 : k0_chk28 i v819), ∀ a, (k0_off61 i v819) a + S8x128.size a ≤ S1024x100000.size a := fun i v819 k0_hw28 => k0_hw28.2.2

def k0_off62 (i : grid0.Coords) (v849 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_425 : BitVec 32 := 24#32
  let v872 : BitVec 32 := Scalar.addi v3 c24_i32_425
  let v873 : BitVec 32 := v872
  let c_m1_i32_414 : BitVec 32 := 4294967295#32
  let v850 : BitVec 1 := Scalar.cmpi .ne v849 c_m1_i32_414
  let c0_i32_415 : BitVec 32 := 0#32
  let v851 : BitVec 32 := Scalar.select v850 v849 c0_i32_415
  let c0_i32_417 : BitVec 32 := 0#32
  let v853 : BitVec 1 := Scalar.cmpi .sgt v851 c0_i32_417
  let v854 : BitVec 32 := Scalar.extui v853
  let c0_i32_418 : BitVec 32 := 0#32
  let v855 : BitVec 1 := Scalar.cmpi .slt v851 c0_i32_418
  let v856 : BitVec 32 := Scalar.extui v855
  let v857 : BitVec 32 := Scalar.subi v854 v856
  let c128_i32_416 : BitVec 32 := 128#32
  let c0_i32_419 : BitVec 32 := 0#32
  let v858 : BitVec 1 := Scalar.cmpi .sgt c128_i32_416 c0_i32_419
  let v859 : BitVec 32 := Scalar.extui v858
  let c0_i32_420 : BitVec 32 := 0#32
  let v860 : BitVec 1 := Scalar.cmpi .slt c128_i32_416 c0_i32_420
  let v861 : BitVec 32 := Scalar.extui v860
  let v862 : BitVec 32 := Scalar.subi v859 v861
  let v863 : BitVec 1 := Scalar.cmpi .ne v857 v862
  let v864 : BitVec 32 := Scalar.remsi v851 c128_i32_416
  let c0_i32_421 : BitVec 32 := 0#32
  let v865 : BitVec 1 := Scalar.cmpi .ne v864 c0_i32_421
  let v866 : BitVec 1 := Scalar.andi v863 v865
  let v852 : BitVec 32 := Scalar.divsi v851 c128_i32_416
  let c1_i32_422 : BitVec 32 := 1#32
  let v867 : BitVec 32 := Scalar.subi v852 c1_i32_422
  let v868 : BitVec 32 := Scalar.select v866 v867 v852
  let c128_i32_423 : BitVec 32 := 128#32
  let v869 : BitVec 32 := Scalar.muli v868 c128_i32_423
  let c99840_i32_424 : BitVec 32 := 99840#32
  let v870 : BitVec 32 := Scalar.minsi v869 c99840_i32_424
  let v871 : BitVec 32 := v870
  ![v873.toNat, v871.toNat]

def k0_chk29 (i : grid0.Coords) (v849 : BitVec 32) : Prop :=
  (128 ∣ (k0_mult58 v849).toNat) ∧
  (∀ a, (k0_off30 i v849) a + S8x128.size a ≤ S1024x100000.size a) ∧
  (∀ a, (k0_off62 i v849) a + S8x128.size a ≤ S1024x100000.size a)
theorem k0_mult58_dvd : ∀ (i : grid0.Coords) (v849 : BitVec 32) (k0_hw29 : k0_chk29 i v849), 128 ∣ (k0_mult58 v849).toNat := fun i v849 k0_hw29 => k0_hw29.1
theorem k0_off30_inb : ∀ (i : grid0.Coords) (v849 : BitVec 32) (k0_hw29 : k0_chk29 i v849), ∀ a, (k0_off30 i v849) a + S8x128.size a ≤ S1024x100000.size a := fun i v849 k0_hw29 => k0_hw29.2.1
theorem k0_off62_inb : ∀ (i : grid0.Coords) (v849 : BitVec 32) (k0_hw29 : k0_chk29 i v849), ∀ a, (k0_off62 i v849) a + S8x128.size a ≤ S1024x100000.size a := fun i v849 k0_hw29 => k0_hw29.2.2

def k0_off63 (i : grid0.Coords) (v879 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_440 : BitVec 32 := 24#32
  let v902 : BitVec 32 := Scalar.addi v3 c24_i32_440
  let v903 : BitVec 32 := v902
  let c_m1_i32_429 : BitVec 32 := 4294967295#32
  let v880 : BitVec 1 := Scalar.cmpi .ne v879 c_m1_i32_429
  let c0_i32_430 : BitVec 32 := 0#32
  let v881 : BitVec 32 := Scalar.select v880 v879 c0_i32_430
  let c0_i32_432 : BitVec 32 := 0#32
  let v883 : BitVec 1 := Scalar.cmpi .sgt v881 c0_i32_432
  let v884 : BitVec 32 := Scalar.extui v883
  let c0_i32_433 : BitVec 32 := 0#32
  let v885 : BitVec 1 := Scalar.cmpi .slt v881 c0_i32_433
  let v886 : BitVec 32 := Scalar.extui v885
  let v887 : BitVec 32 := Scalar.subi v884 v886
  let c128_i32_431 : BitVec 32 := 128#32
  let c0_i32_434 : BitVec 32 := 0#32
  let v888 : BitVec 1 := Scalar.cmpi .sgt c128_i32_431 c0_i32_434
  let v889 : BitVec 32 := Scalar.extui v888
  let c0_i32_435 : BitVec 32 := 0#32
  let v890 : BitVec 1 := Scalar.cmpi .slt c128_i32_431 c0_i32_435
  let v891 : BitVec 32 := Scalar.extui v890
  let v892 : BitVec 32 := Scalar.subi v889 v891
  let v893 : BitVec 1 := Scalar.cmpi .ne v887 v892
  let v894 : BitVec 32 := Scalar.remsi v881 c128_i32_431
  let c0_i32_436 : BitVec 32 := 0#32
  let v895 : BitVec 1 := Scalar.cmpi .ne v894 c0_i32_436
  let v896 : BitVec 1 := Scalar.andi v893 v895
  let v882 : BitVec 32 := Scalar.divsi v881 c128_i32_431
  let c1_i32_437 : BitVec 32 := 1#32
  let v897 : BitVec 32 := Scalar.subi v882 c1_i32_437
  let v898 : BitVec 32 := Scalar.select v896 v897 v882
  let c128_i32_438 : BitVec 32 := 128#32
  let v899 : BitVec 32 := Scalar.muli v898 c128_i32_438
  let c99840_i32_439 : BitVec 32 := 99840#32
  let v900 : BitVec 32 := Scalar.minsi v899 c99840_i32_439
  let v901 : BitVec 32 := v900
  ![v903.toNat, v901.toNat]

def k0_chk30 (i : grid0.Coords) (v879 : BitVec 32) : Prop :=
  (128 ∣ (k0_mult60 v879).toNat) ∧
  (∀ a, (k0_off31 i v879) a + S8x128.size a ≤ S1024x100000.size a) ∧
  (∀ a, (k0_off63 i v879) a + S8x128.size a ≤ S1024x100000.size a)
theorem k0_mult60_dvd : ∀ (i : grid0.Coords) (v879 : BitVec 32) (k0_hw30 : k0_chk30 i v879), 128 ∣ (k0_mult60 v879).toNat := fun i v879 k0_hw30 => k0_hw30.1
theorem k0_off31_inb : ∀ (i : grid0.Coords) (v879 : BitVec 32) (k0_hw30 : k0_chk30 i v879), ∀ a, (k0_off31 i v879) a + S8x128.size a ≤ S1024x100000.size a := fun i v879 k0_hw30 => k0_hw30.2.1
theorem k0_off63_inb : ∀ (i : grid0.Coords) (v879 : BitVec 32) (k0_hw30 : k0_chk30 i v879), ∀ a, (k0_off63 i v879) a + S8x128.size a ≤ S1024x100000.size a := fun i v879 k0_hw30 => k0_hw30.2.2

def k0_off64 (i : grid0.Coords) (v909 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  let c24_i32_455 : BitVec 32 := 24#32
  let v932 : BitVec 32 := Scalar.addi v3 c24_i32_455
  let v933 : BitVec 32 := v932
  let c_m1_i32_444 : BitVec 32 := 4294967295#32
  let v910 : BitVec 1 := Scalar.cmpi .ne v909 c_m1_i32_444
  let c0_i32_445 : BitVec 32 := 0#32
  let v911 : BitVec 32 := Scalar.select v910 v909 c0_i32_445
  let c0_i32_447 : BitVec 32 := 0#32
  let v913 : BitVec 1 := Scalar.cmpi .sgt v911 c0_i32_447
  let v914 : BitVec 32 := Scalar.extui v913
  let c0_i32_448 : BitVec 32 := 0#32
  let v915 : BitVec 1 := Scalar.cmpi .slt v911 c0_i32_448
  let v916 : BitVec 32 := Scalar.extui v915
  let v917 : BitVec 32 := Scalar.subi v914 v916
  let c128_i32_446 : BitVec 32 := 128#32
  let c0_i32_449 : BitVec 32 := 0#32
  let v918 : BitVec 1 := Scalar.cmpi .sgt c128_i32_446 c0_i32_449
  let v919 : BitVec 32 := Scalar.extui v918
  let c0_i32_450 : BitVec 32 := 0#32
  let v920 : BitVec 1 := Scalar.cmpi .slt c128_i32_446 c0_i32_450
  let v921 : BitVec 32 := Scalar.extui v920
  let v922 : BitVec 32 := Scalar.subi v919 v921
  let v923 : BitVec 1 := Scalar.cmpi .ne v917 v922
  let v924 : BitVec 32 := Scalar.remsi v911 c128_i32_446
  let c0_i32_451 : BitVec 32 := 0#32
  let v925 : BitVec 1 := Scalar.cmpi .ne v924 c0_i32_451
  let v926 : BitVec 1 := Scalar.andi v923 v925
  let v912 : BitVec 32 := Scalar.divsi v911 c128_i32_446
  let c1_i32_452 : BitVec 32 := 1#32
  let v927 : BitVec 32 := Scalar.subi v912 c1_i32_452
  let v928 : BitVec 32 := Scalar.select v926 v927 v912
  let c128_i32_453 : BitVec 32 := 128#32
  let v929 : BitVec 32 := Scalar.muli v928 c128_i32_453
  let c99840_i32_454 : BitVec 32 := 99840#32
  let v930 : BitVec 32 := Scalar.minsi v929 c99840_i32_454
  let v931 : BitVec 32 := v930
  ![v933.toNat, v931.toNat]

def k0_chk31 (i : grid0.Coords) (v909 : BitVec 32) : Prop :=
  (128 ∣ (k0_mult62 v909).toNat) ∧
  (∀ a, (k0_off32 i v909) a + S8x128.size a ≤ S1024x100000.size a) ∧
  (∀ a, (k0_off64 i v909) a + S8x128.size a ≤ S1024x100000.size a)
theorem k0_mult62_dvd : ∀ (i : grid0.Coords) (v909 : BitVec 32) (k0_hw31 : k0_chk31 i v909), 128 ∣ (k0_mult62 v909).toNat := fun i v909 k0_hw31 => k0_hw31.1
theorem k0_off32_inb : ∀ (i : grid0.Coords) (v909 : BitVec 32) (k0_hw31 : k0_chk31 i v909), ∀ a, (k0_off32 i v909) a + S8x128.size a ≤ S1024x100000.size a := fun i v909 k0_hw31 => k0_hw31.2.1
theorem k0_off64_inb : ∀ (i : grid0.Coords) (v909 : BitVec 32) (k0_hw31 : k0_chk31 i v909), ∀ a, (k0_off64 i v909) a + S8x128.size a ≤ S1024x100000.size a := fun i v909 k0_hw31 => k0_hw31.2.2

def k0_off65 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := v2
  ![v3.toNat]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x100000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024x1 : Shape := ⟨2, ![1024, 1]⟩
abbrev S1024 : Shape := ⟨1, ![1024]⟩
abbrev S_ : Shape := ⟨0, ![]⟩
abbrev S1024x2 : Shape := ⟨2, ![1024, 2]⟩

abbrev nBuf : Space → Nat
  | .hbm => 70
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x1, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .i1⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S_, .i32⟩
  | .hbm, ⟨57, _⟩ => ⟨S1024, .i32⟩
  | .hbm, ⟨58, _⟩ => ⟨S1024, .i1⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S1024x1, .i32⟩
  | .hbm, ⟨64, _⟩ => ⟨S1024x1, .i32⟩
  | .hbm, ⟨65, _⟩ => ⟨S1024x2, .i32⟩
  | .hbm, ⟨66, _⟩ => ⟨S1024x100000, .f32⟩
  | .hbm, ⟨67, _⟩ => ⟨S_, .f32⟩
  | .hbm, ⟨68, _⟩ => ⟨S1024x100000, .f32⟩
  | .hbm, ⟨69, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Walk.lean ====
/-
  What one vector subcore runs, written as loops. The printed body is straight-line: 32 fetches of an 8 × 128 chunk of
  the logits, 32 waits, and for each of the 32 rows eight loads of 16 lanes, a selection of the group and a selection of
  the lane. Here each of the three is a recursion on the row, over the same operations; the printed body is this
  program by unfolding both (`body_eq_walk`).
-/
module

public import proofs.«01_k».proof.Proof.Gen.KernelIdeal
public import proofs.«01_k».proof.Proof.Gen.KernelIdeal.Skeleton

@[expose] public section

noncomputable section

namespace Cert.Proof.Walk

open Cert.KernelIdeal Cert.KernelIdeal.Gen
open Idealize.ShloMosaic Idealize.SL.Sem

variable {F : FTy → Type} [FloatOps F]

/-! ## The words: a lane of a vector, the chunk's column, the chunk's offsets -/

theorem slices (k : Nat) (h : k < 16) : S16.Slices ![k] S1 :=
  ⟨rfl, fun a => by fin_cases a; simp [S16, S1]; omega⟩

/-- Lane `k` of a vector of 16. -/
def lane {α : Type} (v : S16.Idx → α) (k : Nat) (h : k < 16) : α :=
  extractAt ![0] (extractStridedSlice S1 ![k] v (slices k h)) inpos_S1_p0

/-- The first row of the tile at grid point `i`, as the body computes it. -/
def baseW (i : grid0.Coords) : BitVec 32 :=
  Scalar.muli (Scalar.addi (Scalar.muli (BitVec.ofNat 32 (i 1).val) 2#32) (BitVec.ofNat 32 (i 0).val)) 32#32

/-- Where the chunk of row `r` (its label the word `v`) begins: its eight rows and its 128 columns. -/
def chunkOff (i : grid0.Coords) (r : Nat) (v : BitVec 32) : Fin 2 → Nat :=
  ![(Scalar.addi (baseW i) (BitVec.ofNat 32 (r / 8 * 8))).toNat, (k0_mult2 v).toNat]

/-- The chunk lies inside the logits. -/
def inside (i : grid0.Coords) (r : Nat) (v : BitVec 32) : Prop :=
  ∀ a, (chunkOff i r v) a + S8x128.size a ≤ S1024x100000.size a

/-- The side condition the body assumes of a row's label, with the chunk's place stated twice: for its fetch and for its
    wait. -/
def chkTwo (i : grid0.Coords) (r : Nat) (v : BitVec 32) : Prop :=
  (128 ∣ (k0_mult2 v).toNat) ∧ (∀ a, (chunkOff i r v) a + S8x128.size a ≤ S1024x100000.size a) ∧
  (∀ a, (chunkOff i r v) a + S8x128.size a ≤ S1024x100000.size a)

/-- The same with the place stated once. -/
def chkOne (i : grid0.Coords) (r : Nat) (v : BitVec 32) : Prop :=
  (128 ∣ (k0_mult2 v).toNat) ∧ (∀ a, (chunkOff i r v) a + S8x128.size a ≤ S1024x100000.size a)

/-- The side condition of row `r`: the body states the last row's place once. -/
def chk (i : grid0.Coords) (r : Nat) (v : BitVec 32) : Prop :=
  cond (Nat.beq r 31) (chkOne i r v) (chkTwo i r v)

set_option synthInstance.maxSize 1000000 in set_option synthInstance.maxHeartbeats 0 in
instance chkTwo.dec (i : grid0.Coords) (r : Nat) (v : BitVec 32) : Decidable (chkTwo i r v) :=
  decidable_of_iff' _ (Iff.of_eq (chkTwo.eq_1 i r v))

set_option synthInstance.maxSize 1000000 in set_option synthInstance.maxHeartbeats 0 in
instance chkOne.dec (i : grid0.Coords) (r : Nat) (v : BitVec 32) : Decidable (chkOne i r v) :=
  decidable_of_iff' _ (Iff.of_eq (chkOne.eq_1 i r v))

/-- A choice between two decidable statements is decidable. -/
def decCond (p q : Prop) [dp : Decidable p] [dq : Decidable q] : (b : Bool) → Decidable (cond b p q)
  | true => dp
  | false => dq

instance chk.dec (i : grid0.Coords) (r : Nat) (v : BitVec 32) : Decidable (chk i r v) :=
  decCond (chkOne i r v) (chkTwo i r v) (Nat.beq r 31)

theorem chk_iff (i : grid0.Coords) (r : Nat) (v : BitVec 32) :
    chk i r v ↔ (128 ∣ (k0_mult2 v).toNat) ∧ inside i r v := by
  unfold chk
  cases Nat.beq r 31
  · exact ⟨fun h => ⟨h.1, h.2.1⟩, fun h => ⟨h.1, h.2, h.2⟩⟩
  · exact Iff.rfl

theorem dst_inb (r : Nat) (h : r < 32) : ∀ a, (![0, 128 * r] : Fin 2 → Nat) a + S8x128.size a ≤ S8x4096.size a := by
  intro a; fin_cases a <;> simp [S8x128, S8x4096]; omega

theorem load_inb (r p : Nat) (h : r < 32) (hp : p < 8) :
    ∀ a, (![r % 8, 128 * r + 16 * p] : Fin 2 → Nat) a + S1x16.size a ≤ S8x4096.size a := by
  intro a; fin_cases a <;> simp [S1x16, S8x4096] <;> omega

/-! ## The body's steps -/

section
variable (i : grid0.Coords) (arg2 : Memref sig .scVector .hbm S1024x100000 .f32)
  (arg6 : Memref sig .scVector .vmem S8x4096 .f32) (arg8 : DmaSems sig S_)

/-- The program's own type: the tile's thread at grid point `i`. -/
abbrev TileProg (F : FTy → Type) [FloatOps F] (i : grid0.Coords) (α : Type) : Type 1 :=
  Prog (TpuEff nD τ sig (Elt F) Λ₀ (.scVector ((i 0).castLE hcore0) ((i 1).castLE hsub0))) α

/-- The chunk row `r` reads. -/
abbrev src (r : Nat) (v : BitVec 32) (h : chk i r v) : Memref sig .scVector .hbm S8x128 .f32 :=
  arg2.slice (Rect.unit (s := S1024x100000) (chunkOff i r v) S8x128.size ((chk_iff i r v).mp h).2) (fun _ => rfl)

/-- Where it puts it: the 128 columns of row `r` in the tile's scratch. -/
abbrev dst (r : Nat) (h : r < 32) : Memref sig .scVector .vmem S8x128 .f32 :=
  arg6.slice (Rect.unit (s := S8x4096) ![0, 128 * r] S8x128.size (dst_inb r h)) (fun _ => rfl)

/-- The fetches of the rows `n …` of the half that begins at `b`, labels `v`, then `rest`: each row's label is checked,
    then its chunk's copy is started. -/
def issues (b : Nat) (hb : b ≤ 16) (v : IVec S16 32)
    (rest : (∀ k (h : k < 16), chk i (b + k) (lane v k h)) → TileProg F i PUnit) :
    (m n : Nat) → n + m = 16 → (∀ k (h : k < 16), k < n → chk i (b + k) (lane v k h)) → TileProg F i PUnit
  | 0, _, e, hs => rest fun k h => hs k h (Nat.lt_of_lt_of_eq h e.symm)
  | m + 1, n, e, hs => do
    let hk ← Prog.lift (TpuEff.assume (chk i (b + n) (lane v n (by omega))) (chk.dec i (b + n) (lane v n (by omega))))
    Prog.lift (.enqueueDma (src i arg2 (b + n) (lane v n (by omega)) hk.down) (.here (dst arg6 (b + n) (by omega)))
      (.dma arg8.sem) (View.wordExact_bits rfl) (View.wordExact_bits rfl) ⟨Or.inl rfl, trivial⟩)
    issues b hb v rest m (n + 1) (by omega)
      fun k h hlt => (Nat.lt_succ_iff_lt_or_eq.mp hlt).elim (hs k h) (fun e => by subst e; exact hk.down)

/-- The waits of the rows `n …` of that half, then `rest`. -/
def waits (b : Nat) (hb : b ≤ 16) (v : IVec S16 32) (hs : ∀ k (h : k < 16), chk i (b + k) (lane v k h))
    (rest : TileProg F i PUnit) : (m n : Nat) → n + m = 16 → TileProg F i PUnit
  | 0, _, _ => rest
  | m + 1, n, e => do
    Prog.lift (.waitDma2 arg8.sem (src i arg2 (b + n) (lane v n (by omega)) (hs n (by omega))) (dst arg6 (b + n) (by omega))
      (View.wordExact_bits rfl) (View.wordExact_bits rfl))
    waits b hb v hs rest m (n + 1) (by omega)

/-- The 16 lanes of the group `p` of row `r`, if the offset `o` names that group; else `acc`. -/
def group (p : Nat) (o : BitVec 32) (v : Vec F S1x16 .f32) (acc : FVec F S16 .f32) : FVec F S16 .f32 :=
  Scalar.select (Scalar.cmpi .eq (Scalar.shrui o 4#32) (BitVec.ofNat 32 p)) (shapeCast S16 v shapeCasts_S1x16_S16) acc

/-- The groups `p …` of row `r`: from `acc`, the group of 16 lanes that the offset `o` names, then `rest`. -/
def groups (r : Nat) (hr : r < 32) (o : BitVec 32) (rest : FVec F S16 .f32 → TileProg F i PUnit) :
    (m p : Nat) → p + m = 8 → FVec F S16 .f32 → TileProg F i PUnit
  | 0, _, _, acc => rest acc
  | m + 1, p, e, acc => do
    let v : Vec F S1x16 .f32 ← Prog.lift (.load arg6
      (Rect.unit (s := S8x4096) ![r % 8, 128 * r + 16 * p] S1x16.size (load_inb r p hr (by omega))).toLoadRect
      (View.loadsAt_vmem h_S1x16))
    groups r hr o rest m (p + 1) (by omega) (group p o v acc)

/-- The lane of `acc` that the offset's low four bits name, after the comparisons with 1 … `q`. -/
def pick (acc : FVec F S16 .f32) (o : BitVec 32) : (q : Nat) → q < 16 → F .f32
  | 0, h => lane acc 0 h
  | q + 1, h => Scalar.select (Scalar.cmpi .eq (Scalar.andi o 15#32) (BitVec.ofNat 32 (q + 1))) (lane acc (q + 1) h)
      (pick acc o q (Nat.lt_of_succ_lt h))

/-- The lanes' numbers. -/
def lanes : IVec S16 32 := iota .scVector S16 32 [0] iota_S16_d0_w32_scVector

/-- A vector of zeros. -/
def zeros : FVec F S16 .f32 := broadcast S16 (Scalar.ofBits .f32 0x00000000#32)

/-- `t` with lane `n` set to the lane of `acc` that `o` names. -/
def put (n : Nat) (o : BitVec 32) (acc t : FVec F S16 .f32) : FVec F S16 .f32 :=
  select (cmpi .eq lanes (broadcast S16 (BitVec.ofNat 32 n))) (broadcast S16 (pick acc o 15 (by omega))) t

/-- The rows `n …` of the half that begins at `b`, offsets `o`: from `t`, their target logits, then `rest`. -/
def rows (b : Nat) (hb : b ≤ 16) (o : IVec S16 32) (rest : FVec F S16 .f32 → TileProg F i PUnit) :
    (m n : Nat) → n + m = 16 → FVec F S16 .f32 → TileProg F i PUnit
  | 0, _, _, t => rest t
  | m + 1, n, e, t =>
    groups i arg6 (b + n) (by omega) (lane o n (by omega))
      (fun acc => rows b hb o rest m (n + 1) (by omega) (put n (lane o n (by omega)) acc t)) 8 0 rfl zeros
end

/-- The labels a half reads: a vector of 16 words. -/
def labs (v : Vec F S16 .i32) : IVec S16 32 := shapeCast S16 v shapeCasts_S16_S16

/-- A half's offsets in their chunks. -/
def offs (v : Vec F S16 .i32) : IVec S16 32 :=
  let safe : IVec S16 32 := select (cmpi .ne (labs v) (broadcast S16 4294967295#32)) (labs v) (broadcast S16 0#32)
  let c : IVec S16 32 := shli (shrui safe (broadcast S16 7#32)) (broadcast S16 7#32)
  let c0 : IVec S16 32 := select (cmpi .sgt c (broadcast S16 99840#32)) (broadcast S16 99840#32) c
  let d : IVec S16 32 := subi safe c0
  select (cmpi .sgt d (broadcast S16 127#32)) (broadcast S16 127#32) d

/-- A half's results from its targets and its labels. -/
def margin (t : FVec F S16 .f32) (v : Vec F S16 .i32) : FVec F S16 .f32 :=
  let x : FVec F S16 .f32 := maximumf (subf (broadcast S16 (Scalar.ofBits .f32 0x3F800000#32)) (mulf t t))
    (broadcast S16 (Scalar.ofBits .f32 0x00000000#32))
  let cos : FVec F S16 .f32 := subf (mulf t (broadcast S16 (Scalar.ofBits .f32 0x3F60A940#32)))
    (mulf (sqrt x) (broadcast S16 (Scalar.ofBits .f32 0x3EF57744#32)))
  let fin : FVec F S16 .f32 := select (cmpf .ogt t (broadcast S16 (Scalar.ofBits .f32 0xBF60A940#32))) cos
    (subf t (broadcast S16 (Scalar.ofBits .f32 0x3E757744#32)))
  shapeCast S16 (mulf (select (cmpi .ne (labs v) (broadcast S16 4294967295#32)) fin t)
    (broadcast S16 (Scalar.ofBits .f32 0x42800000#32))) shapeCasts_S16_S16

section
variable (i : grid0.Coords) (arg2 : Memref sig .scVector .hbm S1024x100000 .f32) (harg2 : arg2.IsWhole)
  (arg3 : Memref sig .scVector .hbm S1024 .i32) (harg3 : arg3.IsWhole) (arg4 : Memref sig .scVector .hbm S1024 .f32)
  (harg4 : arg4.IsWhole) (arg5 : Memref sig .scVector .vmem S32 .i32) (harg5 : arg5.IsWhole)
  (arg6 : Memref sig .scVector .vmem S8x4096 .f32) (harg6 : arg6.IsWhole)
  (arg7 : Memref sig .scVector .vmem S32 .f32) (harg7 : arg7.IsWhole) (arg8 r0 r1 : DmaSems sig S_)

theorem half_inb (b : Nat) (hb : b ≤ 16) : ∀ a, (![b] : Fin 1 → Nat) a + S16.size a ≤ S32.size a := by
  intro a; fin_cases a; simp [S16, S32]; omega

/-- A half's labels, loaded. -/
def loadLabs (b : Nat) (hb : b ≤ 16) : TileProg F i (Vec F S16 .i32) :=
  Prog.lift (.load arg5 (Rect.unit (s := S32) ![b] S16.size (half_inb b hb)).toLoadRect (View.loadsAt_vmem h_S16))

/-- A half's results, stored. -/
def store (b : Nat) (hb : b ≤ 16) (t : FVec F S16 .f32) (rest : TileProg F i PUnit) : TileProg F i PUnit := do
  let v ← loadLabs (F := F) i arg5 b hb
  let _ : Vec F S16 .f32 ← Prog.lift (.load arg7 (Rect.unit (s := S32) ![b] S16.size (half_inb b hb)).toLoadRect
    (View.loadsAt_vmem h_S16))
  Prog.lift (.store arg7 (Rect.unit (s := S32) ![b] S16.size (half_inb b hb)) (margin t v) Finset.univ
    (View.stores_vmem_bits_univ h_S16 rfl) (.inl rfl))
  rest

/-- The copy of the tile's results out. -/
def putOut : TileProg F i PUnit := do
  Prog.lift (.enqueueDma arg7 (.here (arg4.slice (Rect.unit (s := S1024) (k0_off65 i) S32.size (k0_off65_inb i)) (fun _ => rfl)))
    (.dma r1.sem) harg7.wordExact (View.wordExact_bits rfl) ⟨Or.inl rfl, trivial⟩)
  Prog.lift (.waitDma2 r1.sem arg7 (arg4.slice (Rect.unit (s := S1024) (k0_off65 i) S32.size (k0_off65_inb i)) (fun _ => rfl))
    harg7.wordExact (View.wordExact_bits rfl))

/-- The selections, the margin and the copy out: what follows the chunks' waits. -/
def pickRows : TileProg F i PUnit := do
  let w0 ← loadLabs (F := F) i arg5 0 (by omega)
  let w1 ← loadLabs (F := F) i arg5 16 (Nat.le_refl 16)
  rows (F := F) i arg6 0 (by omega) (offs w0) (fun t0 =>
    store (F := F) i arg5 arg7 0 (by omega) t0
      (rows (F := F) i arg6 16 (Nat.le_refl 16) (offs w1) (fun t1 =>
        store (F := F) i arg5 arg7 16 (Nat.le_refl 16) t1 (putOut (F := F) i arg4 arg7 harg7 r1)) 16 0 rfl zeros))
    16 0 rfl zeros

/-- The tile's program. -/
def walk : TileProg F i PUnit := do
  Prog.lift (.enqueueDma (arg3.slice (Rect.unit (s := S1024) (k0_off1 i) S32.size (k0_off1_inb i)) (fun _ => rfl))
    (.here arg5) (.dma r0.sem) (View.wordExact_bits rfl) harg5.wordExact ⟨Or.inl rfl, trivial⟩)
  Prog.lift (.waitDma2 r0.sem (arg3.slice (Rect.unit (s := S1024) (k0_off1 i) S32.size (k0_off1_inb i)) (fun _ => rfl))
    arg5 (View.wordExact_bits rfl) harg5.wordExact)
  let v0 ← loadLabs (F := F) i arg5 0 (by omega)
  issues (F := F) i arg2 arg6 arg8 0 (by omega) (labs v0) (fun h0 => do
    let v1 ← loadLabs (F := F) i arg5 16 (Nat.le_refl 16)
    issues (F := F) i arg2 arg6 arg8 16 (Nat.le_refl 16) (labs v1) (fun h1 =>
      waits (F := F) i arg2 arg6 arg8 0 (by omega) (labs v0) h0
        (waits (F := F) i arg2 arg6 arg8 16 (Nat.le_refl 16) (labs v1) h1 (pickRows (F := F) i arg4 arg5 arg6 arg7 harg7 r1) 16 0 rfl) 16 0 rfl)
      16 0 rfl (fun k _ h => absurd h (Nat.not_lt_zero k)))
    16 0 rfl (fun k _ h => absurd h (Nat.not_lt_zero k))

end

end Cert.Proof.Walk

end
-- ==== Proof.Setup.lean ====
/-
  The program as the launch theorem for SparseCores sees it: its configuration, the resource algebra of the proof (the
  handshakes' rounds, the TensorCore pipeline's rounds, the counters of the tiles' copies), the arrays, and the names of
  what a tile holds.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Launch
public import proofs.«01_k».proof.Proof.Walk

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The handshakes' rounds, the pipeline's rounds, the copies' counters. -/
abbrev UU : Type := UH × (UR sig nD τ × Counters)

/-- The machine's algebra at this program. -/
abbrev MM (F : FTy → Type) : Type := MT nD τ sig (HIx 1) (Elt F) ℕ UU ℕ

abbrev EH : Emb UH (MM F) := embL
/-- The pipeline's rounds: the left factor of the right one. -/
def EP : Emb (UR sig nD τ) (MM F) :=
  (Emb.inl : Emb (UR sig nD τ) (UR sig nD τ × Counters)).trans embR
instance EP_landsIn : (EP : Emb (UR sig nD τ) (MM F)).LandsIn (upEmb : UEmb _ (MM F)) := by
  unfold EP embR; infer_instance
/-- The counters of the tiles' copies. -/
abbrev EC : UEmb Counters (MM F) := countersEmb (U := UU)

/-! ## A tile's thread and its arrays -/

/-- The grid point of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile at grid point `i` of device `d`. -/
abbrev thr (d : Dev nD) (i : grid0.Coords) : Thread nD τ := V d ((i 0).castLE hcore0) ((i 1).castLE hsub0)

/-- The logits, the labels, the tile's results, the labels in the tile, the chunks, the tile's own results. -/
abbrev lgM : Memref sig .scVector .hbm S1024x100000 .f32 := Memref.whole main_arg0_scv
abbrev lbM : Memref sig .scVector .hbm S1024 .i32 := Memref.whole main_arg2_scv
abbrev outM : Memref sig .scVector .hbm S1024 .f32 := Memref.whole main_v0_scv
abbrev vlM : Memref sig .scVector .vmem S32 .i32 := Memref.whole cc0_scratch0
abbrev chM : Memref sig .scVector .vmem S8x4096 .f32 := Memref.whole cc0_scratch1
abbrev nvM : Memref sig .scVector .vmem S32 .f32 := Memref.whole cc0_scratch2

/-- The 32 labels and the 32 results of the tile at `i`. -/
abbrev lbS (i : grid0.Coords) : Memref sig .scVector .hbm S32 .i32 :=
  lbM.slice (Rect.unit (s := S1024) (k0_off1 i) S32.size (k0_off1_inb i)) (fun _ => rfl)
abbrev outS (i : grid0.Coords) : Memref sig .scVector .hbm S32 .f32 :=
  outM.slice (Rect.unit (s := S1024) (k0_off65 i) S32.size (k0_off65_inb i)) (fun _ => rfl)

/-- The same arrays at the TensorCore. -/
abbrev lgLoc (d : Dev nD) : Loc nD τ sig := (SparseCore.T d).loc main_arg0
abbrev lbLoc (d : Dev nD) : Loc nD τ sig := (SparseCore.T d).loc main_arg2
abbrev outLoc (d : Dev nD) : Loc nD τ sig := (SparseCore.T d).loc main_v0

end Cert.Proof.Setup

end
-- ==== Proof.TileSteps.lean ====
/-
  The loops of a tile's program, each by induction on the row: the fetches of a half's chunks as one counted batch, their
  waits, the loads of a row's groups, the rows of a half. The values that the loads carry are the pure recursions
  `groupsV` and `rowsV`.
-/
module

public import proofs.«01_k».proof.Proof.Setup

@[expose] public section

noncomputable section

namespace Cert.Proof.TileSteps

open Cert.KernelIdeal Cert.KernelIdeal.Gen
open Cert.Proof.Walk Cert.Proof.Setup

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending bigSep_pending_step)

variable {F : FTy → Type} [FloatOps F]

local notation "𝕄" => MM F

variable (d : Dev nD) (i : grid0.Coords)

/-- The weakest precondition of a tile's program. -/
abbrev wpT {α : Type} (p : TileProg F i α) (Q : α → sProp (MM F)) : sProp (MM F) :=
  wp frame (wpE (defs₀ (F := F)) 𝒱₀ (thr d i) none) Set.univ p Q

/-! ## The fetches -/

/-- What one fetch of a chunk credits. -/
abbrev credit : ℕ := (dst chM 0 (by omega)).view.dmaCredit

/-- What row `r`'s fetch takes: its share of the chunk in the logits and the chunk's place in the tile's scratch. -/
def fetchPre (lg : Buf (Elt F) (lgM.view.loc (thr d i))) (q : Fin 32 → PosShare TreeShare) (fc : Buf (Elt F) (chM.view.loc (thr d i)))
    (w : Nat → BitVec 32) (hs : ∀ r, r < 32 → chk i r (w r)) (r : Fin 32) : sProp 𝕄 :=
  iprop(((src i lgM r (w r) (hs r r.2)).view.loc (thr d i) ↦[(src i lgM r (w r) (hs r r.2)).view.set]{q r} lg)
    ∗ ((dst chM r r.2).view.loc (thr d i) ↦[(dst chM r r.2).view.set]{fullShare} fc))

/-- What it delivers: the chunk in place, its share of the logits back. -/
def fetchPost (lg : Buf (Elt F) (lgM.view.loc (thr d i))) (q : Fin 32 → PosShare TreeShare) (fc : Buf (Elt F) (chM.view.loc (thr d i)))
    (w : Nat → BitVec 32) (hs : ∀ r, r < 32 → chk i r (w r)) (r : Fin 32) : sProp 𝕄 :=
  iprop(((dst chM r r.2).view.loc (thr d i) ↦[(dst chM r r.2).view.set]{fullShare}
      ((dst chM r r.2).view.write (Elt F) fc ((src i lgM r (w r) (hs r r.2)).view.read (Elt F) lg) Finset.univ))
    ∗ ((src i lgM r (w r) (hs r r.2)).view.loc (thr d i) ↦[(src i lgM r (w r) (hs r r.2)).view.set]{q r} lg))

instance (lg : Buf (Elt F) (lgM.view.loc (thr d i))) (q : Fin 32 → PosShare TreeShare) (fc : Buf (Elt F) (chM.view.loc (thr d i)))
    (w : Nat → BitVec 32) (hs : ∀ r, r < 32 → chk i r (w r)) (r : Fin 32) : Storable (upEmb : UEmb _ 𝕄) (fetchPost d i lg q fc w hs r) := by
  unfold fetchPost; infer_instance

/-- One fetch, its label the word `x`. -/
theorem wp_issue (lg : Buf (Elt F) (lgM.view.loc (thr d i))) (q : Fin 32 → PosShare TreeShare) (fc : Buf (Elt F) (chM.view.loc (thr d i)))
    (w : Nat → BitVec 32) (hs : ∀ r, r < 32 → chk i r (w r)) (r : Nat) (hr : r < 32) (x : BitVec 32) (hx : x = w r) (hk : chk i r x)
    {h1 : (src i lgM r x hk).view.WordExact} {h2 : (dst chM r hr).view.WordExact}
    {h3 : (DmaTarget.here (dst chM r hr) : DmaTarget nD τ sig (thr d i).2 Space.vmem S8x128 .f32).Typed Space.hbm (SemLoc.dma cc0_scratch3.sem)}
    (k : PUnit → TileProg F i PUnit) (Q : PUnit → sProp 𝕄) :
    iprop(fetchPre d i lg q fc w hs ⟨r, hr⟩ ∗ Batch EC (thr d i) (.dma cc0_scratch3.sem) none credit (fetchPost d i lg q fc w hs) r 0)
      ⊢ iprop((Batch EC (thr d i) (.dma cc0_scratch3.sem) none credit (fetchPost d i lg q fc w hs) (r + 1) 0 -∗ wpT d i (k ⟨⟩) Q)
          -∗ wpT d i (.op (.enqueueDma (src i lgM r x hk) (.here (dst chM r hr)) (.dma cc0_scratch3.sem) h1 h2 h3) k) Q) := by
  subst hx
  unfold fetchPre
  iintro ⟨⟨Hs, Hd⟩, HB⟩ Hk
  iapply (Transfers.wp_dmaBatch EC 𝒱₀ (thr d i) none (defs := defs₀ (F := F)) (none : HIx 1) credit rfl (Finset.Subset.refl _) hr (Nat.zero_le _)
    (D := fetchPost d i lg q fc w hs) (by unfold fetchPost; exact BI.Entails.refl _)) $$ [Hs Hd HB]
  · isplitl [Hs]; · iexact Hs
    isplitl [Hd]; · iexact Hd
    iexact HB
  iexact Hk

theorem wp_issues (lg : Buf (Elt F) (lgM.view.loc (thr d i))) (q : Fin 32 → PosShare TreeShare) (fc : Buf (Elt F) (chM.view.loc (thr d i)))
    (w : Nat → BitVec 32) (hs : ∀ r, r < 32 → chk i r (w r))
    (b : Nat) (hb : b ≤ 16) (v : IVec S16 32) (hv : ∀ k (h : k < 16), lane v k h = w (b + k))
    (rest : (∀ k (h : k < 16), chk i (b + k) (lane v k h)) → TileProg F i PUnit) (Q : PUnit → sProp 𝕄) :
    ∀ (m n : Nat) (e : n + m = 16) (hc : ∀ k (h : k < 16), k < n → chk i (b + k) (lane v k h)),
      iprop(bigSep (pending (b + n)) (fetchPre d i lg q fc w hs)
          ∗ Batch EC (thr d i) (.dma cc0_scratch3.sem) none credit (fetchPost d i lg q fc w hs) (b + n) 0)
        ⊢ iprop((iprop(bigSep (pending (b + 16)) (fetchPre d i lg q fc w hs)
                ∗ Batch EC (thr d i) (.dma cc0_scratch3.sem) none credit (fetchPost d i lg q fc w hs) (b + 16) 0)
              -∗ wpT d i (rest fun k h => (hv k h).symm ▸ hs (b + k) (by omega)) Q)
            -∗ wpT d i (issues i lgM chM cc0_scratch3 b hb v rest m n e hc) Q) := by
  intro m
  induction m with
  | zero =>
    intro n e hc
    obtain rfl : n = 16 := e
    iintro H Hk
    unfold issues
    iapply Hk; iexact H
  | succ m ih =>
    intro n e hc
    have hn : n < 16 := by omega
    have hr : b + n < 32 := by omega
    have hk : chk i (b + n) (lane v n hn) := (hv n hn).symm ▸ hs (b + n) hr
    unfold issues
    simp only [Prog.lift, Prog.bind_op, Prog.bind_ret, Prog.pure_eq_ret]
    unfold wpT
    rw [Idealize.ShloMosaic.wp_assume_of 𝒱₀ (thr d i) none Set.univ hk]
    rw [bigSep_pending_step _ _ hr]
    iintro ⟨⟨Hf, Hr⟩, HB⟩ Hk
    iapply (wp_issue d i lg q fc w hs (b + n) hr (lane v n hn) (hv n hn) hk _ Q) $$ [Hf HB]
    · isplitl [Hf] <;> iassumption
    iintro HB
    iapply (ih (n + 1) _ _) $$ [Hr HB]
    · isplitl [Hr]; · iexact Hr
      iexact HB
    iexact Hk

/-! ## Their waits -/

theorem wp_waits (b : Nat) (hb : b ≤ 16) (v : IVec S16 32) (hc : ∀ k (h : k < 16), chk i (b + k) (lane v k h))
    (DD : Fin 32 → sProp 𝕄) (O : CellTallies nD τ sig (HIx 1)) (W : Waits sig (HIx 1))
    (rest : TileProg F i PUnit) (Q : PUnit → sProp 𝕄) :
    ∀ (m n : Nat) (e : n + m = 16),
      iprop(Transfers.MayWaits (thr d i) (none : HIx 1) O ∗ Batch EC (thr d i) (.dma cc0_scratch3.sem) none credit DD 32 (credit * (b + n))
          ∗ ∃ W', ⌜∀ p ∈ W', p ∈ W ∨ p.2 = none⌝ ∗ owes (thr d i) O W')
        ⊢ iprop((iprop(Batch EC (thr d i) (.dma cc0_scratch3.sem) none credit DD 32 (credit * (b + 16))
              ∗ ∃ W', ⌜∀ p ∈ W', p ∈ W ∨ p.2 = none⌝ ∗ owes (thr d i) O W') -∗ wpT d i rest Q)
            -∗ wpT d i (waits i lgM chM cc0_scratch3 b hb v hc rest m n e) Q) := by
  intro m
  induction m with
  | zero =>
    intro n e
    obtain rfl : n = 16 := e
    iintro ⟨-, H⟩ Hk
    unfold waits
    iapply Hk; iexact H
  | succ m ih =>
    intro n e
    unfold waits
    simp only [Prog.lift, Prog.bind_op, Prog.bind_ret, Prog.pure_eq_ret]
    unfold wpT
    have hr : b + n < 32 := by omega
    have hu : credit * (b + n) + 1 * credit ≤ credit * 32 := by
      rw [Nat.one_mul, ← Nat.mul_succ]; exact Nat.mul_le_mul_left _ (by omega)
    iintro ⟨#Hmw, HB, %W', %hW, HO⟩ Hk
    ihave Hm := (Transfers.MayWaits.elim (c := thr d i) (ι := (none : HIx 1)) (O := O) (.dma cc0_scratch3.sem)) $$ Hmw
    iapply (Transfers.wp_waitBatchMulO EC 𝒱₀ (thr d i) none (defs := defs₀ (F := F)) (none : HIx 1) (N := credit) 1
      (show (dst chM (b + n) hr).view.dmaCredit = 1 * credit from (Nat.one_mul _).symm) hu) $$ [HB HO Hm]
    · isplitl [HB]; · iexact HB
      isplitl [HO]; · iexact HO
      iexact Hm
    rw [Nat.one_mul, ← Nat.mul_succ]
    iintro ⟨HB, HO⟩
    iapply (ih (n + 1) _) $$ [HB HO]
    · isplitr; · iexact Hmw
      isplitl [HB]; · iexact HB
      iexists (insert (SemLoc.dma cc0_scratch3.sem, (none : HIx 1)) W'); isplitr
      · ipureintro; intro p hp
        rcases Finset.mem_insert.mp hp with hp | hp
        · exact .inr (congrArg Prod.snd hp)
        · exact hW p hp
      · iexact HO
    iexact Hk

/-! ## The loads and selections of a row -/

/-- The group of 16 lanes that `o` names, over the groups `p …` of row `r`, the chunks at `f`. -/
def groupsV (f : Buf (Elt F) (chM.view.loc (thr d i))) (r : Nat) (hr : r < 32) (o : BitVec 32) :
    (m p : Nat) → p + m = 8 → FVec F S16 .f32 → FVec F S16 .f32
  | 0, _, _, acc => acc
  | m + 1, p, e, acc => groupsV f r hr o m (p + 1) (by omega)
      (group (F := F) p o (chM.view.readAt (Elt F) (Rect.unit (s := S8x4096) ![r % 8, 128 * r + 16 * p] S1x16.size (load_inb r p hr (by omega))).toLoadRect f) acc)

theorem wp_groups (f : Buf (Elt F) (chM.view.loc (thr d i))) (r : Nat) (hr : r < 32) (o : BitVec 32)
    (rest : FVec F S16 .f32 → TileProg F i PUnit) (Q : PUnit → sProp 𝕄) :
    ∀ (m p : Nat) (e : p + m = 8) (acc : FVec F S16 .f32),
      (chM.view.loc (thr d i) ↦{fullShare} f : sProp 𝕄)
        ⊢ iprop(((chM.view.loc (thr d i) ↦{fullShare} f) -∗ wpT d i (rest (groupsV d i f r hr o m p e acc)) Q)
            -∗ wpT d i (groups i chM r hr o rest m p e acc) Q) := by
  intro m
  induction m with
  | zero =>
    intro p e acc
    iintro H Hk
    unfold groups groupsV
    iapply Hk; iexact H
  | succ m ih =>
    intro p e acc
    unfold groups groupsV
    simp only [Prog.lift, Prog.bind_op, Prog.bind_ret, Prog.pure_eq_ret]
    unfold wpT
    iintro H Hk
    iapply (wp_load 𝒱₀ (thr d i) none Set.univ (m := chM) (S := Finset.univ) (Finset.subset_univ _)) $$ H
    iintro H
    iapply (ih (p + 1) _ _) $$ H Hk

/-- The targets of the rows `n …` of a half. -/
def rowsV (f : Buf (Elt F) (chM.view.loc (thr d i))) (b : Nat) (hb : b ≤ 16) (o : IVec S16 32) :
    (m n : Nat) → n + m = 16 → FVec F S16 .f32 → FVec F S16 .f32
  | 0, _, _, t => t
  | m + 1, n, e, t => rowsV f b hb o m (n + 1) (by omega)
      (put n (lane o n (by omega)) (groupsV d i f (b + n) (by omega) (lane o n (by omega)) 8 0 rfl zeros) t)

theorem wp_rows (f : Buf (Elt F) (chM.view.loc (thr d i))) (b : Nat) (hb : b ≤ 16) (o : IVec S16 32)
    (rest : FVec F S16 .f32 → TileProg F i PUnit) (Q : PUnit → sProp 𝕄) :
    ∀ (m n : Nat) (e : n + m = 16) (t : FVec F S16 .f32),
      (chM.view.loc (thr d i) ↦{fullShare} f : sProp 𝕄)
        ⊢ iprop(((chM.view.loc (thr d i) ↦{fullShare} f) -∗ wpT d i (rest (rowsV d i f b hb o m n e t)) Q)
            -∗ wpT d i (rows i chM b hb o rest m n e t) Q) := by
  intro m
  induction m with
  | zero =>
    intro n e t
    iintro H Hk
    unfold rows rowsV
    iapply Hk; iexact H
  | succ m ih =>
    intro n e t
    unfold rows rowsV
    iintro H Hk
    iapply (wp_groups d i f (b + n) _ _ _ Q 8 0 rfl zeros) $$ H
    iintro H
    iapply (ih (n + 1) _ _) $$ H Hk

end Cert.Proof.TileSteps

end
-- ==== Proof.TileMem.lean ====
/-
  The memory of a tile: the logits' read share dealt to the 32 fetches and gathered again, the scratch cut into the 32
  chunks and joined again at the contents the fetches deliver.
-/
module

public import proofs.«01_k».proof.Proof.TileSteps

@[expose] public section

noncomputable section

namespace Cert.Proof.TileMem

open Cert.KernelIdeal Cert.KernelIdeal.Gen
open Cert.Proof.Walk Cert.Proof.Setup Cert.Proof.TileSteps

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending dealOf pointsTo_deal)

variable {F : FTy → Type} [FloatOps F]

local notation "𝕄" => MM F

variable (d : Dev nD) (i : grid0.Coords)

/-- Row `r`'s chunk in the scratch is its 128 columns. -/
theorem mem_dst (r : Nat) (hr : r < 32) (j : S8x4096.Idx) : j ∈ (dst chM r hr).view.set ↔ (j 1).val / 128 = r := by
  rw [show (dst chM r hr).view.set = (Rect.unit (s := S8x4096) ![0, 128 * r] S8x128.size (dst_inb r hr)).set from View.set_slice_whole _ _,
    Rect.mem_set_unit]
  constructor
  · intro h
    have h1 := h 1
    have : 128 * r ≤ (j 1).val ∧ (j 1).val < 128 * r + 128 := h1
    omega
  · intro h a
    fin_cases a
    · have : (j 0).val < 8 := (j 0).isLt
      exact ⟨Nat.zero_le _, by show (j 0).val < 0 + 8; omega⟩
    · show 128 * r ≤ (j 1).val ∧ (j 1).val < 128 * r + 128
      omega

/-- The chunk row of a scratch column. -/
def rowOf (j : S8x4096.Idx) : Fin 32 := ⟨(j 1).val / 128, by have : (j 1).val < 4096 := (j 1).isLt; omega⟩

/-- The place of a scratch element in its chunk. -/
def inChunk (j : S8x4096.Idx) : S8x128.Idx :=
  fun | 0 => ⟨(j 0).val, (j 0).isLt⟩ | 1 => ⟨(j 1).val % 128, Nat.mod_lt _ (by decide)⟩ | ⟨_ + 2, h⟩ => absurd h (Nat.not_lt.2 (Nat.le_add_left _ _))

/-- What the scratch holds once every chunk is there. -/
def chunks (lg : Buf (Elt F) (lgM.view.loc (thr d i))) (w : Nat → BitVec 32) (hs : ∀ r, r < 32 → chk i r (w r)) :
    Buf (Elt F) (chM.view.loc (thr d i)) :=
  fun j => (src i lgM (rowOf j) (w (rowOf j)) (hs _ (rowOf j).2)).view.read (Elt F) lg (inChunk j)

theorem write_chunk (lg : Buf (Elt F) (lgM.view.loc (thr d i))) (fc : Buf (Elt F) (chM.view.loc (thr d i))) (w : Nat → BitVec 32)
    (hs : ∀ r, r < 32 → chk i r (w r)) (r : Fin 32) (j : S8x4096.Idx) (hj : j ∈ (dst chM r r.2).view.set) :
    (dst chM r r.2).view.write (Elt F) fc ((src i lgM r (w r) (hs r r.2)).view.read (Elt F) lg) Finset.univ j = chunks d i lg w hs j := by
  have hr : rowOf j = r := Fin.ext ((mem_dst r r.2 j).mp hj)
  have he : (dst chM r r.2).view.emb (inChunk j) = j := by
    have hjr : (j 1).val / 128 = r := (mem_dst r r.2 j).mp hj
    funext a
    apply Fin.ext
    fin_cases a
    · show 0 + 1 * (j 0).val = (j 0).val; omega
    · show 128 * r.val + 1 * ((j 1).val % 128) = (j 1).val; omega
  refine (congrArg _ he.symm).trans ?_
  rw [View.write_emb_of_mem _ _ (Finset.mem_univ _)]
  unfold chunks
  subst hr
  rfl

/-- The logits outside row `r`'s chunk, at the row's share. -/
def others (lg : Buf (Elt F) (lgM.view.loc (thr d i))) (q : PosShare TreeShare) (w : Nat → BitVec 32)
    (hs : ∀ r, r < 32 → chk i r (w r)) (r : Fin 32) : sProp 𝕄 :=
  (lgM.view.loc (thr d i) ↦[Finset.univ \ (src i lgM r (w r) (hs r r.2)).view.set]{dealOf q Finset.univ r} lg)

theorem chunks_disjoint : ∀ r ∈ (Finset.univ : Finset (Fin 32)), ∀ r' ∈ (Finset.univ : Finset (Fin 32)), r ≠ r' →
    Disjoint (dst chM r r.2).view.set (dst chM r' r'.2).view.set := by
  intro r _ r' _ hne
  rw [Finset.disjoint_left]
  intro j h h'
  exact hne (Fin.ext (((mem_dst r r.2 j).mp h).symm.trans ((mem_dst r' r'.2 j).mp h')))

theorem chunks_cover : ((Finset.univ : Finset (Fin 32)).biUnion fun r => (dst chM r r.2).view.set) = (Finset.univ : Finset S8x4096.Idx) :=
  Finset.eq_univ_iff_forall.mpr fun j => Finset.mem_biUnion.mpr ⟨rowOf j, Finset.mem_univ _, (mem_dst (rowOf j).val (rowOf j).2 j).mpr rfl⟩

/-- The scratch is its 32 chunks. -/
theorem scratch_split (f : Buf (Elt F) (chM.view.loc (thr d i))) :
    (chM.view.loc (thr d i) ↦{fullShare} f : sProp 𝕄)
      = bigSep Finset.univ fun r : Fin 32 => ((dst chM r r.2).view.loc (thr d i) ↦[(dst chM r r.2).view.set]{fullShare} f) :=
  (congrArg (fun S => (chM.view.loc (thr d i) ↦[S]{fullShare} f : sProp 𝕄)) chunks_cover.symm).trans
    (pointsTo_biUnion (ℓ := chM.view.loc (thr d i)) (Finset.univ : Finset (Fin 32)) (fun r => (dst chM r r.2).view.set) chunks_disjoint)

/-- The logits at a share are each fetch's chunk at its share, and the rest. -/
theorem logits_split (lg : Buf (Elt F) (lgM.view.loc (thr d i))) (q : PosShare TreeShare) (w : Nat → BitVec 32)
    (hs : ∀ r, r < 32 → chk i r (w r)) :
    (lgM.view.loc (thr d i) ↦{q} lg : sProp 𝕄)
      = iprop((bigSep Finset.univ fun r : Fin 32 => ((src i lgM r (w r) (hs r r.2)).view.loc (thr d i) ↦[(src i lgM r (w r) (hs r r.2)).view.set]{dealOf q Finset.univ r} lg))
          ∗ bigSep Finset.univ (others d i lg q w hs)) := by
  rw [pointsTo_deal (Finset.univ : Finset (Fin 32)) Finset.univ_nonempty q, ← bigSep_sep']
  refine bigSep_congr fun r _ => ?_
  exact Entails.antisymm (pointsTo_split_subset (Finset.subset_univ _)).1 (pointsTo_split_subset (Finset.subset_univ _)).2

/-- Before the fetches. -/
theorem fetch_deal (lg : Buf (Elt F) (lgM.view.loc (thr d i))) (q : PosShare TreeShare) (fc : Buf (Elt F) (chM.view.loc (thr d i))) (w : Nat → BitVec 32)
    (hs : ∀ r, r < 32 → chk i r (w r)) :
    iprop((lgM.view.loc (thr d i) ↦{q} lg) ∗ (chM.view.loc (thr d i) ↦{fullShare} fc))
      ⊢ (iprop(bigSep Finset.univ (fetchPre d i lg (dealOf q Finset.univ) fc w hs) ∗ bigSep Finset.univ (others d i lg q w hs)) : sProp 𝕄) := by
  rw [logits_split d i lg q w hs, scratch_split]
  unfold fetchPre
  rw [bigSep_sep']
  iintro ⟨⟨Ha, Hb⟩, Hc⟩
  isplitr [Hb]
  · isplitl [Ha] <;> iassumption
  · iexact Hb

/-- After them. -/
theorem fetch_gather (lg : Buf (Elt F) (lgM.view.loc (thr d i))) (q : PosShare TreeShare) (fc : Buf (Elt F) (chM.view.loc (thr d i))) (w : Nat → BitVec 32)
    (hs : ∀ r, r < 32 → chk i r (w r)) :
    iprop(bigSep Finset.univ (fetchPost d i lg (dealOf q Finset.univ) fc w hs) ∗ bigSep Finset.univ (others d i lg q w hs))
      ⊢ (iprop((lgM.view.loc (thr d i) ↦{q} lg) ∗ (chM.view.loc (thr d i) ↦{fullShare} (chunks d i lg w hs))) : sProp 𝕄) := by
  rw [logits_split d i lg q w hs, scratch_split]
  unfold fetchPost
  rw [bigSep_sep']
  iintro ⟨⟨Hc, Ha⟩, Hb⟩
  isplitl [Ha Hb]
  · isplitl [Ha] <;> iassumption
  · iapply (Entails.of_eq (bigSep_congr fun r _ => pointsTo_congr (write_chunk d i lg fc w hs r)))
    iexact Hc

end Cert.Proof.TileMem

end
-- ==== Proof.WalkEq.lean ====
/-
  The printed body of the tile's kernel is the program of `Walk`: unfolding the loops there gives its 7810 statements.
-/
module

public import proofs.«01_k».proof.Proof.Walk

@[expose] public section

noncomputable section

namespace Cert.Proof.Walk

open Cert.KernelIdeal Cert.KernelIdeal.Gen
open Idealize.ShloMosaic Idealize.SL.Sem

variable {F : FTy → Type} [FloatOps F]

set_option maxRecDepth 1000000 in
set_option maxHeartbeats 0 in
/-- The printed body is the loops. -/
theorem body_eq_walk (i : grid0.Coords) (arg2 : Memref sig .scVector .hbm S1024x100000 .f32) (harg2 : arg2.IsWhole)
    (arg3 : Memref sig .scVector .hbm S1024 .i32) (harg3 : arg3.IsWhole) (arg4 : Memref sig .scVector .hbm S1024 .f32)
    (harg4 : arg4.IsWhole) (arg5 : Memref sig .scVector .vmem S32 .i32) (harg5 : arg5.IsWhole)
    (arg6 : Memref sig .scVector .vmem S8x4096 .f32) (harg6 : arg6.IsWhole)
    (arg7 : Memref sig .scVector .vmem S32 .f32) (harg7 : arg7.IsWhole) (arg8 r0 r1 : DmaSems sig S_) :
    cc0__sc_margin_body (F := F) i arg2 harg2 arg3 harg3 arg4 harg4 arg5 harg5 arg6 harg6 arg7 harg7 arg8 r0 r1
      = walk (F := F) i arg2 arg3 arg4 arg5 harg5 arg6 arg7 harg7 arg8 r0 r1 := rfl

end Cert.Proof.Walk

end
-- ==== Proof.TileBody.lean ====
/-
  One tile's run: from a read share of the logits, its 32 labels and its 32 results, the program ends with the same, the
  results at `tileOut`.
-/
module

public import proofs.«01_k».proof.Proof.TileMem
public import proofs.«01_k».proof.Proof.WalkEq
public import Idealize.ShloMosaic.Lib.Pipeline.Value

@[expose] public section

noncomputable section

namespace Cert.Proof.TileBody

open Cert.KernelIdeal Cert.KernelIdeal.Gen
open Cert.Proof.Walk Cert.Proof.Setup Cert.Proof.TileSteps Cert.Proof.TileMem

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending dealOf)

variable {F : FTy → Type} [FloatOps F]

local notation "𝕄" => MM F

variable (d : Dev nD) (i : grid0.Coords)

/-! ## What a tile computes -/

/-- Element `k` of a vector of `n`. -/
def at1 {n : Nat} (k : Nat) (h : k < n) : (⟨1, ![n]⟩ : Shape).Idx :=
  fun a => ⟨k, by obtain rfl : a = 0 := Subsingleton.elim _ _; exact h⟩

/-- Sixteen elements from `b` on. -/
abbrev half (b : Nat) (hb : b ≤ 16) : Rect S32 := Rect.unit (s := S32) ![b] S16.size (half_inb b hb)

/-- The tile's labels. -/
def labels (lb : Buf (Elt F) (lbM.view.loc (thr d i))) : Buf (Elt F) (vlM.view.loc (thr d i)) := (lbS i).view.read (Elt F) lb

/-- Its label number `r`. -/
def word (lb : Buf (Elt F) (lbM.view.loc (thr d i))) (r : Nat) : BitVec 32 :=
  if h : r < 32 then labels d i lb (at1 (n := 32) r h) else 0#32

/-- The labels of a half. -/
def halfLabels (lb : Buf (Elt F) (lbM.view.loc (thr d i))) (b : Nat) (hb : b ≤ 16) : Vec F S16 .i32 :=
  vlM.view.readAt (Elt F) (half b hb).toLoadRect (labels d i lb)

/-- Each label names a chunk inside the logits. -/
abbrev Good (lb : Buf (Elt F) (lbM.view.loc (thr d i))) : Prop := ∀ r, r < 32 → chk i r (word d i lb r)

/-- The targets of a half. -/
def targets (lg : Buf (Elt F) (lgM.view.loc (thr d i))) (lb : Buf (Elt F) (lbM.view.loc (thr d i))) (hs : Good d i lb) (b : Nat) (hb : b ≤ 16) :
    FVec F S16 .f32 :=
  rowsV d i (chunks d i lg (word d i lb) hs) b hb (offs (halfLabels d i lb b hb)) 16 0 rfl zeros

/-- The tile's results. -/
def tileOut (lg : Buf (Elt F) (lgM.view.loc (thr d i))) (lb : Buf (Elt F) (lbM.view.loc (thr d i))) (hs : Good d i lb) :
    Buf (Elt F) (nvM.view.loc (thr d i)) := fun j =>
  if h : (j 0).val < 16 then margin (targets d i lg lb hs 0 (Nat.zero_le _)) (halfLabels d i lb 0 (Nat.zero_le _)) (at1 (n := 16) (j 0).val h)
  else margin (targets d i lg lb hs 16 (Nat.le_refl _)) (halfLabels d i lb 16 (Nat.le_refl _))
    (at1 (n := 16) ((j 0).val - 16) (by have : (j 0).val < 32 := (j 0).isLt; omega))

theorem lane_labs (lb : Buf (Elt F) (lbM.view.loc (thr d i))) (b : Nat) (hb : b ≤ 16) (k : Nat) (h : k < 16) :
    lane (labs (F := F) (halfLabels d i lb b hb)) k h = word d i lb (b + k) := by
  unfold word
  rw [dif_pos (by omega)]
  unfold lane labs
  rw [shapeCast_self]
  show labels d i lb _ = labels d i lb _
  congr 1
  funext a
  apply Fin.ext
  fin_cases a
  show b + 1 * (k + 1 * 0) = b + k
  omega

theorem stores_eq (f : Buf (Elt F) (nvM.view.loc (thr d i))) (m0 m1 : FVec F S16 .f32) (j : S32.Idx) :
    (nvM.access (half 16 (Nat.le_refl _))).write (Elt F) ((nvM.access (half 0 (Nat.zero_le _))).write (Elt F) f m0 Finset.univ) m1 Finset.univ j
      = if h : (j 0).val < 16 then m0 (at1 (n := 16) (j 0).val h)
        else m1 (at1 (n := 16) ((j 0).val - 16) (by have : (j 0).val < 32 := (j 0).isLt; omega)) := by
  have hj : (j 0).val < 32 := (j 0).isLt
  by_cases h : (j 0).val < 16
  · rw [dif_pos h, View.write_of_not_mem]
    · have he : (nvM.access (half 0 (Nat.zero_le _))).emb (at1 (n := 16) (j 0).val h) = j := by
        funext a; apply Fin.ext; fin_cases a
        show 0 + 1 * (j 0).val = (j 0).val; omega
      refine (congrArg _ he.symm).trans ?_
      rw [View.write_emb_of_mem _ _ (Finset.mem_univ _)]
      rfl
    · intro hm
      obtain ⟨x, -, hx⟩ := Finset.mem_map.mp hm
      have := congrArg (fun y : S32.Idx => (y 0).val) hx
      have h2 : 16 + 1 * (x 0).val = (j 0).val := this
      omega
  · rw [dif_neg h]
    have he : (nvM.access (half 16 (Nat.le_refl _))).emb (at1 (n := 16) ((j 0).val - 16) (by omega)) = j := by
      funext a; apply Fin.ext; fin_cases a
      show 16 + 1 * ((j 0).val - 16) = (j 0).val; omega
    refine (congrArg _ he.symm).trans ?_
    rw [View.write_emb_of_mem _ _ (Finset.mem_univ _)]
    rfl

/-! ## What a tile owns of its own -/

abbrev cellC : GSem nD τ sig := (thr d i, .dma cc0_scratch3.sem)
abbrev cellA : GSem nD τ sig := (thr d i, .dma cc0_scoped0.sem)
abbrev cellB : GSem nD τ sig := (thr d i, .dma cc0_scoped1.sem)

theorem ownSems_eq :
    (ownSems0 (thr d i) : sProp 𝕄)
      = iprop(semVal (cellA d i) 0 ∗ semVal (cellC d i) 0 ∗ semVal (cellB d i) 0
          ∗ bigSep ((((ownCells (thr d i)).erase (cellA d i)).erase (cellC d i)).erase (cellB d i)) fun g => semVal g 0) := by
  unfold SparseCore.Cfg.ownSems0
  rw [SparseCore.bigSep_erase' ((mem_ownCells (g := cellA d i)).mpr ⟨rfl, by
      show (SemLoc.dma cc0_scoped0.sem : SemLoc sig).isScoped .scVector = true; decide⟩),
    SparseCore.bigSep_erase' (Finset.mem_erase.mpr ⟨by simp [cellA, cellC]; decide, (mem_ownCells (g := cellC d i)).mpr ⟨rfl, by
      show (SemLoc.dma cc0_scratch3.sem : SemLoc sig).isScoped .scVector = true; decide⟩⟩),
    SparseCore.bigSep_erase' (Finset.mem_erase.mpr ⟨by simp [cellC, cellB]; decide, Finset.mem_erase.mpr ⟨by simp [cellA, cellB]; decide,
      (mem_ownCells (g := cellB d i)).mpr ⟨rfl, by show (SemLoc.dma cc0_scoped1.sem : SemLoc sig).isScoped .scVector = true; decide⟩⟩⟩)]

/-- The three scratch buffers are among the subcore's own. -/
theorem ownBufs_eq :
    (ownBufs (thr d i) : sProp 𝕄)
      = iprop((∃ f, vlM.view.loc (thr d i) ↦{fullShare} f) ∗ (∃ f, chM.view.loc (thr d i) ↦{fullShare} f) ∗ (∃ f, nvM.view.loc (thr d i) ↦{fullShare} f)
          ∗ bigSep ((((ownRefs (τ := τ) (thr d i).2).erase ((thr d i).2.devRef cc0_scratch0)).erase
              ((thr d i).2.devRef cc0_scratch1)).erase ((thr d i).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := (thr d i).2) (b := (thr d i).2.devRef cc0_scratch2) rfl⟩⟩)]

/-! ## The run -/

/-- What the tile is handed: a read share of the logits, its labels, its results' places. -/
def tilePre (q : PosShare TreeShare) (lg : Buf (Elt F) (lgM.view.loc (thr d i))) (lb : Buf (Elt F) (lbM.view.loc (thr d i))) (fo : Buf (Elt F) (outM.view.loc (thr d i))) : sProp 𝕄 :=
  iprop((lgM.view.loc (thr d i) ↦{q} lg) ∗ ((lbS i).view.loc (thr d i) ↦[(lbS i).view.set]{fullShare} lb)
    ∗ ((outS i).view.loc (thr d i) ↦[(outS i).view.set]{fullShare} fo))

theorem tile_walk (lg : Buf (Elt F) (lgM.view.loc (thr d i))) (lb : Buf (Elt F) (lbM.view.loc (thr d i))) (fo : Buf (Elt F) (outM.view.loc (thr d i)))
    (q : PosShare TreeShare) (hs : Good d i lb) (O : CellTallies nD τ sig (HIx 1)) (W : Waits sig (HIx 1)) (hO : ∀ g, O g none = 0) :
    iprop(levAts (K (F := F)).L (K (F := F)).lev ∗ emp ∗ tilePre d i q lg lb fo
        ∗ scopedBufs (thr d i) ∗ scopedSems0 (thr d i) ∗ owes (thr d i) O W)
      ⊢ wpT d i (walk (F := F) i lgM lbM outM vlM (Memref.isWhole_whole _) chM nvM (Memref.isWhole_whole _) cc0_scratch3 cc0_scoped0 cc0_scoped1)
          fun _ => iprop(tilePre d i q lg lb ((outS i).view.write (Elt F) fo (nvM.view.read (Elt F) (tileOut d i lg lb hs)) Finset.univ)
            ∗ scopedBufs (thr d i) ∗ scopedSems0 (thr d i) ∗ ∃ W', ⌜∀ p ∈ W', p ∈ W ∨ p.2 = none⌝ ∗ owes (thr d i) O W') := by
  rw [(K (F := F)).scopedBufs_V facts d ((i 0).castLE hcore0) ((i 1).castLE hsub0), SparseCore.Cfg.scopedSems0_V (Val := Elt F) d ((i 0).castLE hcore0) ((i 1).castLE hsub0),
    ownSems_eq, ownBufs_eq]
  unfold tilePre
  iintro ⟨#Hlv, -, ⟨Hlg, Hlb, Hout⟩, ⟨⟨%f5, Hvl⟩, ⟨%f6, Hch⟩, ⟨%f7, Hnv⟩, Hbufs⟩, ⟨HsA, HsC, HsB, Hsems⟩, HO⟩
  ihave Hmw := ((K (F := F)).mayWaits_none (thr := thr d i) hO) $$ Hlv
  icases Hmw with #Hmw
  unfold walk
  simp only [Prog.lift, Prog.bind_op, Prog.bind_ret, Prog.pure_eq_ret]
  unfold wpT
  -- the labels
  iapply (Transfers.wp_dmaLocal EC 𝒱₀ (thr d i) none (defs := defs₀ (F := F)) (dst := vlM) (Sd := Finset.univ) (fd := f5) (none : HIx 1) (vlM.view.amount (.dma cc0_scoped0.sem)) rfl
    (View.amount_pos _ _ (by decide)) (Finset.subset_univ _)) $$ [Hlb Hvl HsA]
  · isplitl [Hlb]; · iexact Hlb
    isplitl [Hvl]; · iexact Hvl
    iexact HsA
  iintro HF
  ihave Hm := (Transfers.MayWaits.elim (c := thr d i) (ι := (none : HIx 1)) (O := O) (.dma cc0_scoped0.sem)) $$ Hmw
  iapply (Transfers.wp_waitLocalO EC 𝒱₀ (thr d i) none (defs := defs₀ (F := F)) (dstw := vlM) (none : HIx 1) rfl) $$ [HF HO Hm]
  · isplitl [HF]; · iexact HF
    isplitl [HO]; · iexact HO
    iexact Hm
  iintro ⟨⟨Hvl, Hlb⟩, HsA, HO⟩
  rw [show (vlM.view.write (Elt F) f5 (ReadAs.same.apply ((lbS i).view.read (Elt F) lb)) Finset.univ) = labels d i lb from View.write_whole_univ _ _ _]
  -- the first half's labels and fetches
  unfold loadLabs
  simp only [Prog.lift, Prog.bind_op, Prog.bind_ret, Prog.pure_eq_ret]
  iapply (wp_load 𝒱₀ (thr d i) none Set.univ (m := vlM) (S := Finset.univ) (Finset.subset_univ _)) $$ Hvl
  iintro Hvl
  ihave Hf := (fetch_deal d i lg q f6 (word d i lb) hs) $$ [Hlg Hch]
  · isplitl [Hlg]; · iexact Hlg
    iexact Hch
  icases Hf with ⟨Hf, Hoth⟩
  imod (Transfers.batch_alloc' EC (thr d i) (sm := .dma cc0_scratch3.sem) (none : HIx 1) credit (fetchPost d i lg (dealOf q Finset.univ) f6 (word d i lb) hs) (E := Set.univ)) $$ HsC with HB
  rw [← Transfers.pending_zero (n := 32)]
  iapply (wp_issues d i lg (dealOf q Finset.univ) f6 (word d i lb) hs 0 (Nat.zero_le _) _ (lane_labs d i lb 0 (Nat.zero_le _)) _ _ 16 0 rfl _) $$ [Hf HB]
  · isplitl [Hf]; · iexact Hf
    iexact HB
  iintro ⟨Hf, HB⟩
  -- the second half's
  unfold wpT
  iapply (wp_load 𝒱₀ (thr d i) none Set.univ (m := vlM) (S := Finset.univ) (Finset.subset_univ _)) $$ Hvl
  iintro Hvl
  iapply (wp_issues d i lg (dealOf q Finset.univ) f6 (word d i lb) hs 16 (Nat.le_refl _) _ (lane_labs d i lb 16 (Nat.le_refl _)) _ _ 16 0 rfl _) $$ [Hf HB]
  · isplitl [Hf]; · iexact Hf
    iexact HB
  iintro ⟨-, HB⟩
  -- the waits
  iapply (wp_waits d i 0 (Nat.zero_le _) _ _ _ O W _ _ 16 0 rfl) $$ [HB HO]
  · isplitr; · iexact Hmw
    isplitl [HB]; · iexact HB
    iexists (insert (SemLoc.dma cc0_scoped0.sem, (none : HIx 1)) W); isplitr
    · ipureintro; intro p hp
      rcases Finset.mem_insert.mp hp with hp | hp
      · exact .inr (congrArg Prod.snd hp)
      · exact .inl hp
    · iexact HO
  iintro ⟨HB, HO⟩
  iapply (wp_waits d i 16 (Nat.le_refl _) _ _ _ O W _ _ 16 0 rfl) $$ [HB HO]
  · isplitr; · iexact Hmw
    isplitl [HB]; · iexact HB
    iexact HO
  iintro ⟨HB, HO⟩
  imod (Transfers.batch_collect' EC (thr d i) (View.dmaCredit_pos _ (by decide))) $$ HB with ⟨Hf, HsC⟩
  ihave Hc := (fetch_gather d i lg q f6 (word d i lb) hs) $$ [Hf Hoth]
  · isplitl [Hf]; · iexact Hf
    iexact Hoth
  icases Hc with ⟨Hlg, Hch⟩
  -- the selections
  unfold pickRows loadLabs
  simp only [Prog.lift, Prog.bind_op, Prog.bind_ret, Prog.pure_eq_ret]
  iapply (wp_load 𝒱₀ (thr d i) none Set.univ (m := vlM) (S := Finset.univ) (Finset.subset_univ _)) $$ Hvl
  iintro Hvl
  iapply (wp_load 𝒱₀ (thr d i) none Set.univ (m := vlM) (S := Finset.univ) (Finset.subset_univ _)) $$ Hvl
  iintro Hvl
  iapply (wp_rows d i (chunks d i lg (word d i lb) hs) 0 (Nat.zero_le _) _ _ _ 16 0 rfl zeros) $$ Hch
  iintro Hch
  unfold store loadLabs
  simp only [Prog.lift, Prog.bind_op, Prog.bind_ret, Prog.pure_eq_ret]
  unfold wpT
  iapply (wp_load 𝒱₀ (thr d i) none Set.univ (m := vlM) (S := Finset.univ) (Finset.subset_univ _)) $$ Hvl
  iintro Hvl
  iapply (wp_load 𝒱₀ (thr d i) none Set.univ (m := nvM) (S := Finset.univ) (Finset.subset_univ _)) $$ Hnv
  iintro Hnv
  iapply (wp_store 𝒱₀ (thr d i) none Set.univ (m := nvM) (r := half 0 (Nat.zero_le _)) (S := Finset.univ) (Finset.subset_univ _)) $$ Hnv
  iintro Hnv
  iapply (wp_rows d i (chunks d i lg (word d i lb) hs) 16 (Nat.le_refl _) _ _ _ 16 0 rfl zeros) $$ Hch
  iintro Hch
  unfold wpT
  iapply (wp_load 𝒱₀ (thr d i) none Set.univ (m := vlM) (S := Finset.univ) (Finset.subset_univ _)) $$ Hvl
  iintro Hvl
  iapply (wp_load 𝒱₀ (thr d i) none Set.univ (m := nvM) (S := Finset.univ) (Finset.subset_univ _)) $$ Hnv
  iintro Hnv
  iapply (wp_store 𝒱₀ (thr d i) none Set.univ (m := nvM) (r := half 16 (Nat.le_refl _)) (S := Finset.univ) (Finset.subset_univ _)) $$ Hnv
  iintro Hnv
  have hfin : (nvM.access (half 16 (Nat.le_refl _))).write (Elt F) ((nvM.access (half 0 (Nat.zero_le _))).write (Elt F) f7
      (margin (targets d i lg lb hs 0 (Nat.zero_le _)) (halfLabels d i lb 0 (Nat.zero_le _))) Finset.univ)
      (margin (targets d i lg lb hs 16 (Nat.le_refl _)) (halfLabels d i lb 16 (Nat.le_refl _))) Finset.univ = tileOut d i lg lb hs :=
    funext fun j => (stores_eq d i f7 _ _ j).trans rfl
  have hE : ∀ g : Buf (Elt F) (nvM.view.loc (thr d i)), g = tileOut d i lg lb hs →
      (nvM.view.loc (thr d i) ↦{fullShare} g : sProp 𝕄) ⊢ (nvM.view.loc (thr d i) ↦[nvM.view.set]{fullShare} tileOut d i lg lb hs) := by
    intro g h; rw [h, show nvM.view.set = Finset.univ from View.set_whole _]
  -- the results
  unfold putOut
  simp only [Prog.lift, Prog.bind_op, Prog.bind_ret, Prog.pure_eq_ret]
  iapply (Transfers.wp_dmaLocal EC 𝒱₀ (thr d i) none (defs := defs₀ (F := F)) (q := fullShare) (fs := tileOut d i lg lb hs) (dst := outS i) (Sd := (outS i).view.set) (fd := fo) (none : HIx 1) ((outS i).view.amount (.dma cc0_scoped1.sem)) rfl
    (View.amount_pos _ _ (by decide)) (Finset.Subset.refl _)) $$ [Hnv Hout HsB]
  · isplitl [Hnv]; · iapply (hE _ hfin); iexact Hnv
    isplitl [Hout]; · iexact Hout
    iexact HsB
  iintro HF
  icases HO with ⟨%W', %hW', HO⟩
  ihave Hm := (Transfers.MayWaits.elim (c := thr d i) (ι := (none : HIx 1)) (O := O) (.dma cc0_scoped1.sem)) $$ Hmw
  iapply (Transfers.wp_waitLocalO EC 𝒱₀ (thr d i) none (defs := defs₀ (F := F)) (dstw := outS i) (none : HIx 1) rfl) $$ [HF HO Hm]
  · isplitl [HF]; · iexact HF
    isplitl [HO]; · iexact HO
    iexact Hm
  iintro ⟨⟨Hout, Hnv⟩, HsB, HO⟩
  rw [wp_ret]
  imodintro
  isplitl [Hlg Hlb Hout]
  · isplitl [Hlg]; · iexact Hlg
    isplitl [Hlb]; · iexact Hlb
    iexact Hout
  isplitl [Hvl Hch Hnv Hbufs]
  · isplitl [Hvl]; · iexists _; iexact Hvl
    isplitl [Hch]; · iexists _; iexact Hch
    isplitl [Hnv]; · iexists _; iexact Hnv
    iexact Hbufs
  isplitl [HsA HsB HsC Hsems]
  · isplitl [HsA]; · iexact HsA
    isplitl [HsC]; · iexact HsC
    isplitl [HsB]; · iexact HsB
    iexact Hsems
  iexists (insert (SemLoc.dma cc0_scoped1.sem, (none : HIx 1)) W'); isplitr
  · ipureintro; intro p hp
    rcases Finset.mem_insert.mp hp with hp | hp
    · exact .inr (congrArg Prod.snd hp)
    · exact hW' p hp
  · iexact HO

end Cert.Proof.TileBody

end
-- ==== Proof.Tiles.lean ====
/-
  The vector subcores together: how the three arrays split into the 32 tiles and come back, what the SparseCore call
  writes, and the obligations of the launch theorem for the tiles.
-/
module

public import proofs.«01_k».proof.Proof.TileBody

@[expose] public section

noncomputable section

namespace Cert.Proof.Tiles

open Cert.KernelIdeal Cert.KernelIdeal.Gen
open Cert.Proof.Walk Cert.Proof.Setup Cert.Proof.TileSteps Cert.Proof.TileMem Cert.Proof.TileBody

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (dealOf)

variable {F : FTy → Type} [FloatOps F]

local notation "𝕄" => MM F

variable (m : (ℓ : Loc nD τ sig) → Buf (Elt F) ℓ)

/-! ## The tiles by number -/

/-- Tile `w`'s grid point: SparseCore `w % 2`, subcore `w / 2`. -/
def tileAt (w : Fin 32) : grid0.Coords :=
  coordsV ⟨w.val % 2, Nat.mod_lt _ (by decide)⟩ ⟨w.val / 2, show w.val / 2 < 16 by omega⟩

/-- The number of subcore `s` of SparseCore `c`. -/
def num (c : Fin 2) (s : Fin 16) : Fin 32 := ⟨2 * s.val + c.val, by omega⟩

theorem tileAt_num (c : Fin 2) (s : Fin 16) : tileAt (num c s) = coordsV c s := by
  unfold tileAt num
  congr 1
  · apply Fin.ext; show (2 * s.val + c.val) % 2 = c.val; omega
  · apply Fin.ext; show (2 * s.val + c.val) / 2 = s.val; omega

theorem off1_tile (w : Fin 32) : k0_off1 (tileAt w) = ![32 * w.val] := by
  rw [k0_off1_eq]
  congr 1
  show 64 * (w.val / 2) + 32 * (w.val % 2) = 32 * w.val
  omega

theorem off65_tile (w : Fin 32) : k0_off65 (tileAt w) = ![32 * w.val] := by
  rw [k0_off65_eq]
  congr 1
  show 64 * (w.val / 2) + 32 * (w.val % 2) = 32 * w.val
  omega

/-- Every tile's labels name a chunk inside the logits. -/
def Ok : Prop := ∀ (d : Dev nD) (w : Fin 32), Good d (tileAt w) (m (lbLoc d))

/-- Element `n` of the labels or of the results is element `n % 32` of tile `n / 32`. -/
def owner (n : S1024.Idx) : Fin 32 := ⟨(n 0).val / 32, by have : (n 0).val < 1024 := (n 0).isLt; omega⟩

variable (hok : Ok m)

/-- What the SparseCore call writes. -/
def scOut (d : Dev nD) : Buf (Elt F) (outLoc d) := fun n =>
  tileOut d (tileAt (owner n)) (m (lgLoc d)) (m (lbLoc d)) (hok d (owner n)) (at1 (n := 32) ((n 0).val % 32) (Nat.mod_lt _ (by decide)))

/-- The cells of tile `w` in the labels and in the results. -/
abbrev lbCells (w : Fin 32) : Finset S1024.Idx := (lbS (tileAt w)).view.set
abbrev outCells (w : Fin 32) : Finset S1024.Idx := (outS (tileAt w)).view.set

theorem mem_lbCells (w : Fin 32) (n : S1024.Idx) : n ∈ lbCells w ↔ owner n = w := by
  rw [lbCells, show (lbS (tileAt w)).view.set = (Rect.unit (s := S1024) (k0_off1 (tileAt w)) S32.size (k0_off1_inb (tileAt w))).set from View.set_slice_whole _ _,
    Rect.mem_set_unit, off1_tile, Fin.ext_iff]
  constructor
  · intro h
    have h0 : 32 * w.val ≤ (n 0).val ∧ (n 0).val < 32 * w.val + 32 := h 0
    show (n 0).val / 32 = w.val
    omega
  · intro h a
    have h' : (n 0).val / 32 = w.val := h
    fin_cases a
    show 32 * w.val ≤ (n 0).val ∧ (n 0).val < 32 * w.val + 32
    omega

theorem mem_outCells (w : Fin 32) (n : S1024.Idx) : n ∈ outCells w ↔ owner n = w := by
  rw [outCells, show (outS (tileAt w)).view.set = (Rect.unit (s := S1024) (k0_off65 (tileAt w)) S32.size (k0_off65_inb (tileAt w))).set from View.set_slice_whole _ _,
    Rect.mem_set_unit, off65_tile, Fin.ext_iff]
  constructor
  · intro h
    have h0 : 32 * w.val ≤ (n 0).val ∧ (n 0).val < 32 * w.val + 32 := h 0
    show (n 0).val / 32 = w.val
    omega
  · intro h a
    have h' : (n 0).val / 32 = w.val := h
    fin_cases a
    show 32 * w.val ≤ (n 0).val ∧ (n 0).val < 32 * w.val + 32
    omega

theorem lb_split (d : Dev nD) (f : Buf (Elt F) (lbLoc d)) :
    (lbLoc d ↦{fullShare} f : sProp 𝕄) = bigSep Finset.univ fun w : Fin 32 => lbLoc d ↦[lbCells w]{fullShare} f := by
  have hu : (Finset.univ : Finset (Fin 32)).biUnion lbCells = Finset.univ :=
    Finset.eq_univ_of_forall fun n => Finset.mem_biUnion.mpr ⟨owner n, Finset.mem_univ _, (mem_lbCells _ n).mpr rfl⟩
  refine Eq.trans ?_ (pointsTo_biUnion Finset.univ (ℓ := lbLoc d) lbCells (fun w _ w' _ h => Finset.disjoint_left.mpr fun n h1 h2 =>
    h (((mem_lbCells w n).mp h1).symm.trans ((mem_lbCells w' n).mp h2))))
  exact congrArg (fun S : Finset S1024.Idx => (lbLoc d ↦[S]{fullShare} f : sProp 𝕄)) hu.symm

theorem out_split (d : Dev nD) (f : Buf (Elt F) (outLoc d)) :
    (outLoc d ↦{fullShare} f : sProp 𝕄) = bigSep Finset.univ fun w : Fin 32 => outLoc d ↦[outCells w]{fullShare} f := by
  have hu : (Finset.univ : Finset (Fin 32)).biUnion outCells = Finset.univ :=
    Finset.eq_univ_of_forall fun n => Finset.mem_biUnion.mpr ⟨owner n, Finset.mem_univ _, (mem_outCells _ n).mpr rfl⟩
  refine Eq.trans ?_ (pointsTo_biUnion Finset.univ (ℓ := outLoc d) outCells (fun w _ w' _ h => Finset.disjoint_left.mpr fun n h1 h2 =>
    h (((mem_outCells w n).mp h1).symm.trans ((mem_outCells w' n).mp h2))))
  exact congrArg (fun S : Finset S1024.Idx => (outLoc d ↦[S]{fullShare} f : sProp 𝕄)) hu.symm

/-- What tile `w` holds, its results at `f`. -/
def held (d : Dev nD) (f : Buf (Elt F) (outLoc d)) (w : Fin 32) : sProp 𝕄 :=
  tilePre d (tileAt w) (dealOf fullShare Finset.univ w) (m (lgLoc d)) (m (lbLoc d)) f

instance held_storable (d : Dev nD) (f : Buf (Elt F) (outLoc d)) (w : Fin 32) : BI.Storable (upEmb : UEmb _ 𝕄) (held m d f w) := by
  unfold held tilePre; infer_instance

/-- The three arrays are the tiles' parts. -/
theorem arrays_split (d : Dev nD) (f : Buf (Elt F) (outLoc d)) :
    (iprop((lgLoc d ↦{fullShare} m (lgLoc d)) ∗ (lbLoc d ↦{fullShare} m (lbLoc d)) ∗ (outLoc d ↦{fullShare} f)) : sProp 𝕄)
      = bigSep Finset.univ fun w : Fin 32 => held m d f w := by
  rw [Transfers.pointsTo_deal (Finset.univ : Finset (Fin 32)) Finset.univ_nonempty fullShare, lb_split, out_split, ← bigSep_sep', ← bigSep_sep']
  rfl

/-- Over the tiles is over the SparseCores and their subcores. -/
theorem over_tiles (Φ : Fin 32 → sProp 𝕄) :
    bigSep Finset.univ Φ = bigSep Finset.univ fun c : Fin 2 => bigSep Finset.univ fun s : Fin 16 => Φ (num c s) := by
  rw [← BI.bigSep_univ_prod (fun x : Fin 2 × Fin 16 => Φ (num x.1 x.2)),
    BI.bigSep_univ_equiv ((Equiv.prodComm (Fin 2) (Fin 16)).trans (finProdFinEquiv (m := 16) (n := 2))) Φ]
  refine bigSep_congr fun x _ => congrArg Φ ?_
  apply Fin.ext
  show x.1.val + 2 * x.2.val = 2 * x.2.val + x.1.val
  omega

/-! ## The launch's payloads -/

theorem nCore_zero : (K (F := F)).nCore 0 = 2 := rfl
theorem nSub_zero : (K (F := F)).nSub 0 = 16 := rfl

/-- The call takes the tiles' parts and brings them back, the results at `scOut`. -/
def P : (K (F := F)).Pay (nD := nD) (Val := Elt F) (Name := ℕ) (U := UU) where
  st := fun q d c => match q with
    | 0 => bigSep Finset.univ fun s : Fin 16 => held m d (m (outLoc d)) (num (Fin.cast nCore_zero c) s)
  dn := fun q d c => match q with
    | 0 => bigSep Finset.univ fun s : Fin 16 => held m d (scOut m hok d) (num (Fin.cast nCore_zero c) s)
  go := fun q d c s => match q with
    | 0 => held m d (m (outLoc d)) (num (Fin.cast nCore_zero c) (Fin.cast nSub_zero s))
  td := fun q d c s => match q with
    | 0 => held m d (scOut m hok d) (num (Fin.cast nCore_zero c) (Fin.cast nSub_zero s))
  x := fun _ _ => iprop(emp)

instance P_storable : (P m hok).IsStorable where
  st q d c := match q with
    | 0 => (inferInstance : BI.Storable (upEmb : UEmb _ 𝕄) (bigSep Finset.univ fun s : Fin 16 => held m d (m (outLoc d)) (num (Fin.cast nCore_zero c) s)))
  dn q d c := match q with
    | 0 => (inferInstance : BI.Storable (upEmb : UEmb _ 𝕄) (bigSep Finset.univ fun s : Fin 16 => held m d (scOut m hok d) (num (Fin.cast nCore_zero c) s)))
  go q d c s := match q with
    | 0 => held_storable m d _ _
  td q d c s := match q with
    | 0 => held_storable m d _ _

theorem vecSplit : (K (F := F)).VecSplit' (P m hok) 0 := by
  intro d c
  show (bigSep Finset.univ fun s : Fin 16 => held m d (m (outLoc d)) (num (Fin.cast nCore_zero c) s)) ⊢ |={Set.univ}=> iprop(
      (bigSep Finset.univ fun s : Fin 16 => held m d (m (outLoc d)) (num (Fin.cast nCore_zero c) s))
      ∗ ((bigSep Finset.univ fun s : Fin 16 => held m d (scOut m hok d) (num (Fin.cast nCore_zero c) s))
          -∗ bigSep Finset.univ fun s : Fin 16 => held m d (scOut m hok d) (num (Fin.cast nCore_zero c) s)))
  iintro H; imodintro
  isplitl [H]; · iexact H
  iintro H; iexact H

theorem st_eq (d : Dev nD) :
    (bigSep Finset.univ fun c : Fin ((K (F := F)).nCore 0) => (P m hok).st 0 d c)
      = (iprop((lgLoc d ↦{fullShare} m (lgLoc d)) ∗ (lbLoc d ↦{fullShare} m (lbLoc d)) ∗ (outLoc d ↦{fullShare} m (outLoc d))) : sProp 𝕄) := by
  rw [arrays_split, over_tiles]; rfl

theorem dn_eq (d : Dev nD) :
    (bigSep Finset.univ fun c : Fin ((K (F := F)).nCore 0) => (P m hok).dn 0 d c)
      = (iprop((lgLoc d ↦{fullShare} m (lgLoc d)) ∗ (lbLoc d ↦{fullShare} m (lbLoc d)) ∗ (outLoc d ↦{fullShare} scOut m hok d)) : sProp 𝕄) := by
  rw [arrays_split, over_tiles]; rfl

/-! ## The tile's obligation -/

/-- The results a tile writes are `scOut` at its cells. -/
theorem out_at (d : Dev nD) (w : Fin 32) (fo : Buf (Elt F) (outLoc d)) (hs : Good d (tileAt w) (m (lbLoc d))) (n : S1024.Idx) (h : n ∈ outCells w) :
    (outS (tileAt w)).view.write (Elt F) fo (nvM.view.read (Elt F) (tileOut d (tileAt w) (m (lgLoc d)) (m (lbLoc d)) hs)) Finset.univ n
      = scOut m hok d n := by
  obtain rfl : owner n = w := (mem_outCells w n).mp h
  have hb : (n 0).val % 32 < 32 := Nat.mod_lt _ (by decide)
  have he : (outS (tileAt (owner n))).view.emb (at1 (n := 32) ((n 0).val % 32) hb) = n := by
    funext a; apply Fin.ext; fin_cases a
    show k0_off65 (tileAt (owner n)) 0 + 1 * ((n 0).val % 32) = (n 0).val
    rw [off65_tile]
    show 32 * ((n 0).val / 32) + 1 * ((n 0).val % 32) = (n 0).val
    omega
  refine (congrArg _ he.symm).trans ?_
  rw [View.write_emb_of_mem _ _ (Finset.mem_univ _)]
  rfl

theorem tile_held (d : Dev nD) (w : Fin 32) (i : grid0.Coords) (hi : tileAt w = i) (O : CellTallies nD τ sig (HIx 1)) (W : Waits sig (HIx 1)) (hO : ∀ g, O g none = 0) :
    iprop(levAts (K (F := F)).L (K (F := F)).lev ∗ emp ∗ held m d (m (outLoc d)) w
        ∗ scopedBufs (thr d i) ∗ scopedSems0 (thr d i) ∗ owes (thr d i) O W)
      ⊢ wp frame (wpE (defs₀ (F := F)) 𝒱₀ (thr d i) none) Set.univ
          (cc0__sc_margin_body (F := F) i lgM (Memref.isWhole_whole _) lbM (Memref.isWhole_whole _) outM (Memref.isWhole_whole _)
            vlM (Memref.isWhole_whole _) chM (Memref.isWhole_whole _) nvM (Memref.isWhole_whole _) cc0_scratch3 cc0_scoped0 cc0_scoped1)
          fun _ => iprop(held m d (scOut m hok d) w ∗ scopedBufs (thr d i) ∗ scopedSems0 (thr d i)
            ∗ ∃ W', ⌜∀ p ∈ W', p ∈ W ∨ p.2 = none⌝ ∗ owes (thr d i) O W') := by
  subst hi
  rw [body_eq_walk]
  refine (tile_walk d (tileAt w) (m (lgLoc d)) (m (lbLoc d)) (m (outLoc d)) (dealOf fullShare Finset.univ w) (hok d w) O W hO).trans ?_
  have e : (outLoc d ↦[outCells w]{fullShare} ((outS (tileAt w)).view.write (Elt F) (m (outLoc d))
      (nvM.view.read (Elt F) (tileOut d (tileAt w) (m (lgLoc d)) (m (lbLoc d)) (hok d w))) Finset.univ) : sProp 𝕄)
      = (outLoc d ↦[outCells w]{fullShare} scOut m hok d) :=
    pointsTo_congr fun n h => out_at m hok d w (m (outLoc d)) (hok d w) n h
  exact wp_mono frame _ _ fun _ => sep_mono_left (sep_mono_right (sep_mono_right (Entails.of_eq e)))

theorem defs₀_vector (c : Fin τ.nSC) (s : Fin τ.nSub) :
    defs₀ (F := F) (.scVector c s) 0 ()
      = SparseCore.onTile hcore0 hsub0 (fun c s => cc0__sc_margin_body (coordsV c s)
          lgM (Memref.isWhole_whole _) lbM (Memref.isWhole_whole _) outM (Memref.isWhole_whole _)
          vlM (Memref.isWhole_whole _) chM (Memref.isWhole_whole _) nvM (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 100000 in
theorem tileObl : (K (F := F)).TileObl (D (F := F)) 𝒱 (P m hok) v₀ 0 := by
  intro d c i O W hO _ _
  simp only [show (P m hok).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have e1 : Fin.cast nCore_zero c = (⟨((K (F := F)).core 0 c).val, hc.1⟩ : Fin (grid0.bound 0)) := Fin.ext rfl
  have e2 : Fin.cast nSub_zero i = (⟨((K (F := F)).sub 0 i).val, hc.2⟩ : Fin (grid0.bound 1)) := Fin.ext rfl
  have e := (tileAt_num (Fin.cast nCore_zero c) (Fin.cast nSub_zero i)).trans (congrArg₂ coordsV e1 e2)
  refine (tile_held m hok d _ _ e O W hO).trans ?_
  exact wp_mono frame _ _ fun _ => obl_post

end Cert.Proof.Tiles

end
-- ==== Proof.Block.lean ====
/-
  The TensorCore's kernel on one block of 16 rows: the block it stores, from the blocks of the logits, the labels and
  the tiles' results that it loads, and the run of its body that stores it.
-/
module

public import proofs.«01_k».proof.Proof.Setup
public import proofs.«01_k».proof.Proof.Gen.KernelIdeal.Skeleton
public import Idealize.ShloMosaic.Lib.WritesUnit

@[expose] public section

noncomputable section

namespace Cert.Proof.Block

open Cert.KernelIdeal Cert.KernelIdeal.Gen
open Cert.Proof.Setup

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F]

local notation "𝕄" => MM F

/-- The last 32 columns, counted from the first of them. -/
def tail (j : S16x100000.Idx) (h : 99968 ≤ (j 1).val) : S16x32.Idx :=
  fun | 0 => ⟨(j 0).val, (j 0).isLt⟩ | 1 => ⟨(j 1).val - 99968, by have : (j 1).val < 100000 := (j 1).isLt; show _ < 32; omega⟩ | ⟨_ + 2, h⟩ => absurd h (Nat.not_lt.2 (Nat.le_add_left _ _))

/-- The block stored: the last 32 columns from the logits and the labels alone, the others with the tiles' results. -/
def blockOut (x : Vec F S16x100000 .f32) (l : Vec F S16x1 .i32) (v : Vec F S16x1 .f32) : Vec F S16x100000 .f32 := fun j =>
  if h : 99968 ≤ (j 1).val then k1_pay3 x l (tail j h) else k1_pay2 x l v j

variable {sh : Shape} {e : EltTy} {κ : Kind} {sp : Space}

/-- A load of the whole view reads the view. -/
theorem readAt_all (v : View sig κ sp sh e) (off : Fin sh.rank → Nat) (h : ∀ a, off a = 0) (inb : ∀ a, off a + sh.size a ≤ sh.size a) (f : v.ty.Contents (Elt F)) :
    v.readAt (Elt F) (Rect.unit off sh.size inb).toLoadRect f = v.read (Elt F) f := by
  funext x
  rw [View.readAt_apply]
  refine congrArg (v.read (Elt F) f) (funext fun a => Fin.ext ?_)
  show off a + 1 * (x a).val = (x a).val
  rw [h a]; omega

theorem zero2 : ∀ a, (![0, 0] : Fin 2 → Nat) a = 0 := by decide

/-- The two stores leave the block. -/
theorem stored (v : View sig κ sp S16x100000 .f32) (f : v.ty.Contents (Elt F)) (x : Vec F S16x100000 .f32) (l : Vec F S16x1 .i32) (u : Vec F S16x1 .f32) :
    v.read (Elt F) ((v.slice (Rect.unit (s := S16x100000) ![0, 99968] S16x32.size inb_S16x100000_S16x32_0_99968)).write (Elt F)
      ((v.slice (Rect.unit (s := S16x100000) ![0, 0] S16x100000.size inb_S16x100000_S16x100000_0_0)).write (Elt F) f (k1_pay2 x l u) Finset.univ)
      (k1_pay3 x l) Finset.univ) = blockOut x l u := by
  funext j
  unfold blockOut
  have h0 : (j 0).val < 16 := (j 0).isLt
  have h1 : (j 1).val < 100000 := (j 1).isLt
  by_cases h : 99968 ≤ (j 1).val
  · rw [dif_pos h]
    exact View.read_writes_cons_unit_of_mem v f inb_S16x100000_S16x32_0_99968 (k1_pay3 x l) [⟨Rect.unit (s := S16x100000) ![0, 0] S16x100000.size inb_S16x100000_S16x100000_0_0, k1_pay2 x l u⟩] j (tail j h) rfl
      (fun a => by
        fin_cases a
        · show (j 0).val = 0 + (j 0).val; omega
        · show (j 1).val = 99968 + ((j 1).val - 99968); omega)
  · rw [dif_neg h]
    refine (View.read_writes_cons_unit_of_not_mem v f inb_S16x100000_S16x32_0_99968 (k1_pay3 x l) [⟨Rect.unit (s := S16x100000) ![0, 0] S16x100000.size inb_S16x100000_S16x100000_0_0, k1_pay2 x l u⟩] j rfl (1 : Fin 2)
      (Or.inl (show (j 1).val < 99968 by omega))).trans ?_
    exact View.read_writes_cons_unit_of_mem v f inb_S16x100000_S16x100000_0_0 (k1_pay2 x l u) [] j j rfl
      (fun a => by
        fin_cases a
        · show (j 0).val = 0 + (j 0).val; omega
        · show (j 1).val = 0 + (j 1).val; omega)

/-- The body on its four blocks, owned: the three it loads are kept, the fourth holds the block. -/
theorem block_run (c : Dev nD) (i : grid1.Coords)
    (a1 : Memref sig .tc .vmem S16x100000 .f32) (h1 : a1.IsWhole) (a2 : Memref sig .tc .vmem S16x1 .i32) (h2 : a2.IsWhole)
    (a3 : Memref sig .tc .vmem S16x1 .f32) (h3 : a3.IsWhole) (a4 : Memref sig .tc .vmem S16x100000 .f32) (h4 : a4.IsWhole)
    (x : Vec F S16x100000 .f32) (l : Vec F S16x1 .i32) (u : Vec F S16x1 .f32) (y : Vec F S16x100000 .f32) (Q : PUnit → sProp 𝕄) :
    iprop(owns (c : Thread nD τ) a1 fullShare x ∗ owns (c : Thread nD τ) a2 fullShare l ∗ owns (c : Thread nD τ) a3 fullShare u ∗ owns (c : Thread nD τ) a4 fullShare y)
      ⊢ iprop(((owns (c : Thread nD τ) a1 fullShare x ∗ owns (c : Thread nD τ) a2 fullShare l ∗ owns (c : Thread nD τ) a3 fullShare u
            ∗ owns (c : Thread nD τ) a4 fullShare (blockOut x l u)) -∗ Q ⟨⟩)
          -∗ wp frame (wpE (defs₀ (F := F)) 𝒱₀ (c : Thread nD τ) none) Set.univ (cc1__tc_scale_body i a1 h1 a2 h2 a3 h3 a4 h4) Q) := by
  rw [cc1__tc_scale_body_eq_skeleton]; unfold cc1__tc_scale_body_skel
  rw [k1_part1_eq_skeleton]; unfold k1_part1_skel
  simp only [Prog.lift, Prog.bind_op, Prog.bind_ret, Prog.pure_eq_ret]
  unfold owns
  iintro ⟨⟨%f1, %e1, H1⟩, ⟨%f2, %e2, H2⟩, ⟨%f3, %e3, H3⟩, ⟨%f4, -, H4⟩⟩ HQ
  iapply (wp_load 𝒱₀ (c : Thread nD τ) none Set.univ (m := a1) (View.setOn_subset_set _ _)) $$ H1
  iintro H1
  iapply (wp_load 𝒱₀ (c : Thread nD τ) none Set.univ (m := a2) (View.setOn_subset_set _ _)) $$ H2
  iintro H2
  iapply (wp_load 𝒱₀ (c : Thread nD τ) none Set.univ (m := a3) (View.setOn_subset_set _ _)) $$ H3
  iintro H3
  iapply (wp_load 𝒱₀ (c : Thread nD τ) none Set.univ (m := a4) (View.setOn_subset_set _ _)) $$ H4
  iintro H4
  rw [readAt_all _ _ zero2, readAt_all _ _ zero2, readAt_all _ _ zero2, e1, e2, e3]
  iapply (wp_store 𝒱₀ (c : Thread nD τ) none Set.univ (m := a4) (r := Rect.unit (s := S16x100000) ![0, 0] S16x100000.size inb_S16x100000_S16x100000_0_0)
    (S := a4.view.set) (f := f4) ((View.setOn_subset_set _ _).trans (View.set_slice_subset _ _))) $$ H4
  iintro H4
  iapply (wp_load 𝒱₀ (c : Thread nD τ) none Set.univ (m := a4) (View.setOn_subset_set _ _)) $$ H4
  iintro H4
  iapply (wp_store 𝒱₀ (c : Thread nD τ) none Set.univ (m := a4) (r := Rect.unit (s := S16x100000) ![0, 99968] S16x32.size inb_S16x100000_S16x32_0_99968)
    (S := a4.view.set) ((View.setOn_subset_set _ _).trans (View.set_slice_subset _ _))) $$ H4
  iintro H4
  rw [wp_ret]
  imodintro
  iapply HQ
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap; (· iexact H4); ipureintro
  exact stored a4.view f4 x l u

end Cert.Proof.Block

end
-- ==== Proof.Region.lean ====
/-
  The TensorCore's pipeline: its proof data at the contents its arrays are entered with, the obligation of its body at
  every block, and the region's step in the program.
-/
module

public import proofs.«01_k».proof.Proof.Block
public import proofs.«01_k».proof.Proof.Gen.KernelIdeal.Points
public import Idealize.ShloMosaic.Lib.Pipeline.Frame
public import Idealize.ShloMosaic.Lib.Pipeline.RegionArraysS

@[expose] public section

noncomputable section

namespace Cert.Proof.Region

open Cert.KernelIdeal Cert.KernelIdeal.Gen
open Cert.Proof.Setup Cert.Proof.Block

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Pipeline (Dat BodyObligation)

variable {F : FTy → Type} [FloatOps F]

local notation "𝕄" => MM F

/-- No pipeline of the program prefetches a table. -/
abbrev adm : (p : Fin 1) → (pcfgs (F := F) p).Adm := fun p => (cfgs p).toPCfg_adm

variable (W : Dev nD → Valuation τ sig (Elt F))

/-- The contents of a reference at the region's entry. -/
abbrev at' (c : Dev nD) (b : Ref sig .tc) : Buf (Elt F) ((c : Thread nD τ).loc b) := W c b

/-- The blocks fetched at a point. -/
def inLg (c : Dev nD) (t : Fin cfg1.N) : Vec F S16x100000 .f32 := ((cfg1.win 0).blk t).view.read (Elt F) (at' W c main_arg0)
def inLb (c : Dev nD) (t : Fin cfg1.N) : Vec F S16x1 .i32 := ((cfg1.win 1).blk t).view.read (Elt F) (at' W c main_v1)
def inSc (c : Dev nD) (t : Fin cfg1.N) : Vec F S16x1 .f32 := ((cfg1.win 2).blk t).view.read (Elt F) (at' W c main_v2)

/-- The proof data: the arrays as they are entered; after the body the three blocks as fetched and the block stored. -/
def dats (_ : Fin 1) (c : Dev nD) : Dat τ (Elt F) (HIx 1) ℕ UU ℕ cfg1 c where
  A w := at' W c (Pipeline.arrRef spec1 w)
  after w t := match w with
    | ⟨0, _⟩ => inLg W c t
    | ⟨1, _⟩ => inLb W c t
    | ⟨2, _⟩ => inSc W c t
    | ⟨3, _⟩ => blockOut (inLg W c t) (inLb W c t) (inSc W c t)
    | ⟨_ + 4, h⟩ => absurd h (Nat.not_lt.2 (Nat.le_add_left _ _))
  Φ _ := iprop(emp)
  q _ := fullShare
  owed _ := 0

theorem before_0 (c : Dev nD) (t : Fin cfg1.N) (d) : (dats W 0 c).before 0 t d = inLg W c t := by
  unfold Dat.before; rw [if_pos (fetch1_0 t)]; rfl
theorem before_1 (c : Dev nD) (t : Fin cfg1.N) (d) : (dats W 0 c).before 1 t d = inLb W c t := by
  unfold Dat.before; rw [if_pos (fetch1_1 t)]; rfl
theorem before_2 (c : Dev nD) (t : Fin cfg1.N) (d) : (dats W 0 c).before 2 t d = inSc W c t := by
  unfold Dat.before; rw [if_pos (fetch1_2 t)]; rfl

/-- The body at every point. -/
theorem body_obligation (c : Dev nD) : BodyObligation (dats W 0 c) (defs₀ (F := F)) 𝒱₀ (none : HIx 1) Set.univ := fun t => by
  rw [bigSep_W1, bigSep_W1]
  change _ ⊢ wp _ _ _ (bodyAt1 (F := F) t) _
  rw [show (dats W 0 c).Φ t.castSucc = iprop(emp) from rfl, show (dats W 0 c).Φ t.succ = iprop(emp) from rfl]
  unfold Dat.owesAt Pipeline.owesWithin
  rw [show (dats W 0 c).owed t.castSucc = 0 from rfl, show (dats W 0 c).owed t.succ = 0 from rfl]
  iintro ⟨HΦ, ⟨%Wd, %hW, HO⟩, ⟨%d0, H0⟩, ⟨%d1, H1⟩, ⟨%d2, H2⟩, ⟨%d3, H3⟩⟩
  rw [before_0, before_1, before_2]
  iapply (block_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (inLg W c t) (inLb W c t) (inSc W c t) ((dats W 0 c).before 3 t d3)) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [HO]
  · iexists Wd; isplitr; · ipureintro; exact fun _ _ => Or.inl trivial
    iexact HO
  isplitl [H0]; · iexact H0
  isplitl [H1]; · iexact H1
  isplitl [H2]; · iexact H2
  iexact H3

/-- The levels: the core owes nothing while the region runs. -/
theorem cut : Pipeline.LevelCut (pcfgs (F := F)) adm (none : HIx 1) (K (F := F)).L (K (F := F)).lev 0 (fun _ : Dev nD => 0) (fun _ => 0) where
  hι _ _ _ := Finset.mem_univ _
  hιb _ _ _ := Nat.le_refl _
  hD _ _ _ h := absurd h (Nat.lt_irrefl 0)

set_option backward.isDefEq.respectTransparency.types false in
/-- The region, over the unscoped buffers at `W`. -/
def region : Pipeline.RegionSeg (pcfgs (F := F)) adm (dats W) (none : HIx 1) defs₀ 𝒱₀ (K (F := F)).L (K (F := F)).lev 0 :=
  Pipeline.RegionSeg.ofHeldIn (pcfgs (F := F)) adm (dats W) (none : HIx 1) defs₀ 𝒱₀ (K (F := F)).L (K (F := F)).lev 0 (fun _ => 0)
    (Pipeline.ucRefs τ sig) (fun _ => iprop(emp)) (fun _ => iprop(emp)) (Pipeline.LaunchFacts.toP launch1) rfl
    (fun c => (body_obligation W c).loose) (fun _ _ => rfl) (fun _ => rfl) (fun c => (dats W 0 c).share_full fun _ => rfl)
    (fun c => by
      rw [show Pipeline.scopedRest (Ix := HIx 1) (Name := ℕ) (U := UU) (Lvl := ℕ) (Val := Elt F) (Pipeline.pin (pcfgs (F := F)) adm 0).spec c = iprop(emp) from scopedRest1_eq c]
      exact Laws.sep_emp.1)
    (fun c => by
      rw [show Pipeline.scopedRest (Ix := HIx 1) (Name := ℕ) (U := UU) (Lvl := ℕ) (Val := Elt F) (Pipeline.pin (pcfgs (F := F)) adm 0).spec c = iprop(emp) from scopedRest1_eq c]
      exact Laws.sep_emp.2)
    (fun _ => 0) cut (fun _ => iprop(emp)) W (fun _ _ => rfl)

/-- No window's array is scoped. -/
theorem arr_unscoped : ∀ w, (Pipeline.arrRef spec1 w).isScoped = false := by decide

theorem arrs : Pipeline.arrRefs (τ := τ) (pcfgs (F := F) 0).spec ⊆ Pipeline.ucRefs τ sig := Pipeline.arrRefs_sub_ucRefs spec1 arr_unscoped

set_option backward.isDefEq.respectTransparency.types false in
/-- The region is entered from the unscoped buffers at `W`, the core owing nothing; -/
theorem region_pre (c : Dev nD) :
    (iprop(StableHlo.held (c : Thread nD τ) (Pipeline.ucRefs τ sig) (W c) ∗ ((∃ Wd, owes (c : Thread nD τ) (0 : CellTallies nD τ sig (HIx 1)) Wd) ∗ emp ∗ emp)) : sProp 𝕄)
      ⊢ (region W).pre c := by
  unfold region
  refine BI.Entails.trans ?_ (Pipeline.RegionSeg.ofHeldIn_pre arrs c)
  exact BI.Entails.refl _

set_option backward.isDefEq.respectTransparency.types false in
/-- and left with them as the pipeline leaves them. -/
theorem region_post (c : Dev nD) :
    (region W).post c ⊢ (iprop(StableHlo.held (c : Thread nD τ) (Pipeline.ucRefs τ sig) (Pipeline.afterRegion (dats W 0 c) (W c))
      ∗ ((∃ Wd, owes (c : Thread nD τ) (0 : CellTallies nD τ sig (HIx 1)) Wd) ∗ emp ∗ emp)) : sProp 𝕄) := by
  unfold region
  exact Pipeline.RegionSeg.ofHeldIn_post arrs c

/-- The call of the pipeline, as the program spells it, is the pipeline's own call lifted. -/
theorem call_eq : (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun _ => .ret ⟨⟩) := rfl

set_option backward.isDefEq.respectTransparency.types false in
set_option maxHeartbeats 2000000 in
theorem region_call [∀ e, Nonempty (Elt F e)] (c : Dev nD) (Q : PUnit → sProp 𝕄) :
    iprop((iprop(boundary (c : Thread nD τ) ∗ (region W).post c) -∗ wp frame (wpE (D (F := F)) 𝒱 (c : Thread nD τ) none) Set.univ (.ret ⟨⟩) Q)
        ∗ boundary (c : Thread nD τ) ∗ (region W).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c : Thread nD τ) none) Set.univ (.op (.customCall (Pipeline.entry 0) ()) fun _ => .ret ⟨⟩) Q :=
  Pipeline.RegionSeg.wp (pcfgs (F := F)) adm (dats W) (none : HIx 1) cellOf_inj EP defs₀ 𝒱₀ (K (F := F)).L (K (F := F)).lev (region W) c none
    (fun _ h => nomatch h) (fun _ => .ret ⟨⟩) Q

/-- The region's step in the program: from the unscoped buffers at `W`, to them as the pipeline leaves them. -/
theorem region_wp [∀ e, Nonempty (Elt F e)] (c : Dev nD) (Q : PUnit → sProp 𝕄) :
    iprop(boundary (c : Thread nD τ) ∗ StableHlo.held (c : Thread nD τ) (Pipeline.ucRefs τ sig) (W c) ∗ (∃ Wd, owes (c : Thread nD τ) (0 : CellTallies nD τ sig (HIx 1)) Wd)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ iprop(((boundary (c : Thread nD τ) ∗ StableHlo.held (c : Thread nD τ) (Pipeline.ucRefs τ sig) (Pipeline.afterRegion (dats W 0 c) (W c))
            ∗ ∃ Wd, owes (c : Thread nD τ) (0 : CellTallies nD τ sig (HIx 1)) Wd) -∗ Q ⟨⟩)
          -∗ wp frame (wpE ((K (F := F)).defs (D (F := F))) 𝒱 (c : Thread nD τ) none) Set.univ
              (Prog.lift (.customCall (SparseCore.inner (Pipeline.entry 0)) ())) Q) := by
  rw [call_eq]
  iintro ⟨Hb, Hh, HO, Hlv, Hg, Ht⟩ HQ
  iapply ((K (F := F)).wp_liftProg (D (F := F)) 𝒱 (c : Thread nD τ) Set.univ none (.op (.customCall (Pipeline.entry 0) ()) fun _ => .ret ⟨⟩) Q)
  iapply (region_call W c Q)
  isplitl [HQ]
  · iintro ⟨Hb, Hp⟩
    ihave Hp' := (region_post W c) $$ Hp
    icases Hp' with ⟨Hh, HO, -⟩
    rw [wp_ret]; imodintro
    iapply HQ
    isplitl [Hb]; · iexact Hb
    isplitl [Hh]; · iexact Hh
    iexact HO
  isplitl [Hb]; · iexact Hb
  isplitl [Hh HO]
  · iapply (region_pre W c)
    isplitl [Hh]; · iexact Hh
    isplitl [HO]; · iexact HO
    isplitl <;> iempintro
  isplitl [Hlv]; · iexact Hlv
  isplitl [Hg]; · iexact Hg
  iexact Ht

end Cert.Proof.Region

end
-- ==== Proof.Launch.lean ====
/-
  The whole program: what the launch deals, the TensorCore's own text (the call of the SparseCores, the two reshapes, the
  pipeline), and the run of all threads together with the result it leaves.
-/
module

public import proofs.«01_k».proof.Proof.Tiles
public import proofs.«01_k».proof.Proof.Region

@[expose] public section

noncomputable section

namespace Cert.Proof.Launch

open Cert.KernelIdeal Cert.KernelIdeal.Gen
open Cert.Proof.Setup Cert.Proof.Tiles Cert.Proof.Region

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe
open Idealize.ShloMosaic.Pipeline (Dat)

variable {F : FTy → Type} [FloatOps F]

local notation "𝕄" => MM F

variable (m : (ℓ : Loc nD τ sig) → Buf (Elt F) ℓ) (ρ : Dev nD → PrngReg) (hok : Ok m)

/-! ## The TensorCore's arrays along its text -/

/-- At the launch; after the call of the SparseCores; after the two reshapes. -/
def V0 (d : Dev nD) : Valuation τ sig (Elt F) := fun b => m (d, b)
def V1 (d : Dev nD) : Valuation τ sig (Elt F) := Function.update (V0 m d) (Proc.devRef .tc main_v0) (scOut m hok d)
abbrev opLb : HloOp τ sig (Elt F) := StableHlo.reshape main_arg2 main_v1 (rfl : (.i32 : EltTy) = .i32) shapeCasts_S1024_S1024x1
abbrev opSc : HloOp τ sig (Elt F) := StableHlo.reshape main_v0 main_v2 (rfl : (.f32 : EltTy) = .f32) shapeCasts_S1024_S1024x1
def V2 (d : Dev nD) : Valuation τ sig (Elt F) := opSc.result (opLb.result (V1 m hok d))
/-- At the end. -/
def V3 (d : Dev nD) : Valuation τ sig (Elt F) := Pipeline.afterRegion (dats (V2 m hok) 0 d) (V2 m hok d)

/-- The program's result. -/
def result (d : Dev nD) : Buf (Elt F) ((d : Thread nD τ).loc main_v3) := (dats (V2 m hok) 0 d).arrAt 3 cfg1.N

theorem V1_v0 (d : Dev nD) : V1 m hok d (Proc.devRef .tc main_v0) = scOut m hok d := Function.update_self _ _ _
theorem V1_ne (d : Dev nD) (b : Ref sig .tc) (h : b ≠ main_v0) : V1 m hok d (Proc.devRef .tc b) = m ((d : Thread nD τ).loc b) :=
  Function.update_of_ne (StableHlo.devRef_ne_of_ne h) _ _
theorem V2_ne (d : Dev nD) (b : Ref sig .tc) (h : b ≠ main_v0) (h1 : b ≠ main_v1) (h2 : b ≠ main_v2) :
    V2 m hok d (Proc.devRef .tc b) = m ((d : Thread nD τ).loc b) :=
  (StableHlo.reshape_result_ne _ _ _ _ _ _ _ h2).trans ((StableHlo.reshape_result_ne _ _ _ _ _ _ _ h1).trans (V1_ne m hok d b h))
theorem V3_ne (d : Dev nD) (b : Ref sig .tc) (h : b ≠ main_v0) (h1 : b ≠ main_v1) (h2 : b ≠ main_v2) (h3 : ∀ w, Pipeline.arrRef spec1 w = b → (spec1 w).isOut = false) :
    V3 m hok d (Proc.devRef .tc b) = m ((d : Thread nD τ).loc b) :=
  (Pipeline.afterRegion_keeps (dats (V2 m hok) 0 d) (V2 m hok d) launch1.win.arr_inj (fun _ => rfl) b h3).trans (V2_ne m hok d b h h1 h2)
theorem V3_v3 (d : Dev nD) : V3 m hok d (Proc.devRef .tc main_v3) = result m hok d :=
  Pipeline.afterRegion_arr (dats (V2 m hok) 0 d) (V2 m hok d) launch1.win.arr_inj 3

/-- The unscoped buffers, one by one. -/
theorem bufs_eq (d : Dev nD) (W : Valuation τ sig (Elt F)) :
    (StableHlo.held (d : Thread nD τ) (Pipeline.ucRefs τ sig) W : sProp 𝕄)
      = iprop(((d : Thread nD τ).loc main_arg0 ↦{fullShare} W main_arg0) ∗ ((d : Thread nD τ).loc main_arg1 ↦{fullShare} W main_arg1)
        ∗ ((d : Thread nD τ).loc main_arg2 ↦{fullShare} W main_arg2) ∗ ((d : Thread nD τ).loc main_v0 ↦{fullShare} W main_v0)
        ∗ ((d : Thread nD τ).loc main_v1 ↦{fullShare} W main_v1) ∗ ((d : Thread nD τ).loc main_v2 ↦{fullShare} W main_v2)
        ∗ (d : Thread nD τ).loc main_v3 ↦{fullShare} W main_v3) := by
  rw [← Pipeline.unscopedBufs_held]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## What the launch deals -/

/-- The handshakes' cells, the pipeline's cells, no copy's counter yet. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipeline's share of it on a device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem ownU_split (a : UH) (b : UR sig nD τ) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UR sig nD τ × Counters))))

theorem x_emp : (bigSep Finset.univ fun thr : Thread nD τ => bigSep Finset.univ fun q : Fin 1 => (P m hok).x q thr) = (iprop(emp) : sProp 𝕄) :=
  (bigSep_congr fun thr _ => bigSep_emp_const _).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m hok).x q thr) := by
  unfold u₀
  rw [x_emp]
  iintro Hu
  ihave H := (ownU_split _ _) $$ Hu
  icases H with ⟨HH, HK⟩
  imod (Pipeline.fund_ghost (Pipeline.pin (pcfgs (F := F)) adm) EP cellOf_inj) $$ HK with ⟨Hg, Ht⟩
  imodintro
  isplitl [HH]; · iexact HH
  isplitl; swap; · iempintro
  unfold G
  rw [bigSep_sep']
  isplitl [Hg]
  · iapply (Entails.of_eq (bigSep_congr fun d _ =>
      bigSep_univ_of_subsingleton (Φ := fun p : Fin 1 => (Pipeline.cellsGhost (Pipeline.pin (pcfgs (F := F)) adm) EP p d : sProp 𝕄)) (0 : Fin 1)))
    iexact Hg
  · iapply (Entails.of_eq (bigSep_congr fun d _ =>
      bigSep_univ_of_subsingleton (Φ := fun p : Fin 1 => (Pipeline.toksInit (Pipeline.pin (pcfgs (F := F)) adm) EP p d : sProp 𝕄)) (0 : Fin 1)))
    iexact Ht

/-! ## The TensorCore's text -/

/-- What is read off the end: the arguments as they were, the result. -/
abbrev FIN (d : Dev nD) : sProp 𝕄 :=
  iprop(((d : Thread nD τ).loc main_arg0 ↦{fullShare} m ((d : Thread nD τ).loc main_arg0)) ∗ ((d : Thread nD τ).loc main_arg1 ↦{fullShare} m ((d : Thread nD τ).loc main_arg1))
    ∗ ((d : Thread nD τ).loc main_arg2 ↦{fullShare} m ((d : Thread nD τ).loc main_arg2)) ∗ ((d : Thread nD τ).loc main_v3 ↦{fullShare} result m hok d))

theorem opLb_sub : (opLb (F := F)).bufs ⊆ Pipeline.ucRefs τ sig := Pipeline.sub_ucRefs _ (StableHlo.reshape_bufs_sub _ _ _ _ _ _)
theorem opSc_sub : (opSc (F := F)).bufs ⊆ Pipeline.ucRefs τ sig := Pipeline.sub_ucRefs _ (StableHlo.reshape_bufs_sub _ _ _ _ _ _)

theorem hmain [∀ e, Nonempty (Elt F e)] (κ : GSem nD τ sig → ℕ) (d : Dev nD) :
    iprop((K (F := F)).ctx EH (P m hok) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m hok d ∗ (K (F := F)).tcEnd d) := by
  unfold SparseCore.Cfg.tcRes SparseCore.Cfg.tcEnd
  rw [show (unscopedBufs d (fun b => m ((SparseCore.T d).loc b)) : sProp 𝕄) = _ from Pipeline.unscopedBufs_held d (V0 m d), bufs_eq]
  simp only [main, wp_bind, wp_pure]
  iintro ⟨#Hctx, Hst, ⟨Hb, ⟨H0, H1, H2, Hv0, Hv1, Hv2, Hv3⟩, Hts, -⟩, Hg, Ht⟩
  iapply ((K (F := F)).wp_run (D (F := F)) 𝒱 (EH := EH) (P := P m hok) κ d 0) $$ [Hst H0 H1 H2 Hv0 Hv1 Hv2 Hv3 Hb Hts Hg Ht]
  isplitr; · iexact Hctx
  isplitl [Hst]; · iexact Hst
  isplitl [H0 H2 Hv0]
  · rw [st_eq]
    isplitl [H0]; · iexact H0
    isplitl [H2]; · iexact H2
    iexact Hv0
  iintro ⟨Hst, Hdn⟩
  ihave Hdn' := (Entails.of_eq (dn_eq m hok d)) $$ Hdn
  icases Hdn' with ⟨H0, H2, Hv0⟩
  ihave Hh := (Entails.of_eq (bufs_eq d (V1 m hok d)).symm) $$ [H0 H1 H2 Hv0 Hv1 Hv2 Hv3]
  · rw [V1_v0, V1_ne m hok d main_arg0 (by decide), V1_ne m hok d main_arg1 (by decide), V1_ne m hok d main_arg2 (by decide),
      V1_ne m hok d main_v1 (by decide), V1_ne m hok d main_v2 (by decide), V1_ne m hok d main_v3 (by decide)]
    isplitl [H0]; · iexact H0
    isplitl [H1]; · iexact H1
    isplitl [H2]; · iexact H2
    isplitl [Hv0]; · iexact Hv0
    isplitl [Hv1]; · iexact Hv1
    isplitl [Hv2]; · iexact Hv2
    iexact Hv3
  iapply (StableHlo.wp_hlo_within 𝒱 (SparseCore.T d) none Set.univ (op := opLb) opLb_sub) $$ [Hb Hh]
  · isplitl [Hb]; · iexact Hb
    iexact Hh
  iintro ⟨Hb, Hh⟩
  rw [wp_ret]; imodintro
  iapply (StableHlo.wp_hlo_within 𝒱 (SparseCore.T d) none Set.univ (op := opSc) opSc_sub) $$ [Hb Hh]
  · isplitl [Hb]; · iexact Hb
    iexact Hh
  iintro ⟨Hb, Hh⟩
  rw [wp_ret]; imodintro
  unfold SparseCore.Cfg.tcSt
  icases Hst with ⟨⟨%W, %hW, HO⟩, Hst⟩
  ihave Hlv := (SparseCore.Cfg.ctx_levAts κ) $$ Hctx
  iapply (region_wp (V2 m hok) d) $$ [Hb Hh HO Hlv Hg Ht]
  · isplitl [Hb]; · iexact Hb
    isplitl [Hh]; · iexact Hh
    isplitl [HO]
    · iexists W
      iapply (Entails.of_eq (congrArg (fun O => owes (SparseCore.T d) O W) ((K (F := F)).Otc_end d (Nat.le_refl 1)))); iexact HO
    isplitl [Hlv]; · iexact Hlv
    isplitl [Hg]; · iexact Hg
    iexact Ht
  iintro ⟨Hb, Hh, ⟨%Wd, HO⟩⟩
  ihave Hh' := (Entails.of_eq (bufs_eq d (V3 m hok d))) $$ [Hh]
  · iexact Hh
  icases Hh' with ⟨H0, H1, H2, -, -, -, Hv3⟩
  imodintro
  isplitl [HO Hst]
  · isplitl [HO]
    · iexists Wd
      isplitr
      · ipureintro
        intro p _
        rcases p with ⟨s, _ | q⟩
        · exact Nat.zero_le _
        · exact ((K (F := F)).lev_some_le _ q).trans (by have := q.isLt; show 8 * q.val + 7 ≤ 8 * 1; omega)
      · iapply (Entails.of_eq (congrArg (fun O => owes (SparseCore.T d) O Wd) ((K (F := F)).Otc_end d (Nat.le_refl 1)).symm)); iexact HO
    iexact Hst
  isplitr [Hb Hts]
  · rw [V3_v3, V3_ne m hok d main_arg0 (by decide) (by decide) (by decide) (by decide), V3_ne m hok d main_arg1 (by decide) (by decide) (by decide) (by decide),
      V3_ne m hok d main_arg2 (by decide) (by decide) (by decide) (by decide)]
    isplitl [H0]; · iexact H0
    isplitl [H1]; · iexact H1
    isplitl [H2]; · iexact H2
    iexact Hv3
  isplitl [Hb]; · iexact Hb
  iexact Hts

/-! ## The end -/

/-- What holds at the end on a device. -/
def fq (d : Dev nD) (s' : Phys nD τ sig (Elt F)) : Prop :=
  s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_arg2) = m ((d : Thread nD τ).loc main_arg2) ∧ s'.mem.mem ((d : Thread nD τ).loc main_v3) = result m hok d

/-- A whole buffer held reads off the memory; the hold is kept. -/
theorem read_off (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  iexact HSI

theorem hfin (d : Dev nD) (s' : Phys nD τ sig (Elt F)) : iprop(FIN m hok d ∗ SI s') ⊢ (⌜fq m hok d s'⌝ : sProp 𝕄) := by
  iintro ⟨⟨H0, H1, H2, H3⟩, HSI⟩
  ihave H := (read_off s' _ _) $$ [H0 HSI]
  · isplitl [H0] <;> iassumption
  icases H with ⟨%h0, HSI⟩
  ihave H := (read_off s' _ _) $$ [H1 HSI]
  · isplitl [H1] <;> iassumption
  icases H with ⟨%h1, HSI⟩
  ihave H := (read_off s' _ _) $$ [H2 HSI]
  · isplitl [H2] <;> iassumption
  icases H with ⟨%h2, HSI⟩
  ihave H := (read_off s' _ _) $$ [H3 HSI]
  · isplitl [H3] <;> iassumption
  icases H with ⟨%h3, -⟩
  ipureintro; exact ⟨h0, h1, h2, h3⟩

/-- The arguments as they were, the result as computed, every counter at zero. -/
def QC : PUnit × MemSt nD τ sig (Elt F) → Prop := fun r =>
  (∀ c : Dev nD, r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_v3) = result m hok c) ∧ r.2.sem = fun _ => 0

/-- The program's run, for labels the tiles can fetch by. -/
theorem run_main [∀ e, Nonempty (Elt F e)] :
    θ_run (Cert.KernelIdeal.defs (F := F)) (Cert.KernelIdeal.threads (F := F)) ⟨m, fun _ => 0, ρ⟩ (QC m hok) :=
  SparseCore.Cfg.θ_run_sc_quiescent (K := K (F := F)) (D := D (F := F)) (𝒱 := 𝒱) (EH := EH) (P := P m hok) (A := ∅) facts v₀
    (fun q hq => match q with | 0 => nomatch hq)
    (fun q _ => match q with | 0 => tileObl m hok)
    (fun q _ => match q with | 0 => SparseCore.Cfg.VecSplit.of_plain (vecSplit m hok))
    m ρ main G (FIN m hok) (u₀ (F := F)) (sep_elim_left.trans (hu₀ m hok)) (hmain m ρ hok) (fq m hok) (hfin m hok) (QC m hok) (fun _ h hz => ⟨h, hz⟩)

end Cert.Proof.Launch

end
-- ==== Proof.Range.lean ====
/-
  Labels in range. From a label of [−1, 100000): the label the tile fetches by, the chunk it names, and that the chunk
  lies inside the logits. And what the two preconditions say of the arrays.
-/
module

public import proofs.«01_k».proof.Proof.Tiles
public import proofs.«01_k».proof.Proof.Gen.Pre_label_range
public import proofs.«01_k».proof.Proof.Gen.Pre_cosines
public import Idealize.ShloMosaic.Lib.ReduceAll
public import Idealize.ShloMosaic.Lib.Affine

@[expose] public section

noncomputable section

namespace Cert.Proof.Range

open Cert.KernelIdeal Cert.KernelIdeal.Gen
open Cert.Proof.Walk Cert.Proof.Setup Cert.Proof.TileBody Cert.Proof.Tiles
open Idealize.ShloMosaic Idealize.SL.Sem

variable {F : FTy → Type} [FloatOps F]

/-- A word is a label: −1, or a column. -/
def Label (v : BitVec 32) : Prop := -1 ≤ v.toInt ∧ v.toInt < 100000

/-- The label that is fetched by: 0 in place of −1. -/
def safe (v : BitVec 32) : BitVec 32 := Scalar.select (Scalar.cmpi .ne v 4294967295#32) v 0#32

theorem safe_isInt (v : BitVec 32) (h : Label v) : ∃ n : Nat, n < 100000 ∧ Affine.IsInt (safe v) n ∧ (v ≠ 4294967295#32 → v.toInt = n) := by
  unfold safe
  by_cases hv : v = 4294967295#32
  · subst hv
    exact ⟨0, by omega, Affine.ofNat 0 ⟨rfl, by omega⟩, fun h => absurd rfl h⟩
  · have hne : v.toInt ≠ -1 := fun he => hv (BitVec.eq_of_toInt_eq (he.trans (by decide)))
    have h0 : 0 ≤ v.toInt := by have := h.1; omega
    refine ⟨v.toInt.toNat, by have := h.2; omega, ?_, fun _ => (Int.toNat_of_nonneg h0).symm⟩
    exact Affine.select_holds (Affine.ne_holds (Affine.word v) (Affine.ofNat_neg 4294967295 (e := -1) (by omega)) hne) (Affine.word v)
      (Affine.ofNat 0 (e := 0) ⟨rfl, by omega⟩) (Int.toNat_of_nonneg h0)

/-- The chunk's first column. -/
theorem mult2_isInt (v : BitVec 32) (n : Nat) (hn : n < 100000) (hs : Affine.IsInt (safe v) n) :
    Affine.IsInt (k0_mult2 v) (min ((n : Int) / 128 * 128) 99840) := by
  have z : Affine.IsInt (0#32) 0 := Affine.ofNat 0 (by omega)
  have c : Affine.IsInt (128#32) 128 := Affine.ofNat 128 (by omega)
  have o : Affine.IsInt (1#32) 1 := Affine.ofNat 1 (by omega)
  have h14 : Affine.IsInt (Scalar.extui (Scalar.cmpi .slt (safe v) 0#32)) 0 := Affine.extui_fails (Affine.slt_fails hs z (by omega)) rfl
  have h20 : Affine.IsInt (Scalar.subi (Scalar.extui (Scalar.cmpi .sgt 128#32 0#32)) (Scalar.extui (Scalar.cmpi .slt 128#32 0#32))) 1 :=
    Affine.subi (Affine.extui_holds (Affine.sgt_holds c z (by omega)) rfl) (Affine.extui_fails (Affine.slt_fails c z (by omega)) rfl) (by omega)
  have h22 : Affine.IsInt (Scalar.remsi (safe v) 128#32) ((n : Int) % 128) := Affine.remsi hs c (by omega)
  have h10 : Affine.IsInt (Scalar.divsi (safe v) 128#32) ((n : Int) / 128) := Affine.divsi hs c (by omega)
  have h24 : Affine.Fails (Scalar.andi (Scalar.cmpi .ne (Scalar.subi (Scalar.extui (Scalar.cmpi .sgt (safe v) 0#32)) (Scalar.extui (Scalar.cmpi .slt (safe v) 0#32)))
      (Scalar.subi (Scalar.extui (Scalar.cmpi .sgt 128#32 0#32)) (Scalar.extui (Scalar.cmpi .slt 128#32 0#32))))
      (Scalar.cmpi .ne (Scalar.remsi (safe v) 128#32) 0#32)) := by
    by_cases hp : n = 0
    · exact Affine.andi_fails_right trivial (Affine.ne_fails h22 z (by omega))
    · exact Affine.andi_fails_left (Affine.ne_fails (Affine.subi (e := 1) (Affine.extui_holds (Affine.sgt_holds hs z (by omega)) rfl) h14 (by omega)) h20 rfl) trivial
  obtain ⟨e, h25⟩ := Affine.subi_wrap h10 o
  have h26 := Affine.select_fails h24 h25.1 h10 rfl
  exact Affine.minsi (Affine.muli h26 c (e := (n : Int) / 128 * 128) (by omega)) (Affine.ofNat 99840 (e := 99840) (by omega)) rfl

/-- The chunk lies inside the logits. -/
theorem chk_of_label (i : grid0.Coords) (r : Nat) (hr : r < 32) (v : BitVec 32) (h : Label v) : chk i r v := by
  obtain ⟨n, hn, hs, -⟩ := safe_isInt v h
  have hm := mult2_isInt v n hn hs
  have hm' : ((k0_mult2 v).toNat : Int) = _ := Affine.toNat_of hm (by omega)
  refine (chk_iff i r v).mpr ⟨Affine.dvd_of hm 128 (by omega), fun a => ?_⟩
  have h1 : (i 1).val < 16 := (i 1).isLt
  have h0 : (i 0).val < 2 := (i 0).isLt
  fin_cases a
  · show (Scalar.addi (baseW i) (BitVec.ofNat 32 (r / 8 * 8))).toNat + 8 ≤ 1024
    have hb : Affine.IsInt (baseW i) ((((i 1).val : Int) * 2 + (i 0).val) * 32) :=
      Affine.muli (Affine.addi (Affine.muli (Affine.ofNat (i 1).val ⟨rfl, by omega⟩) (Affine.ofNat 2 ⟨rfl, by omega⟩) ⟨rfl, by omega, by omega⟩)
        (Affine.ofNat (i 0).val ⟨rfl, by omega⟩) ⟨rfl, by omega, by omega⟩) (Affine.ofNat 32 ⟨rfl, by omega⟩) ⟨rfl, by omega, by omega⟩
    have ha := Affine.toNat_of (Affine.addi hb (Affine.ofNat (r / 8 * 8) ⟨rfl, by omega⟩) ⟨rfl, by omega, by omega⟩) (by omega)
    omega
  · show (k0_mult2 v).toNat + 128 ≤ 100000
    omega

/-- For labels, every tile can fetch. -/
theorem ok_of_labels (m : (ℓ : Loc nD τ sig) → Buf (Elt F) ℓ) (h : ∀ (d : Dev nD) (n : S1024.Idx), Label (m (lbLoc d) n)) : Ok m := by
  intro d w r hr
  refine chk_of_label _ r hr _ ?_
  unfold word
  rw [dif_pos hr]
  exact h d _

/-! ## The preconditions read back -/

instance : Subsingleton Cert.Pre_label_range.S_.Idx := ⟨fun _ _ => funext fun a => a.elim0⟩
instance : Subsingleton Cert.Pre_cosines.S_.Idx := ⟨fun _ _ => funext fun a => a.elim0⟩

theorem label_of_words (v : BitVec 32) (h : IntOp.andi (IntOp.cmpi .sge v 4294967295#32) (IntOp.cmpi .slt v 100000#32) = 1#1) : Label v := by
  obtain ⟨h0, h1⟩ := IntOp.andi_eq_one.1 h
  exact ⟨IntOp.cmpi_sge.1 h0, IntOp.cmpi_slt.1 h1⟩

theorem labels_of_range (x : FVec F S1024x100000 .f32) (s : FVec F S1024x1 .f32) (l : IVec S1024 32)
    (h : Cert.Pre_label_range.fn (F := F) x s l = fun _ => 1#1) (n : S1024.Idx) : Label (l n) :=
  label_of_words _ (Host.reduce_andi_all _ _ _ _ _ (congrFun h (fun a => a.elim0)) n)

theorem labels_of_cosines (x : FVec F S1024x100000 .f32) (s : FVec F S1024x1 .f32) (l : IVec S1024 32)
    (h : Cert.Pre_cosines.fn (F := F) x s l = fun _ => 1#1) (n : S1024.Idx) : Label (l n) :=
  label_of_words _ (Host.reduce_andi_all _ _ _ _ _ (IntOp.andi_eq_one.1 (congrFun h (fun a => a.elim0))).1 n)

/-- The logits are compared at most 1. -/
theorem le_of_cosines (x : FVec F S1024x100000 .f32) (s : FVec F S1024x1 .f32) (l : IVec S1024 32)
    (h : Cert.Pre_cosines.fn (F := F) x s l = fun _ => 1#1) (n : S1024x100000.Idx) :
    FloatOps.cmpf .ole (x n) (Scalar.ofBits .f32 0x3F800000#32) = 1#1 :=
  Host.reduce_andi_all _ _ _ _ _ (IntOp.andi_eq_one.1 (congrFun h (fun a => a.elim0))).2 n

end Cert.Proof.Range

end
-- ==== Proof.Frames.lean ====
/-
  The frames: each program runs, leaves its arguments, and ends with every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Range
public import Idealize.ShloMosaic.Lib.Tactic

@[expose] public section

noncomputable section

namespace Cert.Proof.Frames

open Idealize.ShloMosaic Idealize.SL.Sem
open Cert.Proof.Tiles Cert.Proof.Range Cert.Proof.Launch

/-- The kernel's frame where its labels are labels, at any reading of the floats. -/
theorem frame_of_labels {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ (d : Dev Cert.KernelIdeal.nD) (n : Cert.KernelIdeal.S1024.Idx), Label (m (Cert.Proof.Setup.lbLoc d) n)) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ q => ⟨fun c => ⟨(q.1 c).1, (q.1 c).2.1, (q.1 c).2.2.1⟩, q.2⟩)
    (run_main m ρ (ok_of_labels m h))

theorem frame_ideal : Cert.quiescent_KernelIdeal := fun m ρ hp =>
  frame_of_labels m ρ fun d => labels_of_range _ _ _ (hp d)

theorem frame_ideal_cosines : Cert.quiescent_KernelIdeal_pre_cosines := fun m ρ hp =>
  frame_of_labels m ρ fun d => labels_of_cosines _ _ _ (hp d)

/-- The idealized program is the printed one's own text. -/
theorem defs_eq {F : FTy → Type} [FloatOps F] : Cert.Kernel.defs (F := F) = Cert.KernelIdeal.defs := by sl_kernel_rfl
theorem threads_eq {F : FTy → Type} [FloatOps F] : Cert.Kernel.threads (F := F) = Cert.KernelIdeal.threads := by sl_kernel_rfl

/-- So its run at the machine's floats is the printed program's. -/
theorem frame_kernel : Cert.quiescent_Kernel := by
  intro m ρ hp
  rw [defs_eq, threads_eq]
  exact frame_of_labels (F := Bits) m ρ fun d => labels_of_range _ _ _ (hp d)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_cosines : Cert.quiescent_ReferenceIdeal_pre_cosines := fun m ρ _ => frame_reference m ρ trivial

end Cert.Proof.Frames

end
-- ==== Proof.RefIndex.lean ====
/-
  The reference's gather and its scatter. Each takes a table of 1024 pairs of words, a row and a column; for labels in
  range the pair of row `r` is `r` and its label, or `r` and 0 where the label is −1. So the gather reads, and the scatter
  writes, one element of each row.
-/
module

public import proofs.«01_k».proof.Proof.Range
public import proofs.«01_k».proof.Proof.Gen.ReferenceIdeal
public import Idealize.ShloMosaic.Lib.Routing.OpsSet
public import Idealize.ShloMosaic.Lib.Routing.OpsPair
public import Idealize.ShloMosaic.Lib.Pipeline.Value
public import Idealize.ShloMosaic.Lib.ValueIdxCore

@[expose] public section

noncomputable section

namespace Cert.Proof.RefIndex

open Cert.ReferenceIdeal Cert.ReferenceIdeal.Gen
open Cert.Proof.Range (Label safe safe_isInt)
open Idealize.ShloMosaic Idealize.SL.Sem
open Idealize.ShloMosaic.ValueIdx (ix1 ix2)

/-- A vector of 1024 with one value throughout. -/
abbrev splat {α : Type} (x : S_.Idx → α) : S1024.Idx → α := broadcastInDim S1024 ![] bcast_S_S1024 x

/-- The labels that are fetched by: 0 in place of −1. -/
def safes (l : IVec S1024 32) : IVec S1024 32 :=
  select (cmpi .ne l (splat (constantI S_ 32 4294967295#32))) l (splat (id (constantI S_ 32 0#32)))

/-- Indices counted from the end of an axis of `n` turned into indices from its start. -/
def wrap (v : IVec S1024 32) (n : BitVec 32) : IVec S1024 32 :=
  select (cmpi .slt v (splat (constantI S_ 32 0#32))) (addi v (splat (constantI S_ 32 n))) v

/-- The table of pairs. -/
def pairs (l : IVec S1024 32) : IVec S1024x2 32 :=
  concatenate S1024x2 1 [⟨S1024x1, broadcastInDim S1024x1 ![0] bcast_S1024_S1024x1_0 (wrap (iotaInDim S1024 32 0) 1024#32)⟩,
    ⟨S1024x1, broadcastInDim S1024x1 ![0] bcast_S1024_S1024x1_0 (wrap (safes l) 100000#32)⟩] concatenates_S1024x1_S1024x1_S1024x2_d1

/-- Word `q` of the pair of row `k`. -/
abbrev cell (k : S1024.Idx) (q : Fin 2) : S1024x2.Idx := ix2 (⟨(k 0).val, (k 0).isLt⟩ : Fin 1024) q

theorem toInt_of_isInt {x : BitVec 32} {e : Int} (h : Affine.IsInt x e) : x.toInt = e := by
  unfold Affine.IsInt at h
  exact h

theorem safes_apply (l : IVec S1024 32) (k : S1024.Idx) : safes l k = safe (l k) := rfl

theorem wrap_nat (v : IVec S1024 32) (n : BitVec 32) (k : S1024.Idx) (a : Nat) (ha : a < 100000) (hv : Affine.IsInt (v k) a) : wrap v n k = v k := by
  show Scalar.select (IntOp.cmpi .slt (v k) 0#32) (IntOp.addi (v k) n) (v k) = v k
  refine Routing.wrap_of_lt _ _ ?_
  have := Affine.toNat_of hv (by omega)
  omega

theorem column_apply (v : IVec S1024 32) (k : S1024.Idx) :
    broadcastInDim S1024x1 ![0] bcast_S1024_S1024x1_0 v (ix2 (⟨(k 0).val, (k 0).isLt⟩ : Fin 1024) (0 : Fin 1)) = v k := by
  show v _ = v k
  congr 1
  funext a
  apply Fin.ext
  fin_cases a
  rfl

theorem pairs_row (l : IVec S1024 32) (k : S1024.Idx) : pairs l (cell k 0) = BitVec.ofNat 32 (k 0).val := by
  have hk : (k 0).val < 1024 := (k 0).isLt
  unfold pairs
  refine (concatenate_pair_apply_left (t := S1024x2) (s₁ := S1024x1) (s₂ := S1024x1) 1 _ _ _ _ rfl
    (ix2 (⟨(k 0).val, (k 0).isLt⟩ : Fin 1024) (0 : Fin 1)) (by intro b; fin_cases b <;> rfl)).trans ?_
  rw [column_apply, wrap_nat _ _ _ (k 0).val (by omega) (Affine.ofNat (k 0).val ⟨rfl, by omega⟩)]
  rfl

theorem pairs_col (l : IVec S1024 32) (k : S1024.Idx) (h : Label (l k)) : pairs l (cell k 1) = safe (l k) := by
  obtain ⟨n, hn, hs, -⟩ := safe_isInt _ h
  unfold pairs
  refine (concatenate_pair_apply_right (t := S1024x2) (s₁ := S1024x1) (s₂ := S1024x1) 1 _ _ _ _ rfl rfl
    (ix2 (⟨(k 0).val, (k 0).isLt⟩ : Fin 1024) (0 : Fin 1)) (by intro b hb; fin_cases b <;> first | rfl | exact absurd rfl hb) rfl).trans ?_
  rw [column_apply, wrap_nat _ _ _ n hn (by rw [safes_apply]; exact hs), safes_apply]

/-! ## Where an update lands -/

theorem start_eq (k : S1024.Idx) (t : IVec S1024x2 32) (q : Fin 2) :
    scatter_S1024x100000_S1024x2_S1024_n_01_01_1.start k t q = (t (cell k q)).toInt := by
  have hm : q ∈ scatter_S1024x100000_S1024x2_S1024_n_01_01_1.scatterDimsToOperandDims := by
    show q ∈ [(0 : Fin 2), 1]
    fin_cases q <;> simp
  have hsi : scatter_S1024x100000_S1024x2_S1024_n_01_01_1.siIdx k
      ⟨List.idxOf q scatter_S1024x100000_S1024x2_S1024_n_01_01_1.scatterDimsToOperandDims, List.idxOf_lt_length_iff.2 hm⟩ = cell k q := by
    funext b
    apply Fin.ext
    match b with
    | ⟨0, _⟩ => rfl
    | ⟨1, _⟩ => fin_cases q <;> rfl
  unfold ScatterDims.start
  rw [dif_pos hm, hsi]

theorem window_eq (k : S1024.Idx) (q : Fin 2) : scatter_S1024x100000_S1024x2_S1024_n_01_01_1.window k q = 0 := by
  unfold ScatterDims.window
  rw [dif_neg fun h => (of_decide_eq_true (List.mem_filter.1 h).2) (by show q ∈ [(0 : Fin 2), 1]; fin_cases q <;> simp)]

/-- Row `k`'s update lands at `j` when `j` lies in row `k`, at the row's label. -/
theorem lands (l : IVec S1024 32) (k : S1024.Idx) (h : Label (l k)) (j : S1024x100000.Idx) :
    scatter_S1024x100000_S1024x2_S1024_n_01_01_1.resultIdx? k (pairs l) = some j ↔ (k 0).val = (j 0).val ∧ (safe (l k)).toInt = ((j 1).val : Int) := by
  have hk : (k 0).val < 1024 := (k 0).isLt
  have e0 : (BitVec.ofNat 32 (k 0).val).toInt = ((k 0).val : Int) := toInt_of_isInt (Affine.ofNat (k 0).val (e := ((k 0).val : Int)) ⟨rfl, by omega⟩)
  rw [Routing.resultIdx?_eq_some]
  constructor
  · intro e
    have h0 := e 0
    have h1 := e 1
    rw [start_eq, window_eq, pairs_row, e0] at h0
    rw [start_eq, window_eq, pairs_col l k h] at h1
    constructor <;> omega
  · intro ⟨h0, h1⟩ a
    match a with
    | ⟨0, _⟩ =>
      show scatter_S1024x100000_S1024x2_S1024_n_01_01_1.start k (pairs l) (0 : Fin 2) + (scatter_S1024x100000_S1024x2_S1024_n_01_01_1.window k (0 : Fin 2) : Int) = ((j 0).val : Int)
      rw [start_eq, window_eq, pairs_row, e0]
      omega
    | ⟨1, _⟩ =>
      show scatter_S1024x100000_S1024x2_S1024_n_01_01_1.start k (pairs l) (1 : Fin 2) + (scatter_S1024x100000_S1024x2_S1024_n_01_01_1.window k (1 : Fin 2) : Int) = ((j 1).val : Int)
      rw [start_eq, window_eq, pairs_col l k h]
      omega

/-! ## What the gather reads -/

theorem gather_start (k : S1024.Idx) (t : IVec S1024x2 32) (q : Fin 2) :
    gather_S1024x100000_S1024x2_S1024_n_01_n_n_01_1_11.start k t q = min (t (cell k q)).toInt.toNat (S1024x100000.size q - 1) := by
  have hm : q ∈ gather_S1024x100000_S1024x2_S1024_n_01_n_n_01_1_11.startIndexMap := by
    show q ∈ [(0 : Fin 2), 1]
    fin_cases q <;> simp
  have hsi : gather_S1024x100000_S1024x2_S1024_n_01_n_n_01_1_11.siIdx k
      ⟨List.idxOf q gather_S1024x100000_S1024x2_S1024_n_01_n_n_01_1_11.startIndexMap, List.idxOf_lt_length_iff.2 hm⟩ = cell k q := by
    funext b
    apply Fin.ext
    match b with
    | ⟨0, _⟩ => rfl
    | ⟨1, _⟩ => fin_cases q <;> rfl
  unfold GatherDims.start
  rw [dif_pos hm, hsi]
  fin_cases q <;> rfl

/-- Row `k`'s element is the one its pair names. -/
theorem gather_apply {α : Type} (x : S1024x100000.Idx → α) (l : IVec S1024 32) (k : S1024.Idx) (h : Label (l k)) (j : S1024x100000.Idx)
    (h0 : (k 0).val = (j 0).val) (h1 : (safe (l k)).toInt = ((j 1).val : Int)) :
    Host.gather gather_S1024x100000_S1024x2_S1024_n_01_n_n_01_1_11 x (pairs l) k = x j := by
  have hk : (k 0).val < 1024 := (k 0).isLt
  have hj : (j 1).val < 100000 := (j 1).isLt
  have e0 : (BitVec.ofNat 32 (k 0).val).toInt = ((k 0).val : Int) := toInt_of_isInt (Affine.ofNat (k 0).val (e := ((k 0).val : Int)) ⟨rfl, by omega⟩)
  have key : ∀ q : Fin 2, gather_S1024x100000_S1024x2_S1024_n_01_n_n_01_1_11.start k (pairs l) q
      + gather_S1024x100000_S1024x2_S1024_n_01_n_n_01_1_11.batchCoord k q + gather_S1024x100000_S1024x2_S1024_n_01_n_n_01_1_11.offCoord k q
        = min (pairs l (cell k q)).toInt.toNat (S1024x100000.size q - 1) := by
    intro q
    rw [GatherDims.batchCoord_eq_zero _ _ _ List.not_mem_nil,
      GatherDims.offCoord_eq_zero _ _ _ (fun e => ((GatherDims.mem_sKept _ _).mp e).1 (by show q ∈ [(0 : Fin 2), 1]; fin_cases q <;> simp)), gather_start]
    rfl
  unfold Host.gather
  congr 1
  funext a
  refine Fin.ext ?_
  refine (key a).trans ?_
  match a with
  | ⟨0, _⟩ =>
    show min (pairs l (cell k 0)).toInt.toNat (1024 - 1) = (j 0).val
    rw [pairs_row, e0]
    omega
  | ⟨1, _⟩ =>
    show min (pairs l (cell k 1)).toInt.toNat (100000 - 1) = (j 1).val
    rw [pairs_col l k h, h1]
    omega

end Cert.Proof.RefIndex

end
-- ==== Proof.Pick.lean ====
/-
  Which logit a tile picks for a row: the group and the lane that an offset names, the rows of a half one by one, and
  the offset of a label in its chunk.
-/
module

public import proofs.«01_k».proof.Proof.Range

@[expose] public section

noncomputable section

namespace Cert.Proof.Pick

open Cert.KernelIdeal Cert.KernelIdeal.Gen
open Cert.Proof.Walk Cert.Proof.Setup Cert.Proof.TileSteps Cert.Proof.TileMem Cert.Proof.TileBody Cert.Proof.Range
open Idealize.ShloMosaic Idealize.SL.Sem

variable {F : FTy → Type} [FloatOps F]

variable (d : Dev nD) (i : grid0.Coords)

/-- A choice by the equality of two small numbers. -/
theorem select_nat {α : Type} (p q : Nat) (hp : p < 2 ^ 31) (hq : q < 2 ^ 31) (x y : α) :
    Scalar.select (Scalar.cmpi .eq (BitVec.ofNat 32 p) (BitVec.ofNat 32 q)) x y = if p = q then x else y := by
  unfold Scalar.select
  by_cases h : p = q
  · rw [if_pos h]
    exact if_pos (Affine.eq_holds (Affine.ofNat p (e := p) ⟨rfl, hp⟩) (Affine.ofNat q (e := q) ⟨rfl, hq⟩) (by omega))
  · rw [if_neg h]
    exact if_neg (Affine.eq_fails (Affine.ofNat p (e := p) ⟨rfl, hp⟩) (Affine.ofNat q (e := q) ⟨rfl, hq⟩) (by omega))

theorem lane_eq {α : Type} (v : S16.Idx → α) (k : Nat) (h : k < 16) : lane v k h = v (at1 (n := 16) k h) := by
  unfold lane
  show v _ = v _
  congr 1
  funext a
  apply Fin.ext
  fin_cases a
  show k + 0 = k
  omega

/-- The low four bits name a lane. -/
theorem pick_upto (acc : FVec F S16 .f32) (o : BitVec 32) (j : Nat) (hj : j < 16) (ho : Scalar.andi o 15#32 = BitVec.ofNat 32 j) :
    ∀ (q : Nat) (hq : q < 16), pick acc o q hq = if j ≤ q then lane acc j hj else lane acc 0 (by omega) := by
  intro q
  induction q with
  | zero =>
    intro hq
    unfold pick
    split
    · next h => obtain rfl : j = 0 := by omega
                rfl
    · rfl
  | succ q ih =>
    intro hq
    unfold pick
    rw [ho, select_nat j (q + 1) (by omega) (by omega), ih]
    by_cases h : j = q + 1
    · subst h; rw [if_pos rfl, if_pos (Nat.le_refl _)]
    · rw [if_neg h]
      by_cases h' : j ≤ q
      · rw [if_pos h', if_pos (by omega)]
      · rw [if_neg h', if_neg (by omega)]

/-- The bits above name a group. -/
theorem groups_from (f : Buf (Elt F) (chM.view.loc (thr d i))) (r : Nat) (hr : r < 32) (o : BitVec 32) (g : Nat) (hg : g < 8)
    (ho : Scalar.shrui o 4#32 = BitVec.ofNat 32 g) :
    ∀ (m p : Nat) (e : p + m = 8) (acc : FVec F S16 .f32), groupsV d i f r hr o m p e acc
      = if p ≤ g then shapeCast S16 (chM.view.readAt (Elt F) (Rect.unit (s := S8x4096) ![r % 8, 128 * r + 16 * g] S1x16.size (load_inb r g hr hg)).toLoadRect f)
          shapeCasts_S1x16_S16 else acc := by
  intro m
  induction m with
  | zero =>
    intro p e acc
    unfold groupsV
    rw [if_neg (by omega)]
  | succ m ih =>
    intro p e acc
    unfold groupsV
    rw [ih]
    unfold group
    rw [ho, select_nat g p (by omega) (by omega)]
    by_cases h : g = p
    · subst h; rw [if_neg (by omega), if_pos rfl, if_pos (Nat.le_refl _)]
    · rw [if_neg h]
      by_cases h' : p + 1 ≤ g
      · rw [if_pos h', if_pos (by omega)]
      · rw [if_neg h', if_neg (by omega)]

theorem lanes_at (k : Nat) (hk : k < 16) : lanes (at1 (n := 16) k hk) = BitVec.ofNat 32 k := by
  show BitVec.ofNat 32 (0 * 16 + k) = _
  rw [Nat.zero_mul, Nat.zero_add]

theorem put_at (n k : Nat) (hn : n < 16) (hk : k < 16) (o : BitVec 32) (x t : FVec F S16 .f32) :
    put n o x t (at1 (n := 16) k hk) = if k = n then pick x o 15 (by omega) else t (at1 (n := 16) k hk) := by
  unfold put
  show Scalar.select (Scalar.cmpi .eq (lanes (at1 (n := 16) k hk)) (BitVec.ofNat 32 n)) _ _ = _
  rw [lanes_at, select_nat k n (by omega) (by omega)]
  rfl

/-- Each row of a half fills its own lane. -/
theorem rows_from (f : Buf (Elt F) (chM.view.loc (thr d i))) (b : Nat) (hb : b ≤ 16) (o : IVec S16 32) (k : Nat) (hk : k < 16) :
    ∀ (m n : Nat) (e : n + m = 16) (t : FVec F S16 .f32), rowsV d i f b hb o m n e t (at1 (n := 16) k hk)
      = if n ≤ k then pick (groupsV d i f (b + k) (by omega) (lane o k hk) 8 0 rfl zeros) (lane o k hk) 15 (by omega)
        else t (at1 (n := 16) k hk) := by
  intro m
  induction m with
  | zero =>
    intro n e t
    unfold rowsV
    rw [if_neg (by omega)]
  | succ m ih =>
    intro n e t
    unfold rowsV
    rw [ih, put_at n k (by omega) hk]
    by_cases h : k = n
    · subst h; rw [if_neg (by omega), if_pos rfl, if_pos (Nat.le_refl _)]
    · rw [if_neg h]
      by_cases h' : n + 1 ≤ k
      · rw [if_pos h', if_pos (by omega)]
      · rw [if_neg h', if_neg (by omega)]

/-! ## The offset of a label in its chunk -/

/-- The offset of one label, as the tile computes it. -/
def offset (v : BitVec 32) : BitVec 32 :=
  let c : BitVec 32 := Scalar.shli (Scalar.shrui (safe v) 7#32) 7#32
  let c0 : BitVec 32 := Scalar.select (Scalar.cmpi .sgt c 99840#32) 99840#32 c
  let e : BitVec 32 := Scalar.subi (safe v) c0
  Scalar.select (Scalar.cmpi .sgt e 127#32) 127#32 e

theorem shr_nat (n k : Nat) (hn : n < 2 ^ 31) (hk : k < 32) : Scalar.shrui (BitVec.ofNat 32 n) (BitVec.ofNat 32 k) = BitVec.ofNat 32 (n / 2 ^ k) := by
  show (if (BitVec.ofNat 32 k).toNat < 32 then BitVec.ofNat 32 n >>> BitVec.ofNat 32 k else _) = _
  have h1 : (BitVec.ofNat 32 k).toNat = k := by rw [BitVec.toNat_ofNat]; omega
  rw [if_pos (by rw [h1]; exact hk)]
  apply BitVec.eq_of_toNat_eq
  have h2 : n / 2 ^ k ≤ n := Nat.div_le_self _ _
  rw [BitVec.ushiftRight_eq', BitVec.toNat_ushiftRight, h1, BitVec.toNat_ofNat, BitVec.toNat_ofNat, Nat.shiftRight_eq_div_pow, Nat.mod_eq_of_lt (by omega), Nat.mod_eq_of_lt (by omega)]

theorem shl_seven (n : Nat) (hn : n < 2 ^ 20) : Scalar.shli (BitVec.ofNat 32 n) 7#32 = BitVec.ofNat 32 (n * 128) := by
  unfold Scalar.shli IntOp.shli
  rw [if_pos (by decide)]
  apply BitVec.eq_of_toNat_eq
  rw [BitVec.shiftLeft_eq', BitVec.toNat_shiftLeft, show (7#32).toNat = 7 from rfl, BitVec.toNat_ofNat, BitVec.toNat_ofNat, Nat.shiftLeft_eq]
  omega

theorem and_fifteen (n : Nat) (hn : n < 2 ^ 31) : Scalar.andi (BitVec.ofNat 32 n) 15#32 = BitVec.ofNat 32 (n % 16) := by
  show BitVec.ofNat 32 n &&& 15#32 = _
  apply BitVec.eq_of_toNat_eq
  rw [BitVec.toNat_and, show (15#32).toNat = 2 ^ 4 - 1 from rfl, Nat.and_two_pow_sub_one_eq_mod, BitVec.toNat_ofNat, BitVec.toNat_ofNat]
  omega

theorem offset_eq (v : BitVec 32) (n : Nat) (hn : n < 100000) (hs : Affine.IsInt (safe v) n) :
    offset v = BitVec.ofNat 32 (min (n - min (n / 128 * 128) 99840) 127) := by
  have h0 : safe v = BitVec.ofNat 32 n := Affine.eq_of hs n rfl
  have hc : Affine.IsInt (Scalar.shli (Scalar.shrui (safe v) 7#32) 7#32) ((n / 128 * 128 : Nat) : Int) := by
    rw [h0, shr_nat n 7 (by omega) (by omega), shl_seven _ (by omega)]
    exact Affine.ofNat _ ⟨rfl, by omega⟩
  have h9 : Affine.IsInt (99840#32) ((99840 : Nat) : Int) := Affine.ofNat 99840 ⟨rfl, by omega⟩
  have h7 : Affine.IsInt (127#32) ((127 : Nat) : Int) := Affine.ofNat 127 ⟨rfl, by omega⟩
  have hm : Affine.IsInt (Scalar.select (Scalar.cmpi .sgt (Scalar.shli (Scalar.shrui (safe v) 7#32) 7#32) 99840#32) 99840#32 (Scalar.shli (Scalar.shrui (safe v) 7#32) 7#32))
      ((min (n / 128 * 128) 99840 : Nat) : Int) := by
    by_cases h : 99840 < n / 128 * 128
    · exact Affine.select_holds (Affine.sgt_holds hc h9 (by omega)) h9 hc (by omega)
    · exact Affine.select_fails (Affine.sgt_fails hc h9 (by omega)) h9 hc (by omega)
  have hd := Affine.subi hs hm (e := ((n - min (n / 128 * 128) 99840 : Nat) : Int)) (by omega)
  refine Affine.eq_of ?_ _ rfl
  by_cases h : 127 < n - min (n / 128 * 128) 99840
  · exact Affine.select_holds (Affine.sgt_holds hd h7 (by omega)) h7 hd (by omega)
  · exact Affine.select_fails (Affine.sgt_fails hd h7 (by omega)) h7 hd (by omega)

theorem lane_offs (v : Vec F S16 .i32) (k : Nat) (h : k < 16) : lane (offs (F := F) v) k h = offset (lane (labs (F := F) v) k h) := rfl

end Cert.Proof.Pick

end
-- ==== Proof.Target.lean ====
/-
  The logit a tile picks for a row is the row's logit at its label, for a label whose chunk holds it.
-/
module

public import proofs.«01_k».proof.Proof.Pick
public import Idealize.ShloMosaic.Lib.ValueLayout

@[expose] public section

noncomputable section

namespace Cert.Proof.Target

open Cert.KernelIdeal Cert.KernelIdeal.Gen
open Cert.Proof.Walk Cert.Proof.Setup Cert.Proof.TileSteps Cert.Proof.TileMem Cert.Proof.TileBody Cert.Proof.Tiles Cert.Proof.Range Cert.Proof.Pick
open Idealize.ShloMosaic Idealize.SL.Sem

variable {F : FTy → Type} [FloatOps F]

variable (d : Dev nD) (i : grid0.Coords)

theorem baseW_isInt : Affine.IsInt (baseW i) ((((i 1).val : Int) * 2 + (i 0).val) * 32) := by
  have h1 : (i 1).val < 16 := (i 1).isLt
  have h0 : (i 0).val < 2 := (i 0).isLt
  exact Affine.muli (Affine.addi (Affine.muli (Affine.ofNat (i 1).val ⟨rfl, by omega⟩) (Affine.ofNat 2 ⟨rfl, by omega⟩) ⟨rfl, by omega, by omega⟩)
    (Affine.ofNat (i 0).val ⟨rfl, by omega⟩) ⟨rfl, by omega, by omega⟩) (Affine.ofNat 32 ⟨rfl, by omega⟩) ⟨rfl, by omega, by omega⟩

/-- A row's lane: element `16·g + j` of the row `r % 8` of the chunk of row `r`. -/
theorem picked (f : Buf (Elt F) (chM.view.loc (thr d i))) (r : Nat) (hr : r < 32) (e : Nat) (he : e < 128) (x : S8x4096.Idx)
    (h0 : (x 0).val = r % 8) (h1 : (x 1).val = 128 * r + e) :
    pick (groupsV d i f r hr (BitVec.ofNat 32 e) 8 0 rfl zeros) (BitVec.ofNat 32 e) 15 (by omega) = f x := by
  rw [pick_upto _ _ (e % 16) (by omega) (and_fifteen e (by omega)), if_pos (by omega),
    groups_from d i f r hr _ (e / 16) (by omega) (shr_nat e 4 (by omega) (by omega)), if_pos (by omega), lane_eq]
  refine (congrArg _ (show at1 (n := 16) (e % 16) (by omega) = ValueIdx.ix1 ⟨e % 16, by omega⟩ from funext fun a => by fin_cases a; rfl)).trans ?_
  refine (ValueIdx.shapeCast_1a_a_apply _ _ _).trans ?_
  show f _ = f x
  congr 1
  funext a
  apply Fin.ext
  fin_cases a
  · show r % 8 + 1 * 0 = (x 0).val
    omega
  · show 128 * r + 16 * (e / 16) + 1 * (e % 16) = (x 1).val
    omega

/-- A chunk's element in the logits. -/
theorem chunks_at (lg : Buf (Elt F) (lgM.view.loc (thr d i))) (w : Nat → BitVec 32) (hs : ∀ r, r < 32 → chk i r (w r)) (r : Nat) (hr : r < 32)
    (x : S8x4096.Idx) (e : Nat) (he : e < 128) (h0 : (x 0).val = r % 8) (h1 : (x 1).val = 128 * r + e) (j : S1024x100000.Idx)
    (hj0 : (j 0).val = (Scalar.addi (baseW i) (BitVec.ofNat 32 (r / 8 * 8))).toNat + r % 8) (hj1 : (j 1).val = (k0_mult2 (w r)).toNat + e) :
    chunks d i lg w hs x = lg j := by
  have hrow : (rowOf x).val = r := by show (x 1).val / 128 = r; omega
  unfold chunks
  rw [View.read_apply]
  show lg _ = lg j
  congr 1
  funext a
  apply Fin.ext
  fin_cases a
  · show (Scalar.addi (baseW i) (BitVec.ofNat 32 ((rowOf x).val / 8 * 8))).toNat + 1 * (x 0).val = (j 0).val
    rw [hrow]; omega
  · show (k0_mult2 (w (rowOf x).val)).toNat + 1 * ((x 1).val % 128) = (j 1).val
    rw [hrow]; omega

theorem target_eq (lg : Buf (Elt F) (lgM.view.loc (thr d i))) (lb : Buf (Elt F) (lbM.view.loc (thr d i))) (hs : Good d i lb) (b : Nat) (hb : b ≤ 16)
    (k : Nat) (hk : k < 16) (n : Nat) (hn : n < 99968) (hw : Affine.IsInt (safe (word d i lb (b + k))) n) (j : S1024x100000.Idx)
    (hj0 : (j 0).val = ((i 1).val * 2 + (i 0).val) * 32 + (b + k)) (hj1 : (j 1).val = n) :
    targets d i lg lb hs b hb (at1 (n := 16) k hk) = lg j := by
  have hr : b + k < 32 := by omega
  have hi1 : (i 1).val < 16 := (i 1).isLt
  have hi0 : (i 0).val < 2 := (i 0).isLt
  unfold targets
  rw [rows_from, if_pos (Nat.zero_le _), lane_offs, lane_labs, offset_eq _ n (by omega) hw]
  have hx : min (n - min (n / 128 * 128) 99840) 127 = n % 128 := by omega
  rw [hx, picked d i _ (b + k) hr (n % 128) (by omega) (fun | 0 => ⟨(b + k) % 8, show _ < 8 by omega⟩ | 1 => ⟨128 * (b + k) + n % 128, show _ < 4096 by omega⟩ | ⟨_ + 2, h⟩ => absurd h (Nat.not_lt.2 (Nat.le_add_left _ _))) rfl rfl]
  refine chunks_at d i lg _ hs (b + k) hr _ (n % 128) (by omega) rfl rfl j ?_ ?_
  · have ha := Affine.toNat_of (Affine.addi (baseW_isInt i) (Affine.ofNat ((b + k) / 8 * 8) ⟨rfl, by omega⟩) ⟨rfl, by omega, by omega⟩) (by omega)
    omega
  · have hm := Affine.toNat_of (mult2_isInt _ n (by omega) hw) (by omega)
    omega

/-- One result of a tile from its target and its label. -/
def marg (t : F .f32) : F .f32 :=
  let x : F .f32 := FloatOps.maximumf (FloatOps.subf (Scalar.ofBits .f32 0x3F800000#32) (FloatOps.mulf t t)) (Scalar.ofBits .f32 0x00000000#32)
  let cos : F .f32 := FloatOps.subf (FloatOps.mulf t (Scalar.ofBits .f32 0x3F60A940#32)) (FloatOps.mulf (FloatOps.sqrt x) (Scalar.ofBits .f32 0x3EF57744#32))
  Scalar.select (FloatOps.cmpf .ogt t (Scalar.ofBits .f32 0xBF60A940#32)) cos (FloatOps.subf t (Scalar.ofBits .f32 0x3E757744#32))

theorem margin_at (t : FVec F S16 .f32) (v : Vec F S16 .i32) (k : Nat) (hk : k < 16) (hv : lane (labs (F := F) v) k hk ≠ 4294967295#32) :
    margin t v (at1 (n := 16) k hk) = FloatOps.mulf (marg (t (at1 (n := 16) k hk))) (Scalar.ofBits .f32 0x42800000#32) := by
  unfold margin
  rw [shapeCast_self]
  show FloatOps.mulf (Scalar.select (Scalar.cmpi .ne (labs (F := F) v (at1 (n := 16) k hk)) 4294967295#32) _ _) _ = _
  rw [← lane_eq (labs (F := F) v) k hk]
  rw [show ∀ x y : F .f32, Scalar.select (Scalar.cmpi .ne (lane (labs (F := F) v) k hk) 4294967295#32) x y = x from
    fun x y => if_pos (IntOp.cmpi_ne.mpr hv)]
  rfl

variable (m : (ℓ : Loc nD τ sig) → Buf (Elt F) ℓ) (hok : Ok m)

/-- What the SparseCore call leaves for a row whose label is a column before the last 32. -/
theorem scOut_eq (n : S1024.Idx) (l : Nat) (hl : l < 99968) (hw : m (lbLoc d) n = BitVec.ofNat 32 l) (j : S1024x100000.Idx)
    (hj0 : (j 0).val = (n 0).val) (hj1 : (j 1).val = l) :
    scOut m hok d n = FloatOps.mulf (marg (m (lgLoc d) j)) (Scalar.ofBits .f32 0x42800000#32) := by
  have hn0 : (n 0).val < 1024 := (n 0).isLt
  have hword : word d (tileAt (owner n)) (m (lbLoc d)) ((n 0).val % 32) = BitVec.ofNat 32 l := by
    rw [← hw]
    unfold word
    rw [dif_pos (Nat.mod_lt _ (by decide))]
    unfold labels
    rw [View.read_apply]
    show m (lbLoc d) _ = m (lbLoc d) n
    congr 1
    funext a
    apply Fin.ext
    fin_cases a
    show (k0_off1 (tileAt (owner n))) 0 + 1 * ((n 0).val % 32) = (n 0).val
    rw [off1_tile]
    show 32 * ((n 0).val / 32) + 1 * ((n 0).val % 32) = (n 0).val
    omega
  have hne : BitVec.ofNat 32 l ≠ 4294967295#32 := fun h => by
    have := congrArg BitVec.toNat h
    rw [BitVec.toNat_ofNat] at this
    have h2 : (4294967295#32 : BitVec 32).toNat = 4294967295 := rfl
    omega
  have hsafe : Affine.IsInt (safe (BitVec.ofNat 32 l)) l := by
    unfold safe
    rw [show Scalar.select (Scalar.cmpi .ne (BitVec.ofNat 32 l) 4294967295#32) (BitVec.ofNat 32 l) 0#32 = BitVec.ofNat 32 l from if_pos (IntOp.cmpi_ne.mpr hne)]
    exact Affine.ofNat l ⟨rfl, by omega⟩
  have hrow : ((tileAt (owner n)) 1).val * 2 + ((tileAt (owner n)) 0).val = (n 0).val / 32 := by
    show (n 0).val / 32 / 2 * 2 + (n 0).val / 32 % 2 = (n 0).val / 32
    omega
  have key : ∀ (b : Nat) (hb : b ≤ 16) (k : Nat) (hk : k < 16), b + k = (n 0).val % 32 →
      margin (targets d (tileAt (owner n)) (m (lgLoc d)) (m (lbLoc d)) (hok d (owner n)) b hb) (halfLabels d (tileAt (owner n)) (m (lbLoc d)) b hb) (at1 (n := 16) k hk)
        = FloatOps.mulf (marg (m (lgLoc d) j)) (Scalar.ofBits .f32 0x42800000#32) := by
    intro b hb k hk hbk
    rw [margin_at _ _ k hk (by rw [lane_labs, hbk, hword]; exact hne),
      target_eq d (tileAt (owner n)) (m (lgLoc d)) (m (lbLoc d)) (hok d (owner n)) b hb k hk l hl (by rw [hbk, hword]; exact hsafe) j (by rw [hrow]; omega) hj1]
  unfold scOut tileOut
  by_cases h : (n 0).val % 32 < 16
  · rw [dif_pos (show (at1 (n := 32) ((n 0).val % 32) (Nat.mod_lt _ (by decide)) 0).val < 16 from h)]
    exact key 0 _ ((n 0).val % 32) h (by omega)
  · rw [dif_neg (show ¬(at1 (n := 32) ((n 0).val % 32) (Nat.mod_lt _ (by decide)) 0).val < 16 from h)]
    exact key 16 _ ((n 0).val % 32 - 16) (by omega) (by omega)

end Cert.Proof.Target

end
-- ==== Proof.KernelValue.lean ====
/-
  The program's result, element by element: a logit at its row's label with the margin and the scale, any other logit
  with the scale alone.
-/
module

public import proofs.«01_k».proof.Proof.Target
public import proofs.«01_k».proof.Proof.Launch
public import Idealize.ShloMosaic.Lib.ValueLayoutCasts
public import Idealize.ShloMosaic.Lib.Pipeline.ValueKit

@[expose] public section

noncomputable section

namespace Cert.Proof.KernelValue

open Cert.KernelIdeal Cert.KernelIdeal.Gen
open Cert.Proof.Setup Cert.Proof.Tiles Cert.Proof.TileBody Cert.Proof.Target Cert.Proof.Block Cert.Proof.Region Cert.Proof.Launch
open Idealize.ShloMosaic Idealize.SL.Sem
open Idealize.ShloMosaic.TcCoe
open Idealize.ShloMosaic.Pipeline (Dat)
open Idealize.ShloMosaic.ValueIdx (shapeCast_a_a1_apply)

variable {F : FTy → Type} [FloatOps F]

/-- The scale, 64. -/
abbrev scale : F .f32 := Scalar.ofBits .f32 0x42800000#32

/-- The row of an element, as an index of the labels. -/
def rowIx (j : S1024x100000.Idx) : S1024.Idx := at1 (n := 1024) (j 0).val (j 0).isLt

/-- The result, from the logits and the labels. -/
def scaled (x : FVec F S1024x100000 .f32) (l : IVec S1024 32) : FVec F S1024x100000 .f32 := fun j =>
  if BitVec.ofNat 32 (j 1).val = l (rowIx j) then FloatOps.mulf (marg (x j)) scale else FloatOps.mulf (x j) scale

/-- The row of a block's element, as an index of a column. -/
def rowOf16 (j : S16x100000.Idx) : S16x1.Idx := ValueIdx.ix2 (⟨(j 0).val, (j 0).isLt⟩ : Fin 16) (0 : Fin 1)

theorem select_eq {α : Type} (a b : BitVec 32) (x y : α) : Scalar.select (IntOp.cmpi .eq a b) x y = if a = b then x else y := by
  unfold Scalar.select
  by_cases h : a = b
  · rw [if_pos h]; exact if_pos (IntOp.cmpi_eq.mpr h)
  · rw [if_neg h]; exact if_neg fun e => h (IntOp.cmpi_eq.mp e)

theorem iota_cols (j : S16x100000.Idx) : iota .tc S16x100000 32 [1] iota_S16x100000_d1_w32 j = BitVec.ofNat 32 (j 1).val := by
  show BitVec.ofNat 32 (0 * 100000 + (j 1).val) = _
  rw [Nat.zero_mul, Nat.zero_add]

/-- A column spread over a block's columns. -/
theorem spread {α : Type} (l : S16x1.Idx → α) (j : S16x100000.Idx) : broadcastTo S16x100000 l broadcasts_S16x1_S16x100000 j = l (rowOf16 j) := by
  unfold broadcastTo
  congr 1
  funext a
  apply Fin.ext
  fin_cases a
  · rfl
  · rfl

theorem spread_tail {α : Type} (l : S16x1.Idx → α) (j : S16x100000.Idx) (h : 99968 ≤ (j 1).val) :
    broadcastTo S16x32 l broadcasts_S16x1_S16x32 (tail j h) = l (rowOf16 j) := by
  unfold broadcastTo
  congr 1
  funext a
  apply Fin.ext
  fin_cases a
  · rfl
  · rfl

/-- The last columns of a block, taken out and read back. -/
theorem sliced {α : Type} (x : S16x100000.Idx → α) (j : S16x100000.Idx) (h : 99968 ≤ (j 1).val) :
    extractStridedSlice S16x32 ![0, 99968] x slices_S16x100000_o0_99968_S16x32 (tail j h) = x j := by
  show x _ = x j
  congr 1
  funext a
  apply Fin.ext
  fin_cases a
  · show 0 + (j 0).val = (j 0).val; omega
  · show 99968 + ((j 1).val - 99968) = (j 1).val; omega

theorem pay2_at (x : Vec F S16x100000 .f32) (l : Vec F S16x1 .i32) (v : Vec F S16x1 .f32) (j : S16x100000.Idx) :
    k1_pay2 x l v j = if BitVec.ofNat 32 (j 1).val = l (rowOf16 j) then v (rowOf16 j) else FloatOps.mulf (x j) scale := by
  unfold k1_pay2 k1_pay1
  simp only [shapeCast_self]
  show Scalar.select (IntOp.cmpi .eq (iota .tc S16x100000 32 [1] iota_S16x100000_d1_w32 j) (broadcastTo S16x100000 l broadcasts_S16x1_S16x100000 j))
    (broadcastTo S16x100000 v broadcasts_S16x1_S16x100000 j) (FloatOps.mulf (x j) scale) = _
  rw [iota_cols, spread, spread, select_eq]

theorem pay3_at (x : Vec F S16x100000 .f32) (l : Vec F S16x1 .i32) (j : S16x100000.Idx) (h : 99968 ≤ (j 1).val) :
    k1_pay3 x l (tail j h) = if BitVec.ofNat 32 (j 1).val = l (rowOf16 j) then FloatOps.mulf (marg (x j)) scale else FloatOps.mulf (x j) scale := by
  unfold k1_pay3 k1_pay1
  simp only [shapeCast_self]
  show Scalar.select (IntOp.cmpi .eq (extractStridedSlice S16x32 ![0, 99968] (iota .tc S16x100000 32 [1] iota_S16x100000_d1_w32) slices_S16x100000_o0_99968_S16x32 (tail j h))
      (broadcastTo S16x32 l broadcasts_S16x1_S16x32 (tail j h)))
    (FloatOps.mulf (marg (extractStridedSlice S16x32 ![0, 99968] x slices_S16x100000_o0_99968_S16x32 (tail j h))) scale)
    (FloatOps.mulf (extractStridedSlice S16x32 ![0, 99968] x slices_S16x100000_o0_99968_S16x32 (tail j h)) scale) = _
  rw [sliced, sliced, iota_cols, spread_tail, select_eq]

/-- The stored block, element by element. -/
theorem blockOut_at (x : Vec F S16x100000 .f32) (l : Vec F S16x1 .i32) (v : Vec F S16x1 .f32) (j : S16x100000.Idx)
    (hv : (j 1).val < 99968 → BitVec.ofNat 32 (j 1).val = l (rowOf16 j) → v (rowOf16 j) = FloatOps.mulf (marg (x j)) scale) :
    blockOut x l v j = if BitVec.ofNat 32 (j 1).val = l (rowOf16 j) then FloatOps.mulf (marg (x j)) scale else FloatOps.mulf (x j) scale := by
  unfold blockOut
  by_cases h : 99968 ≤ (j 1).val
  · rw [dif_pos h, pay3_at]
  · rw [dif_neg h, pay2_at]
    by_cases e : BitVec.ofNat 32 (j 1).val = l (rowOf16 j)
    · rw [if_pos e, if_pos e]; exact hv (by omega) e
    · rw [if_neg e, if_neg e]

variable (m : (ℓ : Loc nD τ sig) → Buf (Elt F) ℓ) (hok : Ok m)

theorem V2_v2 (d : Dev nD) : V2 m hok d (Proc.devRef .tc main_v2) = shapeCast S1024x1 (scOut m hok d) shapeCasts_S1024_S1024x1 := by
  refine (StableHlo.reshape_result main_v0 main_v2 _ _ _ _ _).trans ?_
  rw [StableHlo.reshape_result_ne _ _ _ _ _ _ _ (show main_v0 ≠ main_v1 by decide), V1_v0]
  rfl

theorem V2_v1 (d : Dev nD) : V2 m hok d (Proc.devRef .tc main_v1) = shapeCast S1024x1 (m (lbLoc d)) shapeCasts_S1024_S1024x1 := by
  refine (StableHlo.reshape_result_ne _ _ _ _ _ _ _ (show main_v1 ≠ main_v2 by decide)).trans ?_
  refine (StableHlo.reshape_result main_arg2 main_v1 _ _ _ _ _).trans ?_
  rw [V1_ne m hok d main_arg2 (by decide)]
  rfl

theorem ix : ∀ t : Fin cfg1.N, win1_0.index t = ![t.val, 0] ∧ win1_1.index t = ![t.val, 0] ∧ win1_2.index t = ![t.val, 0] ∧ win1_3.index t = ![t.val, 0] :=
  (by decide +kernel : ∀ t : Fin grid1.N, _)

/-- The element of the logits under a block's element. -/
abbrev under (t : Fin cfg1.N) (y : S16x100000.Idx) : S1024x100000.Idx := (win1_3.blk t).view.emb y

theorem under_0 (t : Fin cfg1.N) (y : S16x100000.Idx) : (under t y 0).val = t.val * 16 + (y 0).val := by
  unfold under
  blk_simp [ix t]

theorem under_1 (t : Fin cfg1.N) (y : S16x100000.Idx) : (under t y 1).val = (y 1).val := by
  unfold under
  blk_simp [ix t]

theorem inLg_at (d : Dev nD) (t : Fin cfg1.N) (y : S16x100000.Idx) : inLg (V2 m hok) d t y = m (lgLoc d) (under t y) := by
  unfold inLg
  rw [View.read_apply]
  show V2 m hok d (Proc.devRef .tc main_arg0) _ = _
  rw [V2_ne m hok d main_arg0 (by decide) (by decide) (by decide)]
  rfl

/-- A block of a column made of a vector reads the vector at the block's row. -/
theorem col_at {α : Type} (f : S1024.Idx → α) (t : Fin cfg1.N) (y : S16x100000.Idx) (z : S1024x1.Idx) (h0 : (z 0).val = t.val * 16 + (y 0).val) :
    shapeCast S1024x1 f shapeCasts_S1024_S1024x1 z = f (rowIx (under t y)) := by
  have hz : z = ValueIdx.ix2 (⟨(z 0).val, (z 0).isLt⟩ : Fin 1024) (⟨(z 1).val, (z 1).isLt⟩ : Fin 1) := by
    funext a; fin_cases a <;> rfl
  refine (congrArg _ hz).trans ((shapeCast_a_a1_apply f shapeCasts_S1024_S1024x1 _ _).trans ?_)
  congr 1
  funext a
  apply Fin.ext
  fin_cases a
  show (z 0).val = (under t y 0).val
  rw [under_0, h0]

theorem inLb_at (d : Dev nD) (t : Fin cfg1.N) (y : S16x100000.Idx) : inLb (V2 m hok) d t (rowOf16 y) = m (lbLoc d) (rowIx (under t y)) := by
  unfold inLb
  rw [View.read_apply]
  show V2 m hok d (Proc.devRef .tc main_v1) ((win1_1.blk t).view.emb (rowOf16 y)) = _
  rw [V2_v1]
  refine col_at _ t y _ ?_
  blk_simp [ix t]
  rfl

theorem inSc_at (d : Dev nD) (t : Fin cfg1.N) (y : S16x100000.Idx) : inSc (V2 m hok) d t (rowOf16 y) = scOut m hok d (rowIx (under t y)) := by
  unfold inSc
  rw [View.read_apply]
  show V2 m hok d (Proc.devRef .tc main_v2) ((win1_2.blk t).view.emb (rowOf16 y)) = _
  rw [V2_v2]
  refine col_at _ t y _ ?_
  blk_simp [ix t]
  rfl

/-- The program's result. -/
theorem result_eq (d : Dev nD) : result m hok d = scaled (m (lgLoc d)) (m (lbLoc d)) := by
  unfold result
  refine (dats (V2 m hok) 0 d).arrAt_eq_of_covers 3 _ (by decide +kernel) fun t _ y => ?_
  blk_simp
  show blockOut (inLg (V2 m hok) d t) (inLb (V2 m hok) d t) (inSc (V2 m hok) d t) y = scaled (m (lgLoc d)) (m (lbLoc d)) (under t y)
  have h1 := under_1 t y
  rw [blockOut_at]
  · rw [inLg_at, inLb_at]
    unfold scaled
    rw [h1]
  · intro hlt he
    rw [inLb_at] at he
    rw [inSc_at, inLg_at]
    exact scOut_eq d m hok (rowIx (under t y)) (y 1).val hlt he.symm (under t y) rfl h1

end Cert.Proof.KernelValue

end
-- ==== Proof.RefValue.lean ====
/-
  The reference's result, element by element, for labels in range: a logit at its row's label with the margin and the
  scale, any other logit with the scale alone.
-/
module

public import proofs.«01_k».proof.Proof.RefIndex
public import proofs.«01_k».proof.Proof.KernelValue
public import proofs.«01_k».proof.Proof.Gen.ReferenceIdeal.Run

@[expose] public section

noncomputable section

namespace Cert.Proof.RefValue

open Cert.ReferenceIdeal Cert.ReferenceIdeal.Gen
open Cert.Proof.RefIndex
open Cert.Proof.Range (Label safe safe_isInt)
open Cert.Proof.KernelValue (rowIx scale)
open Idealize.ShloMosaic Idealize.SL.Sem
open Idealize.ShloMosaic.TcCoe

variable {F : FTy → Type} [FloatOps F]

/-- The reference's margin of one target logit. -/
def refMarg (t : F .f32) : F .f32 :=
  Scalar.select (FloatOps.cmpf .ogt t (Scalar.ofBits .f32 0xBF60A940#32))
    (FloatOps.subf (FloatOps.mulf t (Scalar.ofBits .f32 0x3F60A940#32))
      (FloatOps.mulf (FloatOps.hostUnary .sqrt (FloatOps.subf (Scalar.ofBits .f32 0x3F800000#32) (FloatOps.mulf t t))) (Scalar.ofBits .f32 0x3EF57744#32)))
    (FloatOps.subf t (Scalar.ofBits .f32 0x3E757744#32))

/-- The result, from the logits and the labels. -/
def refScaled (x : FVec F S1024x100000 .f32) (l : IVec S1024 32) : FVec F S1024x100000 .f32 := fun j =>
  if BitVec.ofNat 32 (j 1).val = l (rowIx j) then FloatOps.mulf (refMarg (x j)) scale else FloatOps.mulf (x j) scale

/-- The target logits. -/
def gathered (x : FVec F S1024x100000 .f32) (l : IVec S1024 32) : FVec F S1024 .f32 :=
  Host.gather gather_S1024x100000_S1024x2_S1024_n_01_n_n_01_1_11 x (pairs l)

/-- What is written back. -/
def updates (x : FVec F S1024x100000 .f32) (l : IVec S1024 32) : FVec F S1024 .f32 := fun k =>
  Scalar.select (Scalar.cmpi .ne (l k) 4294967295#32) (refMarg (gathered x l k)) (gathered x l k)

theorem result_shape (m : (ℓ : Loc nD τ sig) → Buf (Elt F) ℓ) (c : Dev nD) :
    Value.res_main_v48 m c = fun j => FloatOps.mulf
      (Host.scatter scatter_S1024x100000_S1024x2_S1024_n_01_01_1 (fun _ b => b) (m ((c.tc : Thread nD τ).loc main_arg0))
        (pairs (m ((c.tc : Thread nD τ).loc main_arg2))) (updates (m ((c.tc : Thread nD τ).loc main_arg0)) (m ((c.tc : Thread nD τ).loc main_arg2))) j) scale := rfl

theorem row_unique (k : S1024.Idx) (j : S1024x100000.Idx) (h : (k 0).val = (j 0).val) : k = rowIx j := by
  funext a
  apply Fin.ext
  fin_cases a
  exact h

theorem scattered (x : FVec F S1024x100000 .f32) (l : IVec S1024 32) (hl : ∀ n, Label (l n)) (j : S1024x100000.Idx) :
    Host.scatter scatter_S1024x100000_S1024x2_S1024_n_01_01_1 (fun _ b => b) x (pairs l) (updates x l) j
      = if BitVec.ofNat 32 (j 1).val = l (rowIx j) then refMarg (x j) else x j := by
  have hj : (j 1).val < 100000 := (j 1).isLt
  obtain ⟨n, hn, hs, hv⟩ := safe_isInt _ (hl (rowIx j))
  have hsn := toInt_of_isInt hs
  have ej : (BitVec.ofNat 32 (j 1).val).toInt = ((j 1).val : Int) := toInt_of_isInt (Affine.ofNat (j 1).val (e := ((j 1).val : Int)) ⟨rfl, by omega⟩)
  by_cases h : (safe (l (rowIx j))).toInt = ((j 1).val : Int)
  · rw [Routing.scatter_set_hit _ x (pairs l) (updates x l) j (updates x l (rowIx j))
      (fun k hk => by rw [row_unique k j ((lands l k (hl k) j).mp hk).1]) (rowIx j) ((lands l (rowIx j) (hl _) j).mpr ⟨rfl, h⟩)]
    unfold updates gathered
    rw [gather_apply x l (rowIx j) (hl _) j rfl h]
    by_cases hm : l (rowIx j) = 4294967295#32
    · have hne : ¬ BitVec.ofNat 32 (j 1).val = l (rowIx j) := fun e => by
        rw [e, hm] at ej
        have : (4294967295#32).toInt = -1 := by decide
        omega
      rw [if_neg hne]
      exact if_neg fun e => IntOp.cmpi_ne.mp e hm
    · rw [if_pos (BitVec.eq_of_toInt_eq (by rw [ej, hv hm]; omega))]
      exact if_pos (IntOp.cmpi_ne.mpr hm)
  · rw [Routing.scatter_set_miss _ x (pairs l) (updates x l) j (fun k hk => by
      have e := (lands l k (hl k) j).mp hk
      rw [row_unique k j e.1] at e
      exact h e.2)]
    refine (if_neg fun e => h ?_).symm
    have hm : l (rowIx j) ≠ 4294967295#32 := fun hm => by
      rw [e, hm] at ej
      have : (4294967295#32).toInt = -1 := by decide
      omega
    have := hv hm
    rw [← e, ej] at this
    rw [hsn, this]

theorem reference_eq (m : (ℓ : Loc nD τ sig) → Buf (Elt F) ℓ) (c : Dev nD) (hl : ∀ n, Label (m ((c.tc : Thread nD τ).loc main_arg2) n)) :
    Value.res_main_v48 m c = refScaled (m ((c.tc : Thread nD τ).loc main_arg0)) (m ((c.tc : Thread nD τ).loc main_arg2)) := by
  rw [result_shape]
  funext j
  show FloatOps.mulf (Host.scatter _ _ _ _ _ j) scale = _
  rw [scattered _ _ hl j]
  unfold refScaled
  split <;> rfl

end Cert.Proof.RefValue

end
-- ==== Proof.Equation.lean ====
/-
  The two margins agree over the reals on a logit of at most 1. Where the target exceeds the threshold (about −0.88) it
  lies between −1 and 1, so 1 minus its square is not negative and the kernel's maximum with 0 is that number. Elsewhere
  neither takes the root.
-/
module

public import proofs.«01_k».proof.Proof.RefValue
public import Idealize.ShloMosaic.PureOps.Ideal

@[expose] public section

noncomputable section

namespace Cert.Proof.Equation

open Cert.Proof.Target (marg)
open Cert.Proof.RefValue (refMarg refScaled)
open Cert.Proof.KernelValue (scaled)
open Idealize.ShloMosaic Idealize.SL.Sem

theorem one_eq : (Ideal.ofBits .f32 0x3F800000#32 : EReal) = 1 := by
  simp [Ideal.ofBits, Ideal.ieee, -EReal.coe_mul]; norm_num

theorem zero_eq : (Ideal.ofBits .f32 0x00000000#32 : EReal) = 0 := by
  simp [Ideal.ofBits, Ideal.ieee]

theorem threshold_ge : (-1 : EReal) ≤ Ideal.ofBits .f32 0xBF60A940#32 := by
  have e : Ideal.ofBits .f32 0xBF60A940#32 = ((-(14723392 / 16777216) : ℝ) : EReal) := by
    simp [Ideal.ofBits, Ideal.ieee, -EReal.coe_mul, -EReal.coe_neg,]; norm_num
  have h : (-1 : EReal) = ((-1 : ℝ) : EReal) := by simp
  rw [e, h, EReal.coe_le_coe_iff]
  norm_num

/-- 1 minus the square of a number between −1 and 1 is not negative. -/
theorem max_square (t : EReal) (h1 : t ≤ 1) (h2 : -1 < t) : max (1 - t * t) 0 = 1 - t * t := by
  induction t with
  | bot => exact absurd h2 (by simp)
  | top => exact absurd (top_le_iff.mp h1) (EReal.coe_ne_top 1)
  | coe r =>
    have r1 : r ≤ 1 := by exact_mod_cast h1
    have r2 : -1 < r := by
      have h : (-1 : EReal) = ((-1 : ℝ) : EReal) := by simp
      rw [h] at h2
      exact_mod_cast h2
    have e : (1 : EReal) - (r : EReal) * (r : EReal) = ((1 - r * r : ℝ) : EReal) := by push_cast; rfl
    rw [e]
    refine max_eq_left ?_
    have : (0 : ℝ) ≤ 1 - r * r := by nlinarith
    exact_mod_cast this

theorem marg_eq (t : Ideal .f32) (h : FloatOps.cmpf .ole t (Scalar.ofBits .f32 0x3F800000#32) = 1#1) : marg t = refMarg t := by
  have h1 : (t : EReal) ≤ 1 := by
    rw [← one_eq]
    by_contra hc
    have : FloatOps.cmpf .ole t (Scalar.ofBits .f32 0x3F800000#32) = 0#1 := by
      exact congrArg BitVec.ofBool (decide_eq_false hc)
    rw [this] at h
    exact absurd h (by decide)
  unfold marg refMarg Scalar.select
  dsimp only
  by_cases hc : FloatOps.cmpf .ogt t (Scalar.ofBits .f32 0xBF60A940#32) = 1
  · rw [if_pos hc, if_pos hc]
    have h2 : (-1 : EReal) < t := by
      refine lt_of_le_of_lt threshold_ge ?_
      by_contra hn
      have : FloatOps.cmpf .ogt t (Scalar.ofBits .f32 0xBF60A940#32) = 0#1 := by
        exact congrArg BitVec.ofBool (decide_eq_false hn)
      rw [this] at hc
      exact absurd hc (by decide)
    have e : FloatOps.maximumf (FloatOps.subf (Scalar.ofBits .f32 0x3F800000#32) (FloatOps.mulf t t)) (Scalar.ofBits .f32 0x00000000#32)
        = FloatOps.subf (Scalar.ofBits .f32 0x3F800000#32) (FloatOps.mulf t t) := by
      show max (Ideal.ofBits .f32 0x3F800000#32 - (t : EReal) * t) (Ideal.ofBits .f32 0x00000000#32) = Ideal.ofBits .f32 0x3F800000#32 - (t : EReal) * t
      rw [one_eq, zero_eq]
      exact max_square t h1 h2
    rw [e]
    rfl
  · rw [if_neg hc, if_neg hc]

theorem scaled_eq (x : FVec Ideal Cert.KernelIdeal.S1024x100000 .f32) (l : IVec Cert.KernelIdeal.S1024 32)
    (h : ∀ j, FloatOps.cmpf .ole (x j) (Scalar.ofBits .f32 0x3F800000#32) = 1#1) : scaled x l = refScaled x l := by
  funext j
  unfold scaled refScaled
  rw [marg_eq (x j) (h j)]

end Cert.Proof.Equation

end
-- ==== Proof.Algebraic.lean ====
/-
  The value claim: over the reals, for labels in range and logits of at most 1, the kernel and the reference leave the
  same result.
-/
module

public import proofs.«01_k».proof.Defs
public import proofs.«01_k».proof.Proof.Launch
public import proofs.«01_k».proof.Proof.Equation

@[expose] public section

noncomputable section

namespace Cert.Proof.Algebraic

open Idealize.ShloMosaic Idealize.SL.Sem
open Cert.Proof.Range Cert.Proof.Launch
open Cert.Proof.KernelValue (scaled result_eq)
open Cert.Proof.RefValue (reference_eq)
open Cert.Proof.Equation (scaled_eq)

theorem algebraic : Cert.algebraic_KernelIdeal_ReferenceIdeal_pre_cosines := by
  intro m g m' g' hp hargs
  have hl : ∀ (d : Dev Cert.KernelIdeal.nD) (n : Cert.KernelIdeal.S1024.Idx), Label (m (Cert.Proof.Setup.lbLoc d) n) :=
    fun d => labels_of_cosines _ _ _ (hp d)
  refine ⟨fun c => scaled (F := Ideal) (m (Cert.Proof.Setup.lgLoc c)) (m (Cert.Proof.Setup.lbLoc c)), ?_, ?_⟩
  · refine (θ_run Cert.KernelIdeal.defs _ _).mono (fun r q c => ?_) (run_main m g (ok_of_labels m hl))
    obtain ⟨h0, h1, h2, h3⟩ := q.1 c
    exact ⟨h3.trans (result_eq m _ c), h0, h1, h2⟩
  · refine (θ_run Cert.ReferenceIdeal.defs _ _).mono (fun r q c => ?_) (Cert.ReferenceIdeal.Value.run (F := Ideal) m' g')
    obtain ⟨h, h0, h1, h2⟩ := q c
    refine ⟨h.trans ?_, h0, h1, h2⟩
    obtain ⟨a0, -, a2⟩ := hargs c
    rw [reference_eq m' c (fun n => by rw [a2]; exact hl c n), a0, a2]
    exact (scaled_eq _ _ fun j => le_of_cosines (F := Ideal) (m (Cert.Proof.Setup.lgLoc c)) _ (m (Cert.Proof.Setup.lbLoc c)) (hp c) j).symm

end Cert.Proof.Algebraic

end
-- ==== Proof.lean ====
/-
  The claims, from the modules under Proof/: the tile's program as loops (`Walk`, `WalkEq`), its run (`TileSteps`, `TileMem`,
  `TileBody`), the tiles together (`Tiles`), the TensorCore's pipeline (`Block`, `Region`), the whole program (`Launch`),
  labels in range (`Range`), and the frames (`Frames`). For the values: what a tile picks (`Pick`, `Target`), the kernel's
  result (`KernelValue`), the reference's (`RefIndex`, `RefValue`), the two margins (`Equation`), the claim (`Algebraic`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_label_range
public import proofs.«01_k».proof.Proof.Gen.Pre_cosines
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_label_range.Gen.facts, Cert.Pre_cosines.Gen.facts,
    Frames.frame_kernel, Frames.frame_ideal, Frames.frame_ideal_cosines, Frames.frame_reference, Frames.frame_reference_cosines, trivial,
    Algebraic.algebraic⟩

end Cert.Proof

end
